-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7)
      ∧ r.2.mem ((c.tc : Thread Cert.LastReferenceIdeal.nD Cert.LastReferenceIdeal.τ).loc Cert.LastReferenceIdeal.main_arg8) = m ((c.tc : Thread Cert.LastReferenceIdeal.nD Cert.LastReferenceIdeal.τ).loc Cert.LastReferenceIdeal.main_arg8)
      ∧ r.2.mem ((c.tc : Thread Cert.LastReferenceIdeal.nD Cert.LastReferenceIdeal.τ).loc Cert.LastReferenceIdeal.main_arg9) = m ((c.tc : Thread Cert.LastReferenceIdeal.nD Cert.LastReferenceIdeal.τ).loc Cert.LastReferenceIdeal.main_arg9))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v11)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v11) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v40) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v116)) (v1 : (c : Dev Cert.ProjIdeal.nD) → Buf (Elt Ideal) ((c.tc : Thread Cert.ProjIdeal.nD Cert.ProjIdeal.τ).loc Cert.ProjIdeal.main_v117)) (v2 : (c : Dev Cert.ProjIdeal.nD) → Buf (Elt Ideal) ((c.tc : Thread Cert.ProjIdeal.nD Cert.ProjIdeal.τ).loc Cert.ProjIdeal.main_v118)) (v3 : (c : Dev Cert.ProjIdeal.nD) → Buf (Elt Ideal) ((c.tc : Thread Cert.ProjIdeal.nD Cert.ProjIdeal.τ).loc Cert.ProjIdeal.main_v115)) (v4 : (c : Dev Cert.ProjIdeal.nD) → Buf (Elt Ideal) ((c.tc : Thread Cert.ProjIdeal.nD Cert.ProjIdeal.τ).loc Cert.ProjIdeal.main_v120)) (v5 : (c : Dev Cert.ProjIdeal.nD) → Buf (Elt Ideal) ((c.tc : Thread Cert.ProjIdeal.nD Cert.ProjIdeal.τ).loc Cert.ProjIdeal.main_v122)) (v6 : (c : Dev Cert.ProjIdeal.nD) → Buf (Elt Ideal) ((c.tc : Thread Cert.ProjIdeal.nD Cert.ProjIdeal.τ).loc Cert.ProjIdeal.main_v123)) (v7 : (c : Dev Cert.ProjIdeal.nD) → Buf (Elt Ideal) ((c.tc : Thread Cert.ProjIdeal.nD Cert.ProjIdeal.τ).loc Cert.ProjIdeal.main_v124)) (v8 : (c : Dev Cert.ProjIdeal.nD) → Buf (Elt Ideal) ((c.tc : Thread Cert.ProjIdeal.nD Cert.ProjIdeal.τ).loc Cert.ProjIdeal.main_v125)) (v9 : (c : Dev Cert.ProjIdeal.nD) → Buf (Elt Ideal) ((c.tc : Thread Cert.ProjIdeal.nD Cert.ProjIdeal.τ).loc Cert.ProjIdeal.main_v126)) (v10 : (c : Dev Cert.ProjIdeal.nD) → Buf (Elt Ideal) ((c.tc : Thread Cert.ProjIdeal.nD Cert.ProjIdeal.τ).loc Cert.ProjIdeal.main_v127)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v116) = v0 c
          ∧ r.2.mem ((c.tc : Thread Cert.ProjIdeal.nD Cert.ProjIdeal.τ).loc Cert.ProjIdeal.main_v117) = v1 c
          ∧ r.2.mem ((c.tc : Thread Cert.ProjIdeal.nD Cert.ProjIdeal.τ).loc Cert.ProjIdeal.main_v118) = v2 c
          ∧ r.2.mem ((c.tc : Thread Cert.ProjIdeal.nD Cert.ProjIdeal.τ).loc Cert.ProjIdeal.main_v115) = v3 c
          ∧ r.2.mem ((c.tc : Thread Cert.ProjIdeal.nD Cert.ProjIdeal.τ).loc Cert.ProjIdeal.main_v120) = v4 c
          ∧ r.2.mem ((c.tc : Thread Cert.ProjIdeal.nD Cert.ProjIdeal.τ).loc Cert.ProjIdeal.main_v122) = v5 c
          ∧ r.2.mem ((c.tc : Thread Cert.ProjIdeal.nD Cert.ProjIdeal.τ).loc Cert.ProjIdeal.main_v123) = v6 c
          ∧ r.2.mem ((c.tc : Thread Cert.ProjIdeal.nD Cert.ProjIdeal.τ).loc Cert.ProjIdeal.main_v124) = v7 c
          ∧ r.2.mem ((c.tc : Thread Cert.ProjIdeal.nD Cert.ProjIdeal.τ).loc Cert.ProjIdeal.main_v125) = v8 c
          ∧ r.2.mem ((c.tc : Thread Cert.ProjIdeal.nD Cert.ProjIdeal.τ).loc Cert.ProjIdeal.main_v126) = v9 c
          ∧ r.2.mem ((c.tc : Thread Cert.ProjIdeal.nD Cert.ProjIdeal.τ).loc Cert.ProjIdeal.main_v127) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v89) = v0 c
          ∧ r.2.mem ((c.tc : Thread Cert.ProjReferenceIdeal.nD Cert.ProjReferenceIdeal.τ).loc Cert.ProjReferenceIdeal.main_v90) = v1 c
          ∧ r.2.mem ((c.tc : Thread Cert.ProjReferenceIdeal.nD Cert.ProjReferenceIdeal.τ).loc Cert.ProjReferenceIdeal.main_v155) = v2 c
          ∧ r.2.mem ((c.tc : Thread Cert.ProjReferenceIdeal.nD Cert.ProjReferenceIdeal.τ).loc Cert.ProjReferenceIdeal.main_v160) = v3 c
          ∧ r.2.mem ((c.tc : Thread Cert.ProjReferenceIdeal.nD Cert.ProjReferenceIdeal.τ).loc Cert.ProjReferenceIdeal.main_v319) = v4 c
          ∧ r.2.mem ((c.tc : Thread Cert.ProjReferenceIdeal.nD Cert.ProjReferenceIdeal.τ).loc Cert.ProjReferenceIdeal.main_v320) = v5 c
          ∧ r.2.mem ((c.tc : Thread Cert.ProjReferenceIdeal.nD Cert.ProjReferenceIdeal.τ).loc Cert.ProjReferenceIdeal.main_v157) = v6 c
          ∧ r.2.mem ((c.tc : Thread Cert.ProjReferenceIdeal.nD Cert.ProjReferenceIdeal.τ).loc Cert.ProjReferenceIdeal.main_v250) = v7 c
          ∧ r.2.mem ((c.tc : Thread Cert.ProjReferenceIdeal.nD Cert.ProjReferenceIdeal.τ).loc Cert.ProjReferenceIdeal.main_v251) = v8 c
          ∧ r.2.mem ((c.tc : Thread Cert.ProjReferenceIdeal.nD Cert.ProjReferenceIdeal.τ).loc Cert.ProjReferenceIdeal.main_v316) = v9 c
          ∧ r.2.mem ((c.tc : Thread Cert.ProjReferenceIdeal.nD Cert.ProjReferenceIdeal.τ).loc Cert.ProjReferenceIdeal.main_v182) = v10 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)
      ∧ m' ((c.tc : Thread Cert.LastReferenceIdeal.nD Cert.LastReferenceIdeal.τ).loc Cert.LastReferenceIdeal.main_arg7) = m ((c.tc : Thread Cert.LastIdeal.nD Cert.LastIdeal.τ).loc Cert.LastIdeal.main_arg7)
      ∧ m' ((c.tc : Thread Cert.LastReferenceIdeal.nD Cert.LastReferenceIdeal.τ).loc Cert.LastReferenceIdeal.main_arg8) = m ((c.tc : Thread Cert.LastIdeal.nD Cert.LastIdeal.τ).loc Cert.LastIdeal.main_arg8)
      ∧ m' ((c.tc : Thread Cert.LastReferenceIdeal.nD Cert.LastReferenceIdeal.τ).loc Cert.LastReferenceIdeal.main_arg9) = m ((c.tc : Thread Cert.LastIdeal.nD Cert.LastIdeal.τ).loc Cert.LastIdeal.main_arg9)) →
    ∃ (v0 : (c : Dev Cert.LastIdeal.nD) → Buf (Elt Ideal) ((c.tc : Thread Cert.LastIdeal.nD Cert.LastIdeal.τ).loc Cert.LastIdeal.main_v11)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v11) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v40) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6)
          ∧ r.2.mem ((c.tc : Thread Cert.LastReferenceIdeal.nD Cert.LastReferenceIdeal.τ).loc Cert.LastReferenceIdeal.main_arg7) = m' ((c.tc : Thread Cert.LastReferenceIdeal.nD Cert.LastReferenceIdeal.τ).loc Cert.LastReferenceIdeal.main_arg7)
          ∧ r.2.mem ((c.tc : Thread Cert.LastReferenceIdeal.nD Cert.LastReferenceIdeal.τ).loc Cert.LastReferenceIdeal.main_arg8) = m' ((c.tc : Thread Cert.LastReferenceIdeal.nD Cert.LastReferenceIdeal.τ).loc Cert.LastReferenceIdeal.main_arg8)
          ∧ r.2.mem ((c.tc : Thread Cert.LastReferenceIdeal.nD Cert.LastReferenceIdeal.τ).loc Cert.LastReferenceIdeal.main_arg9) = m' ((c.tc : Thread Cert.LastReferenceIdeal.nD Cert.LastReferenceIdeal.τ).loc Cert.LastReferenceIdeal.main_arg9))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v1) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v26) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hProj : Cert.Proj.Facts) (hProjIdeal : Cert.ProjIdeal.Facts) (hProjReferenceIdeal : Cert.ProjReferenceIdeal.Facts) (hLast : Cert.Last.Facts) (hLastIdeal : Cert.LastIdeal.Facts) (hLastReferenceIdeal : Cert.LastReferenceIdeal.Facts) (hPool : Cert.Pool.Facts) (hPoolIdeal : Cert.PoolIdeal.Facts) (hPoolReferenceIdeal : Cert.PoolReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ quiescent_Post (hPost := hPost)
    ∧ quiescent_PostIdeal (hPostIdeal := hPostIdeal)
    ∧ quiescent_PostReferenceIdeal (hPostReferenceIdeal := hPostReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Last (hLast := hLast)
    ∧ quiescent_LastIdeal (hLastIdeal := hLastIdeal)
    ∧ quiescent_LastReferenceIdeal (hLastReferenceIdeal := hLastReferenceIdeal)
    ∧ quiescent_Pool (hPool := hPool)
    ∧ quiescent_PoolIdeal (hPoolIdeal := hPoolIdeal)
    ∧ quiescent_PoolReferenceIdeal (hPoolReferenceIdeal := hPoolReferenceIdeal)
    ∧ preserves_Kernel_KernelIdeal
    ∧ algebraic_KernelIdeal_ReferenceIdeal_pre_separated (hKernelIdeal := hKernelIdeal) (hReferenceIdeal := hReferenceIdeal) (hPre_separated := hPre_separated)
    ∧ preserves_Post_PostIdeal
    ∧ algebraic_PostIdeal_PostReferenceIdeal (hPostIdeal := hPostIdeal) (hPostReferenceIdeal := hPostReferenceIdeal)
    ∧ preserves_Proj_ProjIdeal
    ∧ algebraic_ProjIdeal_ProjReferenceIdeal (hProjIdeal := hProjIdeal) (hProjReferenceIdeal := hProjReferenceIdeal)
    ∧ preserves_Last_LastIdeal
    ∧ algebraic_LastIdeal_LastReferenceIdeal (hLastIdeal := hLastIdeal) (hLastReferenceIdeal := hLastReferenceIdeal)
    ∧ preserves_Pool_PoolIdeal
    ∧ algebraic_PoolIdeal_PoolReferenceIdeal (hPoolIdeal := hPoolIdeal) (hPoolReferenceIdeal := hPoolReferenceIdeal)
-- ==== Pre_separated.lean ====
abbrev S128x2049 : Shape := ⟨2, ![128, 2049]⟩
abbrev S128x257 : Shape := ⟨2, ![128, 257]⟩
abbrev S_ : Shape := ⟨0, ![]⟩
abbrev S128 : Shape := ⟨1, ![128]⟩
abbrev S128x1 : Shape := ⟨2, ![128, 1]⟩

class Facts : Prop where
  sliceFits_S128x2049_S128x257 : S128x2049.Slices (fun _ => 0) S128x257
  reducesTo_S128x2049_S128_d1 : S128x2049.ReducesTo [1] S128
  h_S_ : 0 < S_.numel
  bcast_S_S128 : S_.BroadcastsInDim S128 (![] : Fin 0 → Fin S128.rank)
  slices_S128x257_S128x1_0_255 : S128x257.Slices ![0, 255] S128x1
  shapeCasts_S128x1_S128 : S128x1.ShapeCasts S128
  slices_S128x257_S128x1_0_256 : S128x257.Slices ![0, 256] S128x1
  bcast_S_S128x2049 : S_.BroadcastsInDim S128x2049 (![] : Fin 0 → Fin S128x2049.rank)
  reducesTo_S128_S_d0 : S128.ReducesTo [0] S_
  reducesTo_S128x2049_S_d0_1 : S128x2049.ReducesTo [0, 1] S_

variable [Facts]

def fn_part1 {F : FTy → Type} [FloatOps F] (main_arg0 : FVec F S128x2049 .f32) (main_values : FVec F S128x257 .f32) (main_v12 : FVec F S128 .f32) (main_v13 : FVec F S128 .f32) : IVec S_ 1 :=
  let main_v14 : FVec F S128 .f32 := mulf main_v12 main_v13
  let main_v15 : FVec F S128x1 .f32 := (extractStridedSlice S128x1 ![0, 255] · slices_S128x257_S128x1_0_255) main_values
  let main_v16 : FVec F S128 .f32 := shapeCast S128 main_v15 shapeCasts_S128x1_S128
  let main_v17 : FVec F S128x1 .f32 := (extractStridedSlice S128x1 ![0, 256] · slices_S128x257_S128x1_0_256) main_values
  let main_v18 : FVec F S128 .f32 := shapeCast S128 main_v17 shapeCasts_S128x1_S128
  let main_v19 : FVec F S128 .f32 := subf main_v16 main_v18
  let main_v20 : IVec S128 1 := cmpf .olt main_v14 main_v19
  let main_v21 : FVec F S128x2049 .f32 := Host.absf main_arg0
  let main_cst_7 : FVec F S_ .f32 := constant S_ .f32 0x7F000000#32
  let main_v22 : FVec F S128x2049 .f32 := broadcastInDim S128x2049 ![] bcast_S_S128x2049 main_cst_7
  let main_v23 : IVec S128x2049 1 := cmpf .olt main_v21 main_v22
  let main_c : IVec S_ 1 := constantI S_ 1 1#1
  let main_v24 : IVec S_ 1 := (fun x v => Host.reduce IntOp.andi x v reducesTo_S128_S_d0 h_S_) main_v20 main_c
  let main_c_8 : IVec S_ 1 := constantI S_ 1 1#1
  let main_v25 : IVec S_ 1 := (fun x v => Host.reduce IntOp.andi x v reducesTo_S128x2049_S_d0_1 h_S_) main_v23 main_c_8
  let main_v26 : IVec S_ 1 := andi main_v24 main_v25
  main_v26

def fn {F : FTy → Type} [FloatOps F] (main_arg0 : FVec F S128x2049 .f32) : IVec S_ 1 :=
  let main_values : FVec F S128x257 .f32 := (fun x => (Host.topK S128x257 1 (FloatOps.cmpfTotal .gt) x sliceFits_S128x2049_S128x257).1) main_arg0
  let main_indices : IVec S128x257 32 := (fun x => (Host.topK S128x257 1 (FloatOps.cmpfTotal .gt) x sliceFits_S128x2049_S128x257).2) main_arg0
  let main_cst : FVec F S_ .f32 := constant S_ .f32 0xFF800000#32
  let main_v0 : FVec F S128 .f32 := (fun x v => Host.reduce FloatOps.maximumf x v reducesTo_S128x2049_S128_d1 h_S_) main_arg0 main_cst
  let main_cst_0 : FVec F S_ .f32 := constant S_ .f32 0x7F800000#32
  let main_v1 : FVec F S128 .f32 := (fun x v => Host.reduce FloatOps.minimumf x v reducesTo_S128x2049_S128_d1 h_S_) main_arg0 main_cst_0
  let main_v2 : FVec F S128 .f32 := subf main_v0 main_v1
  let main_cst_1 : FVec F S_ .f32 := constant S_ .f32 0x0D800000#32
  let main_v3 : FVec F S128 .f32 := broadcastInDim S128 ![] bcast_S_S128 main_cst_1
  let main_v4 : FVec F S128 .f32 := mulf main_v2 main_v3
  let main_cst_2 : FVec F S_ .f32 := constant S_ .f32 0x0D800000#32
  let main_v5 : FVec F S128 .f32 := broadcastInDim S128 ![] bcast_S_S128 main_cst_2
  let main_v6 : FVec F S128 .f32 := mulf main_v4 main_v5
  let main_cst_3 : FVec F S_ .f32 := constant S_ .f32 0x0D800000#32
  let main_v7 : FVec F S128 .f32 := broadcastInDim S128 ![] bcast_S_S128 main_cst_3
  let main_v8 : FVec F S128 .f32 := mulf main_v6 main_v7
  let main_cst_4 : FVec F S_ .f32 := constant S_ .f32 0x0D800000#32
  let main_v9 : FVec F S128 .f32 := broadcastInDim S128 ![] bcast_S_S128 main_cst_4
  let main_v10 : FVec F S128 .f32 := mulf main_v8 main_v9
  let main_cst_5 : FVec F S_ .f32 := constant S_ .f32 0x0D800000#32
  let main_v11 : FVec F S128 .f32 := broadcastInDim S128 ![] bcast_S_S128 main_cst_5
  let main_v12 : FVec F S128 .f32 := mulf main_v10 main_v11
  let main_cst_6 : FVec F S_ .f32 := constant S_ .f32 0x0D800000#32
  let main_v13 : FVec F S128 .f32 := broadcastInDim S128 ![] bcast_S_S128 main_cst_6
  fn_part1 (F := F) main_arg0 main_values main_v12 main_v13
-- ==== Kernel.lean ====
abbrev S128x2049 : Shape := ⟨2, ![128, 2049]⟩
abbrev S_ : Shape := ⟨0, ![]⟩
abbrev S128x511 : Shape := ⟨2, ![128, 511]⟩
abbrev S128x2560 : Shape := ⟨2, ![128, 2560]⟩
abbrev S2560x128 : Shape := ⟨2, ![2560, 128]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S64x128 : Shape := ⟨2, ![64, 128]⟩
abbrev S512x128 : Shape := ⟨2, ![512, 128]⟩

abbrev nBuf : Space → Nat
  | .hbm => 6
  | .vmem => 3
  | .smem => 0
  | _ => 0

abbrev bufTy : (tb : Table) → Fin (tcTables nBuf tb) → BufTy
  | .hbm, ⟨0, _⟩ => ⟨S128x2049, .f32⟩
  | .hbm, ⟨1, _⟩ => ⟨S_, .f32⟩
  | .hbm, ⟨2, _⟩ => ⟨S128x511, .f32⟩
  | .hbm, ⟨3, _⟩ => ⟨S128x2560, .f32⟩
  | .hbm, ⟨4, _⟩ => ⟨S2560x128, .f32⟩
  | .hbm, ⟨5, _⟩ => ⟨S2560x128, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | _, _ => ⟨S128x2049, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v55 : BitVec 32 := Scalar.addi c0_i32 c8_i32
  let c1_i32 : BitVec 32 := 1#32
  ⟨c0_i32, v55, c1_i32⟩
@[reducible] def k0_t2_loop : Scf.Loop 32 :=
  let c0_i32_29 : BitVec 32 := 0#32
  let c5_i32 : BitVec 32 := 5#32
  let v65 : BitVec 32 := Scalar.addi c0_i32_29 c5_i32
  let c1_i32_30 : BitVec 32 := 1#32
  ⟨c0_i32_29, v65, c1_i32_30⟩
def k0_mult1 (k0_t2 : Fin k0_t2_loop.trips) : BitVec 32 :=
  let c0_i32_29 : BitVec 32 := 0#32
  let c1_i32_30 : BitVec 32 := 1#32
  let arg8 : BitVec 32 := Scf.iv c0_i32_29 c1_i32_30 k0_t2
  let c512_i32 : BitVec 32 := 512#32
  let v115 : BitVec 32 := Scalar.muli arg8 c512_i32
  v115
def k0_off1 (k0_t2 : Fin k0_t2_loop.trips) : Fin 2 → Nat :=
  let c0_i32_29 : BitVec 32 := 0#32
  let c1_i32_30 : BitVec 32 := 1#32
  let arg8 : BitVec 32 := Scf.iv c0_i32_29 c1_i32_30 k0_t2
  let c512_i32 : BitVec 32 := 512#32
  let v115 : BitVec 32 := Scalar.muli arg8 c512_i32
  let v116 : BitVec 32 := v115
  let v117 : Index := Scalar.indexCast v116
  let c0_50 : Index := 0#32
  ![v117.toNat, 0]
@[reducible] def k0_t3_loop : Scf.Loop 32 :=
  let c0_i32_40 : BitVec 32 := 0#32
  let c5_i32_41 : BitVec 32 := 5#32
  let v94 : BitVec 32 := Scalar.addi c0_i32_40 c5_i32_41
  let c1_i32_42 : BitVec 32 := 1#32
  ⟨c0_i32_40, v94, c1_i32_42⟩
def k0_mult2 (k0_t3 : Fin k0_t3_loop.trips) : BitVec 32 :=
  let c0_i32_40 : BitVec 32 := 0#32
  let c1_i32_42 : BitVec 32 := 1#32
  let arg8 : BitVec 32 := Scf.iv c0_i32_40 c1_i32_42 k0_t3
  let c512_i32 : BitVec 32 := 512#32
  let v115 : BitVec 32 := Scalar.muli arg8 c512_i32
  v115
def k0_off2 (k0_t3 : Fin k0_t3_loop.trips) : Fin 2 → Nat :=
  let c0_i32_40 : BitVec 32 := 0#32
  let c1_i32_42 : BitVec 32 := 1#32
  let arg8 : BitVec 32 := Scf.iv c0_i32_40 c1_i32_42 k0_t3
  let c512_i32 : BitVec 32 := 512#32
  let v115 : BitVec 32 := Scalar.muli arg8 c512_i32
  let v116 : BitVec 32 := v115
  let v117 : Index := Scalar.indexCast v116
  let c0_50 : Index := 0#32
  ![v117.toNat, 0]
@[reducible] def k0_t4_loop : Scf.Loop 32 :=
  let c0_i32_28 : BitVec 32 := 0#32
  let c5_i32 : BitVec 32 := 5#32
  let v64 : BitVec 32 := Scalar.addi c0_i32_28 c5_i32
  let c1_i32_29 : BitVec 32 := 1#32
  ⟨c0_i32_28, v64, c1_i32_29⟩
def k0_mult3 (k0_t4 : Fin k0_t4_loop.trips) : BitVec 32 :=
  let c0_i32_28 : BitVec 32 := 0#32
  let c1_i32_29 : BitVec 32 := 1#32
  let arg8 : BitVec 32 := Scf.iv c0_i32_28 c1_i32_29 k0_t4
  let c512_i32 : BitVec 32 := 512#32
  let v114 : BitVec 32 := Scalar.muli arg8 c512_i32
  v114
def k0_off3 (k0_t4 : Fin k0_t4_loop.trips) : Fin 2 → Nat :=
  let c0_i32_28 : BitVec 32 := 0#32
  let c1_i32_29 : BitVec 32 := 1#32
  let arg8 : BitVec 32 := Scf.iv c0_i32_28 c1_i32_29 k0_t4
  let c512_i32 : BitVec 32 := 512#32
  let v114 : BitVec 32 := Scalar.muli arg8 c512_i32
  let v115 : BitVec 32 := v114
  let v116 : Index := Scalar.indexCast v115
  let c0_49 : Index := 0#32
  ![v116.toNat, 0]
@[reducible] def k0_t5_loop : Scf.Loop 32 :=
  let c0_i32_39 : BitVec 32 := 0#32
  let c5_i32_40 : BitVec 32 := 5#32
  let v93 : BitVec 32 := Scalar.addi c0_i32_39 c5_i32_40
  let c1_i32_41 : BitVec 32 := 1#32
  ⟨c0_i32_39, v93, c1_i32_41⟩
def k0_mult4 (k0_t5 : Fin k0_t5_loop.trips) : BitVec 32 :=
  let c0_i32_39 : BitVec 32 := 0#32
  let c1_i32_41 : BitVec 32 := 1#32
  let arg8 : BitVec 32 := Scf.iv c0_i32_39 c1_i32_41 k0_t5
  let c512_i32 : BitVec 32 := 512#32
  let v114 : BitVec 32 := Scalar.muli arg8 c512_i32
  v114
def k0_off4 (k0_t5 : Fin k0_t5_loop.trips) : Fin 2 → Nat :=
  let c0_i32_39 : BitVec 32 := 0#32
  let c1_i32_41 : BitVec 32 := 1#32
  let arg8 : BitVec 32 := Scf.iv c0_i32_39 c1_i32_41 k0_t5
  let c512_i32 : BitVec 32 := 512#32
  let v114 : BitVec 32 := Scalar.muli arg8 c512_i32
  let v115 : BitVec 32 := v114
  let v116 : Index := Scalar.indexCast v115
  let c0_49 : Index := 0#32
  ![v116.toNat, 0]
@[reducible] def k0_t6_loop : Scf.Loop 32 :=
  let c0_i32_27 : BitVec 32 := 0#32
  let c5_i32 : BitVec 32 := 5#32
  let v56 : BitVec 32 := Scalar.addi c0_i32_27 c5_i32
  let c1_i32 : BitVec 32 := 1#32
  ⟨c0_i32_27, v56, c1_i32⟩
def k0_mult5 (k0_t6 : Fin k0_t6_loop.trips) : BitVec 32 :=
  let c0_i32_27 : BitVec 32 := 0#32
  let c1_i32 : BitVec 32 := 1#32
  let arg3 : BitVec 32 := Scf.iv c0_i32_27 c1_i32 k0_t6
  let c512_i32 : BitVec 32 := 512#32
  let v78 : BitVec 32 := Scalar.muli arg3 c512_i32
  v78
def k0_off5 (k0_t6 : Fin k0_t6_loop.trips) : Fin 2 → Nat :=
  let c0_i32_27 : BitVec 32 := 0#32
  let c1_i32 : BitVec 32 := 1#32
  let arg3 : BitVec 32 := Scf.iv c0_i32_27 c1_i32 k0_t6
  let c512_i32 : BitVec 32 := 512#32
  let v78 : BitVec 32 := Scalar.muli arg3 c512_i32
  let v79 : BitVec 32 := v78
  let v80 : Index := Scalar.indexCast v79
  let c0_46 : Index := 0#32
  ![v80.toNat, 0]
@[reducible] def k0_t7_loop : Scf.Loop 32 :=
  let c0_i32_33 : BitVec 32 := 0#32
  let c5_i32_34 : BitVec 32 := 5#32
  let v66 : BitVec 32 := Scalar.addi c0_i32_33 c5_i32_34
  let c1_i32_35 : BitVec 32 := 1#32
  ⟨c0_i32_33, v66, c1_i32_35⟩
def k0_mult6 (k0_t7 : Fin k0_t7_loop.trips) : BitVec 32 :=
  let c0_i32_33 : BitVec 32 := 0#32
  let c1_i32_35 : BitVec 32 := 1#32
  let arg3 : BitVec 32 := Scf.iv c0_i32_33 c1_i32_35 k0_t7
  let c512_i32 : BitVec 32 := 512#32
  let v78 : BitVec 32 := Scalar.muli arg3 c512_i32
  v78
def k0_off6 (k0_t7 : Fin k0_t7_loop.trips) : Fin 2 → Nat :=
  let c0_i32_33 : BitVec 32 := 0#32
  let c1_i32_35 : BitVec 32 := 1#32
  let arg3 : BitVec 32 := Scf.iv c0_i32_33 c1_i32_35 k0_t7
  let c512_i32 : BitVec 32 := 512#32
  let v78 : BitVec 32 := Scalar.muli arg3 c512_i32
  let v79 : BitVec 32 := v78
  let v80 : Index := Scalar.indexCast v79
  let c0_46 : Index := 0#32
  ![v80.toNat, 0]
@[reducible] def k0_t8_loop : Scf.Loop 32 :=
  let c0_i32_40 : BitVec 32 := 0#32
  let c15_i32 : BitVec 32 := 15#32
  let v74 : BitVec 32 := Scalar.addi c0_i32_40 c15_i32
  let c1_i32_41 : BitVec 32 := 1#32
  ⟨c0_i32_40, v74, c1_i32_41⟩
@[reducible] def k0_t9_loop : Scf.Loop 32 :=
  let c0_i32_53 : BitVec 32 := 0#32
  let c5_i32_54 : BitVec 32 := 5#32
  let v104 : BitVec 32 := Scalar.addi c0_i32_53 c5_i32_54
  let c1_i32_55 : BitVec 32 := 1#32
  ⟨c0_i32_53, v104, c1_i32_55⟩
def k0_mult7 (k0_t9 : Fin k0_t9_loop.trips) : BitVec 32 :=
  let c0_i32_53 : BitVec 32 := 0#32
  let c1_i32_55 : BitVec 32 := 1#32
  let arg6 : BitVec 32 := Scf.iv c0_i32_53 c1_i32_55 k0_t9
  let c512_i32 : BitVec 32 := 512#32
  let v111 : BitVec 32 := Scalar.muli arg6 c512_i32
  v111
def k0_off7 (k0_t9 : Fin k0_t9_loop.trips) : Fin 2 → Nat :=
  let c0_i32_53 : BitVec 32 := 0#32
  let c1_i32_55 : BitVec 32 := 1#32
  let arg6 : BitVec 32 := Scf.iv c0_i32_53 c1_i32_55 k0_t9
  let c512_i32 : BitVec 32 := 512#32
  let v111 : BitVec 32 := Scalar.muli arg6 c512_i32
  let v112 : BitVec 32 := v111
  let v113 : Index := Scalar.indexCast v112
  let c0_58 : Index := 0#32
  ![v113.toNat, 0]
@[reducible] def k0_t10_loop : Scf.Loop 32 :=
  let c0_i32_42 : BitVec 32 := 0#32
  let c5_i32_43 : BitVec 32 := 5#32
  let v76 : BitVec 32 := Scalar.addi c0_i32_42 c5_i32_43
  let c1_i32_44 : BitVec 32 := 1#32
  ⟨c0_i32_42, v76, c1_i32_44⟩
def k0_mult8 (k0_t10 : Fin k0_t10_loop.trips) : BitVec 32 :=
  let c0_i32_42 : BitVec 32 := 0#32
  let c1_i32_44 : BitVec 32 := 1#32
  let arg3 : BitVec 32 := Scf.iv c0_i32_42 c1_i32_44 k0_t10
  let c512_i32 : BitVec 32 := 512#32
  let v78 : BitVec 32 := Scalar.muli arg3 c512_i32
  v78
def k0_off8 (k0_t10 : Fin k0_t10_loop.trips) : Fin 2 → Nat :=
  let c0_i32_42 : BitVec 32 := 0#32
  let c1_i32_44 : BitVec 32 := 1#32
  let arg3 : BitVec 32 := Scf.iv c0_i32_42 c1_i32_44 k0_t10
  let c512_i32 : BitVec 32 := 512#32
  let v78 : BitVec 32 := Scalar.muli arg3 c512_i32
  let v79 : BitVec 32 := v78
  let v80 : Index := Scalar.indexCast v79
  let c0_46 : Index := 0#32
  ![v80.toNat, 0]
abbrev stage0_0 : Fin 1 → Memref sig .tc .vmem S2560x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S128x2049 : Shape := ⟨2, ![128, 2049]⟩
abbrev S128x256 : Shape := ⟨2, ![128, 256]⟩
abbrev S128x256x2560 : Shape := ⟨3, ![128, 256, 2560]⟩
abbrev S128x256x1 : Shape := ⟨3, ![128, 256, 1]⟩
abbrev S_ : Shape := ⟨0, ![]⟩
abbrev S128x2560 : Shape := ⟨2, ![128, 2560]⟩
abbrev S2560x128 : Shape := ⟨2, ![2560, 128]⟩

abbrev nBuf : Space → Nat
  | .hbm => 16
  | .vmem => 0
  | .smem => 0
  | _ => 0

abbrev bufTy : (tb : Table) → Fin (tcTables nBuf tb) → BufTy
  | .hbm, ⟨0, _⟩ => ⟨S128x2049, .f32⟩
  | .hbm, ⟨1, _⟩ => ⟨S128x256, .f32⟩
  | .hbm, ⟨2, _⟩ => ⟨S128x256, .i32⟩
  | .hbm, ⟨3, _⟩ => ⟨S128x256x2560, .i32⟩
  | .hbm, ⟨4, _⟩ => ⟨S128x256x1, .i32⟩
  | .hbm, ⟨5, _⟩ => ⟨S128x256x2560, .i32⟩
  | .hbm, ⟨6, _⟩ => ⟨S128x256x2560, .i1⟩
  | .hbm, ⟨7, _⟩ => ⟨S_, .f32⟩
  | .hbm, ⟨8, _⟩ => ⟨S_, .f32⟩
  | .hbm, ⟨9, _⟩ => ⟨S128x256x2560, .f32⟩
  | .hbm, ⟨10, _⟩ => ⟨S128x256x2560, .f32⟩
  | .hbm, ⟨11, _⟩ => ⟨S128x256x2560, .f32⟩
  | .hbm, ⟨12, _⟩ => ⟨S128x256x2560, .f32⟩
  | .hbm, ⟨13, _⟩ => ⟨S_, .f32⟩
  | .hbm, ⟨14, _⟩ => ⟨S128x2560, .f32⟩
  | .hbm, ⟨15, _⟩ => ⟨S2560x128, .f32⟩
  | _, _ => ⟨S128x2049, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Post.lean ====
abbrev S8192x2048 : Shape := ⟨2, ![8192, 2048]⟩
abbrev S8192x1024 : Shape := ⟨2, ![8192, 1024]⟩
abbrev S4x256x256 : Shape := ⟨3, ![4, 256, 256]⟩
abbrev S1024 : Shape := ⟨1, ![1024]⟩
abbrev S2048x2048 : Shape := ⟨2, ![2048, 2048]⟩
abbrev S2048 : Shape := ⟨1, ![2048]⟩
abbrev S2048x8192 : Shape := ⟨2, ![2048, 8192]⟩
abbrev S1024x2048 : Shape := ⟨2, ![1024, 2048]⟩
abbrev S1x1024 : Shape := ⟨2, ![1, 1024]⟩
abbrev S1x2048 : Shape := ⟨2, ![1, 2048]⟩
abbrev S512x2048 : Shape := ⟨2, ![512, 2048]⟩
abbrev S512x1024 : Shape := ⟨2, ![512, 1024]⟩
abbrev S2048x1024 : Shape := ⟨2, ![2048, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 22
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S4x256x256, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048x8192, .f32⟩
  | .hbm, ⟨8, _⟩ => ⟨S8192x2048, .f32⟩
  | .hbm, ⟨9, _⟩ => ⟨S2048, .f32⟩
  | .hbm, ⟨10, _⟩ => ⟨S8192x1024, .bf16⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S4x256x256, .bf16⟩
  | .hbm, ⟨16, _⟩ => ⟨S2048x8192, .bf16⟩
  | .hbm, ⟨17, _⟩ => ⟨S8192x2048, .bf16⟩
  | .hbm, ⟨18, _⟩ => ⟨S1x1024, .f32⟩
  | .hbm, ⟨19, _⟩ => ⟨S1x2048, .f32⟩
  | .hbm, ⟨20, _⟩ => ⟨S1x2048, .f32⟩
  | .hbm, ⟨21, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x2048, .bf16⟩
  | .local _ .vmem, ⟨7, _⟩ => ⟨S1024x2048, .bf16⟩
  | .local _ .vmem, ⟨8, _⟩ => ⟨S4x256x256, .bf16⟩
  | .local _ .vmem, ⟨9, _⟩ => ⟨S1x1024, .f32⟩
  | .local _ .vmem, ⟨10, _⟩ => ⟨S1x2048, .f32⟩
  | .local _ .vmem, ⟨11, _⟩ => ⟨S1x2048, .f32⟩
  | .local _ .vmem, ⟨12, _⟩ => ⟨S2048x1024, .bf16⟩
  | .local _ .vmem, ⟨13, _⟩ => ⟨S2048x1024, .bf16⟩
  | .local _ .vmem, ⟨14, _⟩ => ⟨S1024x2048, .bf16⟩
  | .local _ .vmem, ⟨15, _⟩ => ⟨S1024x2048, .bf16⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== PostReferenceIdeal.lean ====
abbrev S8192x2048 : Shape := ⟨2, ![8192, 2048]⟩
abbrev S8192x1024 : Shape := ⟨2, ![8192, 1024]⟩
abbrev S4x256x256 : Shape := ⟨3, ![4, 256, 256]⟩
abbrev S1024 : Shape := ⟨1, ![1024]⟩
abbrev S2048x2048 : Shape := ⟨2, ![2048, 2048]⟩
abbrev S2048 : Shape := ⟨1, ![2048]⟩
abbrev S2048x8192 : Shape := ⟨2, ![2048, 8192]⟩
abbrev S8192x4x256 : Shape := ⟨3, ![8192, 4, 256]⟩
abbrev S4x256x8192 : Shape := ⟨3, ![4, 256, 8192]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S4x256x256, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048x8192, .f32⟩
  | .hbm, ⟨8, _⟩ => ⟨S8192x2048, .f32⟩
  | .hbm, ⟨9, _⟩ => ⟨S2048, .f32⟩
  | .hbm, ⟨10, _⟩ => ⟨S8192x4x256, .f32⟩
  | .hbm, ⟨11, _⟩ => ⟨S4x256x8192, .f32⟩
  | .hbm, ⟨12, _⟩ => ⟨S8192x4x256, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proj.lean ====
abbrev S128x2048 : Shape := ⟨2, ![128, 2048]⟩
abbrev S16x2048 : Shape := ⟨2, ![16, 2048]⟩
abbrev S128x15x1024 : Shape := ⟨3, ![128, 15, 1024]⟩
abbrev S2048 : Shape := ⟨1, ![2048]⟩
abbrev S2048x3664 : Shape := ⟨2, ![2048, 3664]⟩
abbrev S2048x1024 : Shape := ⟨2, ![2048, 1024]⟩
abbrev S2048x512 : Shape := ⟨2, ![2048, 512]⟩
abbrev S2048x80 : Shape := ⟨2, ![2048, 80]⟩
abbrev S_ : Shape := ⟨0, ![]⟩
abbrev S2048x128 : Shape := ⟨2, ![2048, 128]⟩
abbrev S144x2048 : Shape := ⟨2, ![144, 2048]⟩
abbrev S16 : Shape := ⟨1, ![16]⟩
abbrev S128 : Shape := ⟨1, ![128]⟩
abbrev S144 : Shape := ⟨1, ![144]⟩
abbrev S1 : Shape := ⟨1, ![1]⟩
abbrev S1x1 : Shape := ⟨2, ![1, 1]⟩
abbrev S64 : Shape := ⟨1, ![64]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S32 : Shape := ⟨1, ![32]⟩
abbrev S1x32 : Shape := ⟨2, ![1, 32]⟩
abbrev S1x1x1x32 : Shape := ⟨4, ![1, 1, 1, 32]⟩
abbrev S1x1x4x32 : Shape := ⟨4, ![1, 1, 4, 32]⟩
abbrev S1x1x128 : Shape := ⟨3, ![1, 1, 128]⟩
abbrev S144x1 : Shape := ⟨2, ![144, 1]⟩
abbrev S144x64 : Shape := ⟨2, ![144, 64]⟩
abbrev S1x144x1x64 : Shape := ⟨4, ![1, 144, 1, 64]⟩
abbrev S1x144x2x64 : Shape := ⟨4, ![1, 144, 2, 64]⟩
abbrev S144x128 : Shape := ⟨2, ![144, 128]⟩
abbrev S144x32 : Shape := ⟨2, ![144, 32]⟩
abbrev S1x144x1x32 : Shape := ⟨4, ![1, 144, 1, 32]⟩
abbrev S1x144x4x32 : Shape := ⟨4, ![1, 144, 4, 32]⟩
abbrev S1x2048 : Shape := ⟨2, ![1, 2048]⟩
abbrev S144x1024 : Shape := ⟨2, ![144, 1024]⟩
abbrev S144x2x128 : Shape := ⟨3, ![144, 2, 128]⟩
abbrev S144x256 : Shape := ⟨2, ![144, 256]⟩
abbrev S144x512 : Shape := ⟨2, ![144, 512]⟩
abbrev S144x1x128 : Shape := ⟨3, ![144, 1, 128]⟩
abbrev S128x14x1024 : Shape := ⟨3, ![128, 14, 1024]⟩
abbrev S128x1024 : Shape := ⟨2, ![128, 1024]⟩
abbrev S128x1x1024 : Shape := ⟨3, ![128, 1, 1024]⟩
abbrev S128x2x128 : Shape := ⟨3, ![128, 2, 128]⟩
abbrev S128x64 : Shape := ⟨2, ![128, 64]⟩
abbrev S128x16 : Shape := ⟨2, ![128, 16]⟩
abbrev S16x2x128 : Shape := ⟨3, ![16, 2, 128]⟩
abbrev S16x64 : Shape := ⟨2, ![16, 64]⟩
abbrev S16x1024 : Shape := ⟨2, ![16, 1024]⟩

abbrev nBuf : Space → Nat
  | .hbm => 160
  | .vmem => 23
  | .smem => 0
  | _ => 0

abbrev hbmTy0_0 (i : Nat) : BufTy := match i % 128 with
  | 0 => ⟨S128x2048, .f32⟩
  | 1 => ⟨S16x2048, .f32⟩
  | 2 => ⟨S128x15x1024, .f32⟩
  | 3 => ⟨S2048, .f32⟩
  | 4 => ⟨S2048x3664, .f32⟩
  | 5 => ⟨S2048x1024, .f32⟩
  | 6 => ⟨S2048x1024, .bf16⟩
  | 7 => ⟨S2048x512, .f32⟩
  | 8 => ⟨S2048x512, .bf16⟩
  | 9 => ⟨S2048x1024, .f32⟩
  | 10 => ⟨S2048x1024, .bf16⟩
  | 11 => ⟨S2048x80, .f32⟩
  | 12 => ⟨S2048x80, .bf16⟩
  | 13 => ⟨S2048x1024, .f32⟩
  | 14 => ⟨S2048x1024, .bf16⟩
  | 15 => ⟨S_, .i32⟩
  | 16 => ⟨S_, .bf16⟩
  | 17 => ⟨S2048x128, .bf16⟩
  | 18 => ⟨S144x2048, .f32⟩
  | 19 => ⟨S16, .i32⟩
  | 20 => ⟨S_, .i32⟩
  | 21 => ⟨S128, .i32⟩
  | 22 => ⟨S144, .i32⟩
  | 23 => ⟨S_, .i32⟩
  | 24 => ⟨S1, .i32⟩
  | 25 => ⟨S1, .f32⟩
  | 26 => ⟨S1x1, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S1x64, .f32⟩
  | 42 => ⟨S1x64, .f32⟩
  | 43 => ⟨S1x64, .f32⟩
  | 44 => ⟨S1x64, .f32⟩
  | 45 => ⟨S1x1x1x64, .f32⟩
  | 46 => ⟨S1x1x2x64, .f32⟩
  | 47 => ⟨S1x128, .f32⟩
  | 48 => ⟨S1x64, .f32⟩
  | 49 => ⟨S1x1x1x64, .f32⟩
  | 50 => ⟨S1x1x2x64, .f32⟩
  | 51 => ⟨S1x128, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S1x32, .f32⟩
  | 67 => ⟨S1x32, .f32⟩
  | 68 => ⟨S1x32, .f32⟩
  | 69 => ⟨S1x32, .f32⟩
  | 70 => ⟨S1x1x1x32, .f32⟩
  | 71 => ⟨S1x1x4x32, .f32⟩
  | 72 => ⟨S1x128, .f32⟩
  | 73 => ⟨S1x32, .f32⟩
  | 74 => ⟨S1x1x1x32, .f32⟩
  | 75 => ⟨S1x1x4x32, .f32⟩
  | 76 => ⟨S1x128, .f32⟩
  | 77 => ⟨S1x1x128, .f32⟩
  | 78 => ⟨S1x1x128, .f32⟩
  | 79 => ⟨S1x1x128, .f32⟩
  | 80 => ⟨S1x1x128, .f32⟩
  | 81 => ⟨S144, .f32⟩
  | 82 => ⟨S144x1, .f32⟩
  | 83 => ⟨S64, .f32⟩
  | 84 => ⟨S_, .f32⟩
  | 85 => ⟨S64, .f32⟩
  | 86 => ⟨S64, .f32⟩
  | 87 => ⟨S_, .f32⟩
  | 88 => ⟨S64, .f32⟩
  | 89 => ⟨S64, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S1x64, .f32⟩
  | 98 => ⟨S144x64, .f32⟩
  | 99 => ⟨S144x64, .f32⟩
  | 100 => ⟨S144x64, .f32⟩
  | 101 => ⟨S144x64, .f32⟩
  | 102 => ⟨S1x144x1x64, .f32⟩
  | 103 => ⟨S1x144x2x64, .f32⟩
  | 104 => ⟨S144x128, .f32⟩
  | 105 => ⟨S144x64, .f32⟩
  | 106 => ⟨S1x144x1x64, .f32⟩
  | 107 => ⟨S1x144x2x64, .f32⟩
  | 108 => ⟨S144x128, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S1x32, .f32⟩
  | 124 => ⟨S144x32, .f32⟩
  | 125 => ⟨S144x32, .f32⟩
  | 126 => ⟨S144x32, .f32⟩
  | 127 => ⟨S144x32, .f32⟩
  | _ => ⟨S128x2048, .f32⟩

abbrev hbmTy0_1 (i : Nat) : BufTy := match i % 128 with
  | 0 => ⟨S1x144x1x32, .f32⟩
  | 1 => ⟨S1x144x4x32, .f32⟩
  | 2 => ⟨S144x128, .f32⟩
  | 3 => ⟨S144x32, .f32⟩
  | 4 => ⟨S1x144x1x32, .f32⟩
  | 5 => ⟨S1x144x4x32, .f32⟩
  | 6 => ⟨S144x128, .f32⟩
  | 7 => ⟨S1x2048, .f32⟩
  | 8 => ⟨S144x1024, .bf16⟩
  | 9 => ⟨S144x2x128, .f32⟩
  | 10 => ⟨S144x2x128, .f32⟩
  | 11 => ⟨S144x256, .bf16⟩
  | 12 => ⟨S144x256, .bf16⟩
  | 13 => ⟨S144x1024, .bf16⟩
  | 14 => ⟨S144x128, .f32⟩
  | 15 => ⟨S144x1024, .f32⟩
  | 16 => ⟨S128x14x1024, .f32⟩
  | 17 => ⟨S128x1024, .f32⟩
  | 18 => ⟨S128x1x1024, .f32⟩
  | 19 => ⟨S128x15x1024, .f32⟩
  | 20 => ⟨S128x2x128, .f32⟩
  | 21 => ⟨S128x2x128, .f32⟩
  | 22 => ⟨S128x64, .f32⟩
  | 23 => ⟨S128x1024, .bf16⟩
  | 24 => ⟨S128x1024, .f32⟩
  | 25 => ⟨S128x1024, .bf16⟩
  | 26 => ⟨S128x1024, .f32⟩
  | 27 => ⟨S128x16, .f32⟩
  | 28 => ⟨S16x2x128, .f32⟩
  | 29 => ⟨S16x2x128, .f32⟩
  | 30 => ⟨S16x64, .f32⟩
  | 31 => ⟨S16x1024, .f32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | .local _ .vmem, ⟨0, _⟩ => ⟨S144x2048, .f32⟩
  | .local _ .vmem, ⟨1, _⟩ => ⟨S1x2048, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S144x128, .f32⟩
  | .local _ .vmem, ⟨7, _⟩ => ⟨S144x128, .f32⟩
  | .local _ .vmem, ⟨8, _⟩ => ⟨S144x128, .f32⟩
  | .local _ .vmem, ⟨9, _⟩ => ⟨S144x128, .f32⟩
  | .local _ .vmem, ⟨10, _⟩ => ⟨S2048x1024, .bf16⟩
  | .local _ .vmem, ⟨11, _⟩ => ⟨S2048x512, .bf16⟩
  | .local _ .vmem, ⟨12, _⟩ => ⟨S2048x1024, .bf16⟩
  | .local _ .vmem, ⟨13, _⟩ => ⟨S2048x128, .bf16⟩
  | .local _ .vmem, ⟨14, _⟩ => ⟨S2048x1024, .bf16⟩
  | .local _ .vmem, ⟨15, _⟩ => ⟨S144x1024, .bf16⟩
  | .local _ .vmem, ⟨16, _⟩ => ⟨S144x2x128, .f32⟩
  | .local _ .vmem, ⟨17, _⟩ => ⟨S144x2x128, .f32⟩
  | .local _ .vmem, ⟨18, _⟩ => ⟨S144x256, .bf16⟩
  | .local _ .vmem, ⟨19, _⟩ => ⟨S144x256, .bf16⟩
  | .local _ .vmem, ⟨20, _⟩ => ⟨S144x1024, .bf16⟩
  | .local _ .vmem, ⟨21, _⟩ => ⟨S144x128, .f32⟩
  | .local _ .vmem, ⟨22, _⟩ => ⟨S144x1024, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_13 : Ref sig .tc := ⟨.hbm, 110, rfl⟩
abbrev main_v89 : Ref sig .tc := ⟨.hbm, 111, rfl⟩
abbrev main_v90 : Ref sig .tc := ⟨.hbm, 112, rfl⟩
abbrev main_cst_14 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_15 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111_0 : Ref sig .tc := ⟨.hbm, 136, rfl⟩
abbrev main_v111_1 : Ref sig .tc := ⟨.hbm, 137, rfl⟩
abbrev main_v111_2 : Ref sig .tc := ⟨.hbm, 138, rfl⟩
abbrev main_v111_3 : Ref sig .tc := ⟨.hbm, 139, rfl⟩
abbrev main_v111_4 : Ref sig .tc := ⟨.hbm, 140, rfl⟩
abbrev main_v111_5 : Ref sig .tc := ⟨.hbm, 141, rfl⟩
abbrev main_v111_6 : Ref sig .tc := ⟨.hbm, 142, rfl⟩
abbrev main_v111_7 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S144x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S144x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S144x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S144x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S144x2x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S144x2x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S144x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S144x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S144x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S144x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S144x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]
-- ==== ProjReferenceIdeal.lean ====
abbrev S128x2048 : Shape := ⟨2, ![128, 2048]⟩
abbrev S16x2048 : Shape := ⟨2, ![16, 2048]⟩
abbrev S128x15x1024 : Shape := ⟨3, ![128, 15, 1024]⟩
abbrev S2048 : Shape := ⟨1, ![2048]⟩
abbrev S2048x3664 : Shape := ⟨2, ![2048, 3664]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x3664 : Shape := ⟨2, ![128, 3664]⟩
abbrev S128x1024 : Shape := ⟨2, ![128, 1024]⟩
abbrev S128x256 : Shape := ⟨2, ![128, 256]⟩
abbrev S128x64 : Shape := ⟨2, ![128, 64]⟩
abbrev S128x16 : Shape := ⟨2, ![128, 16]⟩
abbrev S128x8x128 : Shape := ⟨3, ![128, 8, 128]⟩
abbrev S64 : Shape := ⟨1, ![64]⟩
abbrev S1x64 : Shape := ⟨2, ![1, 64]⟩
abbrev S128x1x64 : Shape := ⟨3, ![128, 1, 64]⟩
abbrev S128x8x64 : Shape := ⟨3, ![128, 8, 64]⟩
abbrev S128x2x128 : Shape := ⟨3, ![128, 2, 128]⟩
abbrev S128x2x64 : Shape := ⟨3, ![128, 2, 64]⟩
abbrev S128x16x64 : Shape := ⟨3, ![128, 16, 64]⟩
abbrev S32 : Shape := ⟨1, ![32]⟩
abbrev S1x32 : Shape := ⟨2, ![1, 32]⟩
abbrev S128x32 : Shape := ⟨2, ![128, 32]⟩
abbrev S128x1x32 : Shape := ⟨3, ![128, 1, 32]⟩
abbrev S128x16x32 : Shape := ⟨3, ![128, 16, 32]⟩
abbrev S128x1x1024 : Shape := ⟨3, ![128, 1, 1024]⟩
abbrev S128x16x1024 : Shape := ⟨3, ![128, 16, 1024]⟩
abbrev S16 : Shape := ⟨1, ![16]⟩
abbrev S16x1 : Shape := ⟨2, ![16, 1]⟩
abbrev S16x3664 : Shape := ⟨2, ![16, 3664]⟩
abbrev S16x1024 : Shape := ⟨2, ![16, 1024]⟩
abbrev S16x256 : Shape := ⟨2, ![16, 256]⟩
abbrev S16x64 : Shape := ⟨2, ![16, 64]⟩
abbrev S16x16 : Shape := ⟨2, ![16, 16]⟩
abbrev S16x8x128 : Shape := ⟨3, ![16, 8, 128]⟩
abbrev S16x1x64 : Shape := ⟨3, ![16, 1, 64]⟩
abbrev S16x8x64 : Shape := ⟨3, ![16, 8, 64]⟩
abbrev S16x2x128 : Shape := ⟨3, ![16, 2, 128]⟩
abbrev S16x2x64 : Shape := ⟨3, ![16, 2, 64]⟩
abbrev S16x16x64 : Shape := ⟨3, ![16, 16, 64]⟩
abbrev S16x32 : Shape := ⟨2, ![16, 32]⟩
abbrev S16x1x32 : Shape := ⟨3, ![16, 1, 32]⟩
abbrev S16x16x32 : Shape := ⟨3, ![16, 16, 32]⟩

abbrev nBuf : Space → Nat
  | .hbm => 367
  | .vmem => 0
  | .smem => 0
  | _ => 0

abbrev hbmTy0_0 (i : Nat) : BufTy := match i % 128 with
  | 0 => ⟨S128x2048, .f32⟩
  | 1 => ⟨S16x2048, .f32⟩
  | 2 => ⟨S128x15x1024, .f32⟩
  | 3 => ⟨S2048, .f32⟩
  | 4 => ⟨S2048x3664, .f32⟩
  | 5 => ⟨S_, .i32⟩
  | 6 => ⟨S128, .i32⟩
  | 7 => ⟨S128x2048, .f32⟩
  | 8 => ⟨S_, .f32⟩
  | 9 => ⟨S128, .f32⟩
  | 10 => ⟨S128x1, .f32⟩
  | 11 => ⟨S_, .f32⟩
  | 12 => ⟨S128x1, .f32⟩
  | 13 => ⟨S128x1, .f32⟩
  | 14 => ⟨S_, .f32⟩
  | 15 => ⟨S128x1, .f32⟩
  | 16 => ⟨S128x1, .f32⟩
  | 17 => ⟨S128x1, .f32⟩
  | 18 => ⟨S128x2048, .f32⟩
  | 19 => ⟨S128x2048, .f32⟩
  | 20 => ⟨S1x2048, .f32⟩
  | 21 => ⟨S128x2048, .f32⟩
  | 22 => ⟨S128x2048, .f32⟩
  | 23 => ⟨S128x3664, .f32⟩
  | 24 => ⟨S128x1024, .f32⟩
  | 25 => ⟨S128x256, .f32⟩
  | 26 => ⟨S128x256, .f32⟩
  | 27 => ⟨S128x1024, .f32⟩
  | 28 => ⟨S128x64, .f32⟩
  | 29 => ⟨S128x16, .f32⟩
  | 30 => ⟨S128x1024, .f32⟩
  | 31 => ⟨S128x8x128, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S128, .f32⟩
  | 47 => ⟨S128x1, .f32⟩
  | 48 => ⟨S1x64, .f32⟩
  | 49 => ⟨S128x64, .f32⟩
  | 50 => ⟨S128x64, .f32⟩
  | 51 => ⟨S128x64, .f32⟩
  | 52 => ⟨S128x64, .f32⟩
  | 53 => ⟨S128x1x64, .f32⟩
  | 54 => ⟨S128x64, .f32⟩
  | 55 => ⟨S128x1x64, .f32⟩
  | 56 => ⟨S128x8x64, .f32⟩
  | 57 => ⟨S128x8x64, .f32⟩
  | 58 => ⟨S128x8x64, .f32⟩
  | 59 => ⟨S128x8x64, .f32⟩
  | 60 => ⟨S128x8x64, .f32⟩
  | 61 => ⟨S128x8x64, .f32⟩
  | 62 => ⟨S128x8x64, .f32⟩
  | 63 => ⟨S128x8x64, .f32⟩
  | 64 => ⟨S128x8x64, .f32⟩
  | 65 => ⟨S128x8x64, .f32⟩
  | 66 => ⟨S128x8x64, .f32⟩
  | 67 => ⟨S128x8x64, .f32⟩
  | 68 => ⟨S128x8x128, .f32⟩
  | 69 => ⟨S128x2x128, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S128, .f32⟩
  | 85 => ⟨S128x1, .f32⟩
  | 86 => ⟨S1x64, .f32⟩
  | 87 => ⟨S128x64, .f32⟩
  | 88 => ⟨S128x64, .f32⟩
  | 89 => ⟨S128x64, .f32⟩
  | 90 => ⟨S128x64, .f32⟩
  | 91 => ⟨S128x1x64, .f32⟩
  | 92 => ⟨S128x64, .f32⟩
  | 93 => ⟨S128x1x64, .f32⟩
  | 94 => ⟨S128x2x64, .f32⟩
  | 95 => ⟨S128x2x64, .f32⟩
  | 96 => ⟨S128x2x64, .f32⟩
  | 97 => ⟨S128x2x64, .f32⟩
  | 98 => ⟨S128x2x64, .f32⟩
  | 99 => ⟨S128x2x64, .f32⟩
  | 100 => ⟨S128x2x64, .f32⟩
  | 101 => ⟨S128x2x64, .f32⟩
  | 102 => ⟨S128x2x64, .f32⟩
  | 103 => ⟨S128x2x64, .f32⟩
  | 104 => ⟨S128x2x64, .f32⟩
  | 105 => ⟨S128x2x64, .f32⟩
  | 106 => ⟨S128x2x128, .f32⟩
  | 107 => ⟨S128x2x128, .f32⟩
  | 108 => ⟨S128x16x64, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S128, .f32⟩
  | 124 => ⟨S128x1, .f32⟩
  | 125 => ⟨S1x32, .f32⟩
  | 126 => ⟨S128x32, .f32⟩
  | 127 => ⟨S128x32, .f32⟩
  | _ => ⟨S128x2048, .f32⟩

abbrev hbmTy0_1 (i : Nat) : BufTy := match i % 128 with
  | 0 => ⟨S128x32, .f32⟩
  | 1 => ⟨S128x32, .f32⟩
  | 2 => ⟨S128x1x32, .f32⟩
  | 3 => ⟨S128x32, .f32⟩
  | 4 => ⟨S128x1x32, .f32⟩
  | 5 => ⟨S128x16x32, .f32⟩
  | 6 => ⟨S128x16x32, .f32⟩
  | 7 => ⟨S128x16x32, .f32⟩
  | 8 => ⟨S128x16x32, .f32⟩
  | 9 => ⟨S128x16x32, .f32⟩
  | 10 => ⟨S128x16x32, .f32⟩
  | 11 => ⟨S128x16x32, .f32⟩
  | 12 => ⟨S128x16x32, .f32⟩
  | 13 => ⟨S128x16x32, .f32⟩
  | 14 => ⟨S128x16x32, .f32⟩
  | 15 => ⟨S128x16x32, .f32⟩
  | 16 => ⟨S128x16x32, .f32⟩
  | 17 => ⟨S128x16x64, .f32⟩
  | 18 => ⟨S128x1x64, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S128, .f32⟩
  | 34 => ⟨S128x1, .f32⟩
  | 35 => ⟨S1x32, .f32⟩
  | 36 => ⟨S128x32, .f32⟩
  | 37 => ⟨S128x32, .f32⟩
  | 38 => ⟨S128x32, .f32⟩
  | 39 => ⟨S128x32, .f32⟩
  | 40 => ⟨S128x1x32, .f32⟩
  | 41 => ⟨S128x32, .f32⟩
  | 42 => ⟨S128x1x32, .f32⟩
  | 43 => ⟨S128x1x32, .f32⟩
  | 44 => ⟨S128x1x32, .f32⟩
  | 45 => ⟨S128x1x32, .f32⟩
  | 46 => ⟨S128x1x32, .f32⟩
  | 47 => ⟨S128x1x32, .f32⟩
  | 48 => ⟨S128x1x32, .f32⟩
  | 49 => ⟨S128x1x32, .f32⟩
  | 50 => ⟨S128x1x32, .f32⟩
  | 51 => ⟨S128x1x64, .f32⟩
  | 52 => ⟨S128x64, .f32⟩
  | 53 => ⟨S_, .f32⟩
  | 54 => ⟨S128x16, .f32⟩
  | 55 => ⟨S128x16, .f32⟩
  | 56 => ⟨S128x1x1024, .f32⟩
  | 57 => ⟨S128x16x1024, .f32⟩
  | 58 => ⟨S128x15x1024, .f32⟩
  | 59 => ⟨S16, .i32⟩
  | 60 => ⟨S16x2048, .f32⟩
  | 61 => ⟨S_, .f32⟩
  | 62 => ⟨S16, .f32⟩
  | 63 => ⟨S16x1, .f32⟩
  | 64 => ⟨S_, .f32⟩
  | 65 => ⟨S16x1, .f32⟩
  | 66 => ⟨S16x1, .f32⟩
  | 67 => ⟨S_, .f32⟩
  | 68 => ⟨S16x1, .f32⟩
  | 69 => ⟨S16x1, .f32⟩
  | 70 => ⟨S16x1, .f32⟩
  | 71 => ⟨S16x2048, .f32⟩
  | 72 => ⟨S16x2048, .f32⟩
  | 73 => ⟨S1x2048, .f32⟩
  | 74 => ⟨S16x2048, .f32⟩
  | 75 => ⟨S16x2048, .f32⟩
  | 76 => ⟨S16x3664, .f32⟩
  | 77 => ⟨S16x1024, .f32⟩
  | 78 => ⟨S16x256, .f32⟩
  | 79 => ⟨S16x256, .f32⟩
  | 80 => ⟨S16x1024, .f32⟩
  | 81 => ⟨S16x64, .f32⟩
  | 82 => ⟨S16x16, .f32⟩
  | 83 => ⟨S16x1024, .f32⟩
  | 84 => ⟨S16x8x128, .f32⟩
  | 85 => ⟨S64, .f32⟩
  | 86 => ⟨S_, .f32⟩
  | 87 => ⟨S64, .f32⟩
  | 88 => ⟨S64, .f32⟩
  | 89 => ⟨S_, .f32⟩
  | 90 => ⟨S64, .f32⟩
  | 91 => ⟨S64, .f32⟩
  | 92 => ⟨S64, .f32⟩
  | 93 => ⟨S_, .f32⟩
  | 94 => ⟨S64, .f32⟩
  | 95 => ⟨S64, .f32⟩
  | 96 => ⟨S_, .f32⟩
  | 97 => ⟨S64, .f32⟩
  | 98 => ⟨S64, .f32⟩
  | 99 => ⟨S16, .f32⟩
  | 100 => ⟨S16x1, .f32⟩
  | 101 => ⟨S1x64, .f32⟩
  | 102 => ⟨S16x64, .f32⟩
  | 103 => ⟨S16x64, .f32⟩
  | 104 => ⟨S16x64, .f32⟩
  | 105 => ⟨S16x64, .f32⟩
  | 106 => ⟨S16x1x64, .f32⟩
  | 107 => ⟨S16x64, .f32⟩
  | 108 => ⟨S16x1x64, .f32⟩
  | 109 => ⟨S16x8x64, .f32⟩
  | 110 => ⟨S16x8x64, .f32⟩
  | 111 => ⟨S16x8x64, .f32⟩
  | 112 => ⟨S16x8x64, .f32⟩
  | 113 => ⟨S16x8x64, .f32⟩
  | 114 => ⟨S16x8x64, .f32⟩
  | 115 => ⟨S16x8x64, .f32⟩
  | 116 => ⟨S16x8x64, .f32⟩
  | 117 => ⟨S16x8x64, .f32⟩
  | 118 => ⟨S16x8x64, .f32⟩
  | 119 => ⟨S16x8x64, .f32⟩
  | 120 => ⟨S16x8x64, .f32⟩
  | 121 => ⟨S16x8x128, .f32⟩
  | 122 => ⟨S16x2x128, .f32⟩
  | 123 => ⟨S64, .f32⟩
  | 124 => ⟨S_, .f32⟩
  | 125 => ⟨S64, .f32⟩
  | 126 => ⟨S64, .f32⟩
  | 127 => ⟨S_, .f32⟩
  | _ => ⟨S128x2048, .f32⟩

abbrev hbmTy0_2 (i : Nat) : BufTy := match i % 128 with
  | 0 => ⟨S64, .f32⟩
  | 1 => ⟨S64, .f32⟩
  | 2 => ⟨S64, .f32⟩
  | 3 => ⟨S_, .f32⟩
  | 4 => ⟨S64, .f32⟩
  | 5 => ⟨S64, .f32⟩
  | 6 => ⟨S_, .f32⟩
  | 7 => ⟨S64, .f32⟩
  | 8 => ⟨S64, .f32⟩
  | 9 => ⟨S16, .f32⟩
  | 10 => ⟨S16x1, .f32⟩
  | 11 => ⟨S1x64, .f32⟩
  | 12 => ⟨S16x64, .f32⟩
  | 13 => ⟨S16x64, .f32⟩
  | 14 => ⟨S16x64, .f32⟩
  | 15 => ⟨S16x64, .f32⟩
  | 16 => ⟨S16x1x64, .f32⟩
  | 17 => ⟨S16x64, .f32⟩
  | 18 => ⟨S16x1x64, .f32⟩
  | 19 => ⟨S16x2x64, .f32⟩
  | 20 => ⟨S16x2x64, .f32⟩
  | 21 => ⟨S16x2x64, .f32⟩
  | 22 => ⟨S16x2x64, .f32⟩
  | 23 => ⟨S16x2x64, .f32⟩
  | 24 => ⟨S16x2x64, .f32⟩
  | 25 => ⟨S16x2x64, .f32⟩
  | 26 => ⟨S16x2x64, .f32⟩
  | 27 => ⟨S16x2x64, .f32⟩
  | 28 => ⟨S16x2x64, .f32⟩
  | 29 => ⟨S16x2x64, .f32⟩
  | 30 => ⟨S16x2x64, .f32⟩
  | 31 => ⟨S16x2x128, .f32⟩
  | 32 => ⟨S16x2x128, .f32⟩
  | 33 => ⟨S16x16x64, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S16, .f32⟩
  | 49 => ⟨S16x1, .f32⟩
  | 50 => ⟨S1x32, .f32⟩
  | 51 => ⟨S16x32, .f32⟩
  | 52 => ⟨S16x32, .f32⟩
  | 53 => ⟨S16x32, .f32⟩
  | 54 => ⟨S16x32, .f32⟩
  | 55 => ⟨S16x1x32, .f32⟩
  | 56 => ⟨S16x32, .f32⟩
  | 57 => ⟨S16x1x32, .f32⟩
  | 58 => ⟨S16x16x32, .f32⟩
  | 59 => ⟨S16x16x32, .f32⟩
  | 60 => ⟨S16x16x32, .f32⟩
  | 61 => ⟨S16x16x32, .f32⟩
  | 62 => ⟨S16x16x32, .f32⟩
  | 63 => ⟨S16x16x32, .f32⟩
  | 64 => ⟨S16x16x32, .f32⟩
  | 65 => ⟨S16x16x32, .f32⟩
  | 66 => ⟨S16x16x32, .f32⟩
  | 67 => ⟨S16x16x32, .f32⟩
  | 68 => ⟨S16x16x32, .f32⟩
  | 69 => ⟨S16x16x32, .f32⟩
  | 70 => ⟨S16x16x64, .f32⟩
  | 71 => ⟨S16x1x64, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S16, .f32⟩
  | 87 => ⟨S16x1, .f32⟩
  | 88 => ⟨S1x32, .f32⟩
  | 89 => ⟨S16x32, .f32⟩
  | 90 => ⟨S16x32, .f32⟩
  | 91 => ⟨S16x32, .f32⟩
  | 92 => ⟨S16x32, .f32⟩
  | 93 => ⟨S16x1x32, .f32⟩
  | 94 => ⟨S16x32, .f32⟩
  | 95 => ⟨S16x1x32, .f32⟩
  | 96 => ⟨S16x1x32, .f32⟩
  | 97 => ⟨S16x1x32, .f32⟩
  | 98 => ⟨S16x1x32, .f32⟩
  | 99 => ⟨S16x1x32, .f32⟩
  | 100 => ⟨S16x1x32, .f32⟩
  | 101 => ⟨S16x1x32, .f32⟩
  | 102 => ⟨S16x1x32, .f32⟩
  | 103 => ⟨S16x1x32, .f32⟩
  | 104 => ⟨S16x1x64, .f32⟩
  | 105 => ⟨S16x64, .f32⟩
  | 106 => ⟨S_, .f32⟩
  | 107 => ⟨S16x16, .f32⟩
  | 108 => ⟨S16x16, .f32⟩
  | 109 => ⟨S128x1024, .f32⟩
  | 110 => ⟨S128x1024, .f32⟩
  | _ => ⟨S128x2048, .f32⟩

abbrev hbmTy (i : Nat) : BufTy := match i / 128 with
  | 0 => hbmTy0_0 i
  | 1 => hbmTy0_1 i
  | 2 => hbmTy0_2 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_10 : Ref sig .tc := ⟨.hbm, 110, rfl⟩
abbrev main_v93 : Ref sig .tc := ⟨.hbm, 111, rfl⟩
abbrev main_v94 : Ref sig .tc := ⟨.hbm, 112, rfl⟩
abbrev main_cst_11 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_12 : Ref sig .tc := ⟨.hbm, 117, rfl⟩
abbrev main_v98 : Ref sig .tc := ⟨.hbm, 118, rfl⟩
abbrev main_v99 : Ref sig .tc := ⟨.hbm, 119, rfl⟩
abbrev main_cst_13 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_14 : Ref sig .tc := ⟨.hbm, 148, rfl⟩
abbrev main_v127 : Ref sig .tc := ⟨.hbm, 149, rfl⟩
abbrev main_v128 : Ref sig .tc := ⟨.hbm, 150, rfl⟩
abbrev main_cst_15 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_cst_16 : Ref sig .tc := ⟨.hbm, 155, rfl⟩
abbrev main_v132 : Ref sig .tc := ⟨.hbm, 156, rfl⟩
abbrev main_v133 : Ref sig .tc := ⟨.hbm, 157, rfl⟩
abbrev main_cst_17 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_cst_18 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_cst_19 : Ref sig .tc := ⟨.hbm, 189, rfl⟩
abbrev main_v163 : Ref sig .tc := ⟨.hbm, 190, rfl⟩
abbrev main_v164 : Ref sig .tc := ⟨.hbm, 191, rfl⟩
abbrev main_cst_20 : Ref sig .tc := ⟨.hbm, 192, rfl⟩
abbrev main_v165 : Ref sig .tc := ⟨.hbm, 193, rfl⟩
abbrev main_v166 : Ref sig .tc := ⟨.hbm, 194, rfl⟩
abbrev main_cst_21 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_cst_22 : Ref sig .tc := ⟨.hbm, 214, rfl⟩
abbrev main_v185 : Ref sig .tc := ⟨.hbm, 215, rfl⟩
abbrev main_v186 : Ref sig .tc := ⟨.hbm, 216, rfl⟩
abbrev main_cst_23 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_cst_24 : Ref sig .tc := ⟨.hbm, 221, rfl⟩
abbrev main_v190 : Ref sig .tc := ⟨.hbm, 222, rfl⟩
abbrev main_v191 : Ref sig .tc := ⟨.hbm, 223, rfl⟩
abbrev main_cst_25 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_cst_26 : Ref sig .tc := ⟨.hbm, 252, rfl⟩
abbrev main_v219 : Ref sig .tc := ⟨.hbm, 253, rfl⟩
abbrev main_v220 : Ref sig .tc := ⟨.hbm, 254, rfl⟩
abbrev main_cst_27 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_cst_28 : Ref sig .tc := ⟨.hbm, 259, rfl⟩
abbrev main_v224 : Ref sig .tc := ⟨.hbm, 260, rfl⟩
abbrev main_v225 : Ref sig .tc := ⟨.hbm, 261, rfl⟩
abbrev main_cst_29 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_cst_30 : Ref sig .tc := ⟨.hbm, 291, rfl⟩
abbrev main_v254 : Ref sig .tc := ⟨.hbm, 292, rfl⟩
abbrev main_v255 : Ref sig .tc := ⟨.hbm, 293, rfl⟩
abbrev main_cst_31 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_cst_32 : Ref sig .tc := ⟨.hbm, 298, rfl⟩
abbrev main_v259 : Ref sig .tc := ⟨.hbm, 299, rfl⟩
abbrev main_v260 : Ref sig .tc := ⟨.hbm, 300, rfl⟩
abbrev main_cst_33 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_cst_34 : Ref sig .tc := ⟨.hbm, 329, rfl⟩
abbrev main_v288 : Ref sig .tc := ⟨.hbm, 330, rfl⟩
abbrev main_v289 : Ref sig .tc := ⟨.hbm, 331, rfl⟩
abbrev main_cst_35 : Ref sig .tc := ⟨.hbm, 332, rfl⟩
abbrev main_v290 : Ref sig .tc := ⟨.hbm, 333, rfl⟩
abbrev main_v291 : Ref sig .tc := ⟨.hbm, 334, rfl⟩
abbrev main_v292 : Ref sig .tc := ⟨.hbm, 335, rfl⟩
abbrev main_cst_36 : Ref sig .tc := ⟨.hbm, 336, rfl⟩
abbrev main_v293 : Ref sig .tc := ⟨.hbm, 337, rfl⟩
abbrev main_v294 : Ref sig .tc := ⟨.hbm, 338, rfl⟩
abbrev main_cst_37 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_cst_38 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩

abbrev nD : Nat := 1
abbrev τ : Topo := Topo.v7x

variable {F : FTy → Type} [FloatOps F]
-- ==== Last.lean ====
abbrev S128x2048 : Shape := ⟨2, ![128, 2048]⟩
abbrev S128x1024 : Shape := ⟨2, ![128, 1024]⟩
abbrev S4x256x256 : Shape := ⟨3, ![4, 256, 256]⟩
abbrev S1024 : Shape := ⟨1, ![1024]⟩
abbrev S2048x2048 : Shape := ⟨2, ![2048, 2048]⟩
abbrev S2048 : Shape := ⟨1, ![2048]⟩
abbrev S2048x8192 : Shape := ⟨2, ![2048, 8192]⟩
abbrev S8192x2048 : Shape := ⟨2, ![8192, 2048]⟩
abbrev S1024x2048 : Shape := ⟨2, ![1024, 2048]⟩
abbrev S1x1024 : Shape := ⟨2, ![1, 1024]⟩
abbrev S1x2048 : Shape := ⟨2, ![1, 2048]⟩
abbrev S2048x1024 : Shape := ⟨2, ![2048, 1024]⟩
abbrev S128x256 : Shape := ⟨2, ![128, 256]⟩
abbrev S1x256x256 : Shape := ⟨3, ![1, 256, 256]⟩
abbrev S256x256 : Shape := ⟨2, ![256, 256]⟩
abbrev S128 : Shape := ⟨1, ![128]⟩
abbrev S128x1 : Shape := ⟨2, ![128, 1]⟩

abbrev nBuf : Space → Nat
  | .hbm => 22
  | .vmem => 15
  | .smem => 0
  | _ => 0

abbrev bufTy : (tb : Table) → Fin (tcTables nBuf tb) → BufTy
  | .hbm, ⟨0, _⟩ => ⟨S128x2048, .f32⟩
  | .hbm, ⟨1, _⟩ => ⟨S128x1024, .f32⟩
  | .hbm, ⟨2, _⟩ => ⟨S128x1024, .f32⟩
  | .hbm, ⟨3, _⟩ => ⟨S4x256x256, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048x8192, .f32⟩
  | .hbm, ⟨8, _⟩ => ⟨S8192x2048, .f32⟩
  | .hbm, ⟨9, _⟩ => ⟨S2048, .f32⟩
  | .hbm, ⟨10, _⟩ => ⟨S128x1024, .bf16⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S4x256x256, .bf16⟩
  | .hbm, ⟨16, _⟩ => ⟨S2048x8192, .bf16⟩
  | .hbm, ⟨17, _⟩ => ⟨S8192x2048, .bf16⟩
  | .hbm, ⟨18, _⟩ => ⟨S1x1024, .f32⟩
  | .hbm, ⟨19, _⟩ => ⟨S1x2048, .f32⟩
  | .hbm, ⟨20, _⟩ => ⟨S1x2048, .f32⟩
  | .hbm, ⟨21, _⟩ => ⟨S128x2048, .f32⟩
  | .local _ .vmem, ⟨0, _⟩ => ⟨S128x2048, .f32⟩
  | .local _ .vmem, ⟨1, _⟩ => ⟨S128x1024, .bf16⟩
  | .local _ .vmem, ⟨2, _⟩ => ⟨S128x1024, .f32⟩
  | .local _ .vmem, ⟨3, _⟩ => ⟨S1024x2048, .bf16⟩
  | .local _ .vmem, ⟨4, _⟩ => ⟨S1024x2048, .bf16⟩
  | .local _ .vmem, ⟨5, _⟩ => ⟨S4x256x256, .bf16⟩
  | .local _ .vmem, ⟨6, _⟩ => ⟨S1x1024, .f32⟩
  | .local _ .vmem, ⟨7, _⟩ => ⟨S1x2048, .f32⟩
  | .local _ .vmem, ⟨8, _⟩ => ⟨S1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S128x2048, .f32⟩
  | .local _ .vmem, ⟨14, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== LastReferenceIdeal.lean ====
abbrev S128x2048 : Shape := ⟨2, ![128, 2048]⟩
abbrev S128x1024 : Shape := ⟨2, ![128, 1024]⟩
abbrev S4x256x256 : Shape := ⟨3, ![4, 256, 256]⟩
abbrev S1024 : Shape := ⟨1, ![1024]⟩
abbrev S2048x2048 : Shape := ⟨2, ![2048, 2048]⟩
abbrev S2048 : Shape := ⟨1, ![2048]⟩
abbrev S2048x8192 : Shape := ⟨2, ![2048, 8192]⟩
abbrev S8192x2048 : Shape := ⟨2, ![8192, 2048]⟩
abbrev S128x4x256 : Shape := ⟨3, ![128, 4, 256]⟩
abbrev S4x256x128 : Shape := ⟨3, ![4, 256, 128]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x8192 : Shape := ⟨2, ![128, 8192]⟩

abbrev nBuf : Space → Nat
  | .hbm => 59
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x1024, .f32⟩
  | .hbm, ⟨2, _⟩ => ⟨S128x1024, .f32⟩
  | .hbm, ⟨3, _⟩ => ⟨S4x256x256, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048x8192, .f32⟩
  | .hbm, ⟨8, _⟩ => ⟨S8192x2048, .f32⟩
  | .hbm, ⟨9, _⟩ => ⟨S2048, .f32⟩
  | .hbm, ⟨10, _⟩ => ⟨S128x4x256, .f32⟩
  | .hbm, ⟨11, _⟩ => ⟨S4x256x128, .f32⟩
  | .hbm, ⟨12, _⟩ => ⟨S128x4x256, .f32⟩
  | .hbm, ⟨13, _⟩ => ⟨S128x1024, .f32⟩
  | .hbm, ⟨14, _⟩ => ⟨S1x1024, .f32⟩
  | .hbm, ⟨15, _⟩ => ⟨S128x1024, .f32⟩
  | .hbm, ⟨16, _⟩ => ⟨S128x1024, .f32⟩
  | .hbm, ⟨17, _⟩ => ⟨S128x2048, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128, .f32⟩
  | .hbm, ⟨23, _⟩ => ⟨S128x1, .f32⟩
  | .hbm, ⟨24, _⟩ => ⟨S_, .f32⟩
  | .hbm, ⟨25, _⟩ => ⟨S128x1, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S128x1, .f32⟩
  | .hbm, ⟨31, _⟩ => ⟨S128x2048, .f32⟩
  | .hbm, ⟨32, _⟩ => ⟨S128x2048, .f32⟩
  | .hbm, ⟨33, _⟩ => ⟨S1x2048, .f32⟩
  | .hbm, ⟨34, _⟩ => ⟨S128x2048, .f32⟩
  | .hbm, ⟨35, _⟩ => ⟨S128x2048, .f32⟩
  | .hbm, ⟨36, _⟩ => ⟨S128x8192, .f32⟩
  | .hbm, ⟨37, _⟩ => ⟨S_, .f32⟩
  | .hbm, ⟨38, _⟩ => ⟨S128x8192, .f32⟩
  | .hbm, ⟨39, _⟩ => ⟨S128x8192, .f32⟩
  | .hbm, ⟨40, _⟩ => ⟨S128x8192, .f32⟩
  | .hbm, ⟨41, _⟩ => ⟨S128x2048, .f32⟩
  | .hbm, ⟨42, _⟩ => ⟨S128x2048, .f32⟩
  | .hbm, ⟨43, _⟩ => ⟨S128x2048, .f32⟩
  | .hbm, ⟨44, _⟩ => ⟨S_, .f32⟩
  | .hbm, ⟨45, _⟩ => ⟨S128, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S_, .f32⟩
  | .hbm, ⟨51, _⟩ => ⟨S128x1, .f32⟩
  | .hbm, ⟨52, _⟩ => ⟨S128x1, .f32⟩
  | .hbm, ⟨53, _⟩ => ⟨S128x1, .f32⟩
  | .hbm, ⟨54, _⟩ => ⟨S128x2048, .f32⟩
  | .hbm, ⟨55, _⟩ => ⟨S128x2048, .f32⟩
  | .hbm, ⟨56, _⟩ => ⟨S1x2048, .f32⟩
  | .hbm, ⟨57, _⟩ => ⟨S128x2048, .f32⟩
  | .hbm, ⟨58, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Pool.lean ====
abbrev S128x15x1024 : Shape := ⟨3, ![128, 15, 1024]⟩
abbrev S128x1024 : Shape := ⟨2, ![128, 1024]⟩
abbrev S15x128x1024 : Shape := ⟨3, ![15, 128, 1024]⟩
abbrev S128x256 : Shape := ⟨2, ![128, 256]⟩
abbrev S1x128x256 : Shape := ⟨3, ![1, 128, 256]⟩

abbrev nBuf : Space → Nat
  | .hbm => 4
  | .vmem => 3
  | .smem => 0
  | _ => 0

abbrev bufTy : (tb : Table) → Fin (tcTables nBuf tb) → BufTy
  | .hbm, ⟨0, _⟩ => ⟨S128x15x1024, .f32⟩
  | .hbm, ⟨1, _⟩ => ⟨S128x1024, .f32⟩
  | .hbm, ⟨2, _⟩ => ⟨S15x128x1024, .f32⟩
  | .hbm, ⟨3, _⟩ => ⟨S128x1024, .f32⟩
  | .local _ .vmem, ⟨0, _⟩ => ⟨S15x128x1024, .f32⟩
  | .local _ .vmem, ⟨1, _⟩ => ⟨S128x1024, .f32⟩
  | .local _ .vmem, ⟨2, _⟩ => ⟨S128x1024, .f32⟩
  | _, _ => ⟨S128x15x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S15x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== PoolReferenceIdeal.lean ====
abbrev S128x15x1024 : Shape := ⟨3, ![128, 15, 1024]⟩
abbrev S128x1024 : Shape := ⟨2, ![128, 1024]⟩
abbrev S128x1x1024 : Shape := ⟨3, ![128, 1, 1024]⟩
abbrev S128x16x1024 : Shape := ⟨3, ![128, 16, 1024]⟩
abbrev S128x2x256 : Shape := ⟨3, ![128, 2, 256]⟩
abbrev S_ : Shape := ⟨0, ![]⟩
abbrev S128x256 : Shape := ⟨2, ![128, 256]⟩
abbrev S128x4x256 : Shape := ⟨3, ![128, 4, 256]⟩
abbrev S128x8x256 : Shape := ⟨3, ![128, 8, 256]⟩
abbrev S128x16x256 : Shape := ⟨3, ![128, 16, 256]⟩

abbrev nBuf : Space → Nat
  | .hbm => 37
  | .vmem => 0
  | .smem => 0
  | _ => 0

abbrev bufTy : (tb : Table) → Fin (tcTables nBuf tb) → BufTy
  | .hbm, ⟨0, _⟩ => ⟨S128x15x1024, .f32⟩
  | .hbm, ⟨1, _⟩ => ⟨S128x1024, .f32⟩
  | .hbm, ⟨2, _⟩ => ⟨S128x1x1024, .f32⟩
  | .hbm, ⟨3, _⟩ => ⟨S128x16x1024, .f32⟩
  | .hbm, ⟨4, _⟩ => ⟨S128x2x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S128x256, .f32⟩
  | .hbm, ⟨12, _⟩ => ⟨S128x4x256, .f32⟩
  | .hbm, ⟨13, _⟩ => ⟨S_, .f32⟩
  | .hbm, ⟨14, _⟩ => ⟨S128x256, .f32⟩
  | .hbm, ⟨15, _⟩ => ⟨S_, .f32⟩
  | .hbm, ⟨16, _⟩ => ⟨S128x256, .f32⟩
  | .hbm, ⟨17, _⟩ => ⟨S128x256, .f32⟩
  | .hbm, ⟨18, _⟩ => ⟨S128x256, .f32⟩
  | .hbm, ⟨19, _⟩ => ⟨S128x256, .f32⟩
  | .hbm, ⟨20, _⟩ => ⟨S128x8x256, .f32⟩
  | .hbm, ⟨21, _⟩ => ⟨S_, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S128x256, .f32⟩
  | .hbm, ⟨27, _⟩ => ⟨S128x256, .f32⟩
  | .hbm, ⟨28, _⟩ => ⟨S128x16x256, .f32⟩
  | .hbm, ⟨29, _⟩ => ⟨S_, .f32⟩
  | .hbm, ⟨30, _⟩ => ⟨S128x256, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S128x1024, .f32⟩
  | _, _ => ⟨S128x15x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.Steps.lean ====
/-
  The bisection as functions of the scores. `bis X s` is one bisection step at the state `s = (lo, hi, done, tau)` over the
  scores `X`: the midpoint, the number of scores not below it (counted by `count`, 64 rows at a time, as the kernel counts),
  and the four selects. The kernel's two counted loops and the two halves of its unrolled step are these functions (the
  equations below hold by unfolding).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Tactic

@[expose] public section

set_option maxRecDepth 16384

noncomputable section

namespace Cert.Proof.Mask

open Cert.KernelIdeal Cert.KernelIdeal.Gen
open Idealize.ShloMosaic Idealize.ShloMosaic.TcCoe
open Idealize.SL Idealize.SL.RA Idealize.SL.BI

variable {F : FTy → Type} [FloatOps F]

/-- The state of the bisection, one entry per sample: the lower end, the upper end, the flag that a sample is finished (0 or
    1), and the threshold found for it (infinite until one is). -/
abbrev St (F : FTy → Type) : Type := FVec F S1x128 .f32 × FVec F S1x128 .f32 × FVec F S1x128 .f32 × FVec F S1x128 .f32

/-- Rows `512 k … 512 k + 511` of the scores. -/
def chunk (X : Vec F S2560x128 .f32) (k : Fin 5) : Vec F S512x128 .f32 := fun j =>
  X (fun a => match a with
    | ⟨0, _⟩ => ⟨512 * k.val + (j 0).val, by have h : (j 0).val < 512 := (j 0).isLt; have := k.isLt; show _ < 2560; omega⟩
    | ⟨1, _⟩ => ⟨(j 1).val, (j 1).isLt⟩)

/-- One group of 64 rows: one more wherever the row's flag is set. -/
def bump (o : ℕ) (h : S512x128.Slices ![o, 0] S64x128) (hit : IVec S512x128 1) (acc : FVec F S64x128 .f32) : FVec F S64x128 .f32 :=
  select (extractStridedSlice S64x128 ![o, 0] hit h) (addf acc (broadcast S64x128 (Scalar.ofBits .f32 0x3F800000#32))) acc

/-- A chunk's eight groups of 64 rows, counted one after the other. -/
def tally (mid : FVec F S1x128 .f32) (acc : FVec F S64x128 .f32) (v : Vec F S512x128 .f32) : FVec F S64x128 .f32 :=
  let hit : IVec S512x128 1 := cmpf .oge v (broadcastTo S512x128 mid broadcasts_S1x128_S512x128)
  bump 448 slices_S512x128_o448_0_S64x128 hit (bump 384 slices_S512x128_o384_0_S64x128 hit
    (bump 320 slices_S512x128_o320_0_S64x128 hit (bump 256 slices_S512x128_o256_0_S64x128 hit
      (bump 192 slices_S512x128_o192_0_S64x128 hit (bump 128 slices_S512x128_o128_0_S64x128 hit
        (bump 64 slices_S512x128_o64_0_S64x128 hit (bump 0 slices_S512x128_o0_0_S64x128 hit acc)))))))

/-- The partial counts after the first `n` chunks. -/
def partials (X : Vec F S2560x128 .f32) (mid : FVec F S1x128 .f32) : ℕ → FVec F S64x128 .f32
  | 0 => broadcast S64x128 (Scalar.ofBits .f32 0x00000000#32)
  | n + 1 => if h : n < 5 then tally mid (partials X mid n) (chunk X ⟨n, h⟩) else partials X mid n

/-- The number of scores of each sample that are not below `mid`. -/
def count (X : Vec F S2560x128 .f32) (mid : FVec F S1x128 .f32) : FVec F S1x128 .f32 :=
  shapeCast S1x128 (multiReduction .add [0] S128 (partials X mid 5) 0x00000000#32 reduces_S64x128_S128 (.inl rfl) rfl) shapeCasts_S128_S1x128

/-- A state's midpoint. -/
def middle (lo hi : FVec F S1x128 .f32) : FVec F S1x128 .f32 :=
  addf lo (mulf (subf hi lo) (broadcast S1x128 (Scalar.ofBits .f32 0x3F000000#32)))

/-- One bisection step. -/
def bis (X : Vec F S2560x128 .f32) (s : St F) : St F :=
  let mid := middle s.1 s.2.1
  let n := count X mid
  let k : FVec F S1x128 .f32 := broadcast S1x128 (Scalar.ofBits .f32 0x43800000#32)
  let active : IVec S1x128 1 := cmpf .olt s.2.2.1 (broadcast S1x128 (Scalar.ofBits .f32 0x3F000000#32))
  let found : IVec S1x128 1 := cmpf .oeq n k
  let collapsed : IVec S1x128 1 := ori (cmpf .ole mid s.1) (cmpf .oge mid s.2.1)
  (select (andi active (cmpf .ogt n k)) mid s.1, select (andi active (cmpf .olt n k)) mid s.2.1,
    select (ori found collapsed) (broadcast S1x128 (Scalar.ofBits .f32 0x3F800000#32)) s.2.2.1,
    select (andi active found) mid s.2.2.2)

/-- The least flag of a state. -/
abbrev least (s : St F) : F .f32 := k0_pay19 s.2.2.1

/-- The label's test at trip `n` and state `s`: trips are left and some sample is unfinished. -/
def more (n : BitVec 32) (s : St F) : BitVec 1 :=
  Scalar.andi (Scalar.cmpi .slt n 320#32) (Scalar.cmpf .olt (least s) (Scalar.ofBits .f32 0x3F000000#32))

/-! ### The kernel's loops and halves are these -/

theorem pay29_eq (lo hi : FVec F S1x128 .f32) (acc : FVec F S64x128 .f32) (v : Vec F S512x128 .f32) :
    k0_pay29 lo hi acc v = tally (middle lo hi) acc v := rfl

theorem pay40_eq (lo hi d : FVec F S1x128 .f32) (p acc : FVec F S64x128 .f32) (v : Vec F S512x128 .f32) :
    k0_pay40 lo hi d p acc v = tally (middle (k0_pay33 lo hi d p) (k0_pay34 lo hi d p)) acc v := rfl

theorem pay62_eq (lo hi : FVec F S1x128 .f32) (acc : FVec F S64x128 .f32) (v : Vec F S512x128 .f32) :
    k0_pay62 lo hi acc v = tally (middle lo hi) acc v := rfl

theorem pay73_eq (lo hi d : FVec F S1x128 .f32) (p acc : FVec F S64x128 .f32) (v : Vec F S512x128 .f32) :
    k0_pay73 lo hi d p acc v = tally (middle (k0_pay66 lo hi d p) (k0_pay67 lo hi d p)) acc v := rfl

/-- The first half of the unrolled step. -/
theorem half1 (X : Vec F S2560x128 .f32) (lo hi d u : FVec F S1x128 .f32) :
    bis X (lo, hi, d, u) = (k0_pay33 lo hi d (partials X (middle lo hi) 5), k0_pay34 lo hi d (partials X (middle lo hi) 5),
      k0_pay36 lo hi d (partials X (middle lo hi) 5), k0_pay35 lo hi d u (partials X (middle lo hi) 5)) := rfl

theorem half1' (X : Vec F S2560x128 .f32) (lo hi d u : FVec F S1x128 .f32) :
    bis X (lo, hi, d, u) = (k0_pay66 lo hi d (partials X (middle lo hi) 5), k0_pay67 lo hi d (partials X (middle lo hi) 5),
      k0_pay69 lo hi d (partials X (middle lo hi) 5), k0_pay68 lo hi d u (partials X (middle lo hi) 5)) := rfl

/-- The whole unrolled step of the counted loop. -/
theorem both (X : Vec F S2560x128 .f32) (lo hi d u : FVec F S1x128 .f32) (p q : FVec F S64x128 .f32)
    (hp : p = partials X (middle lo hi) 5) (hq : q = partials X (middle (k0_pay33 lo hi d p) (k0_pay34 lo hi d p)) 5) :
    (k0_pay54 (k0_pay33 lo hi d p) (k0_pay36 lo hi d p) (k0_pay37 lo hi d p) (k0_pay41 q),
      k0_pay55 (k0_pay34 lo hi d p) (k0_pay36 lo hi d p) (k0_pay37 lo hi d p) (k0_pay41 q),
      k0_pay57 (k0_pay36 lo hi d p) (k0_pay38 lo hi d p) (k0_pay41 q),
      k0_pay56 (k0_pay35 lo hi d u p) (k0_pay36 lo hi d p) (k0_pay37 lo hi d p) (k0_pay41 q))
      = bis X (bis X (lo, hi, d, u)) := by
  subst hp; rw [half1]; subst hq; rfl

/-- The whole unrolled step of the label's function. -/
theorem both' (X : Vec F S2560x128 .f32) (lo hi d u : FVec F S1x128 .f32) (p q : FVec F S64x128 .f32)
    (hp : p = partials X (middle lo hi) 5) (hq : q = partials X (middle (k0_pay66 lo hi d p) (k0_pay67 lo hi d p)) 5) :
    (k0_pay23 (k0_pay66 lo hi d p) (k0_pay69 lo hi d p) (k0_pay70 lo hi d p) q,
      k0_pay24 (k0_pay67 lo hi d p) (k0_pay69 lo hi d p) (k0_pay70 lo hi d p) q,
      k0_pay26 (k0_pay69 lo hi d p) (k0_pay71 lo hi d p) q,
      k0_pay25 (k0_pay68 lo hi d u p) (k0_pay69 lo hi d p) (k0_pay70 lo hi d p) q)
      = bis X (bis X (lo, hi, d, u)) := by
  subst hp; rw [half1']; subst hq; rfl

end Cert.Proof.Mask

end
-- ==== Proof.Rounds.lean ====
/-
  The kernel's counted loops and its while loop, as specifications. Holding the scratch buffer at the scores `X`, a count
  loop returns `partials X mid 5` (`count_loop`), the unrolled loop's trip `bis X` applied twice (`trip`), and the while's
  label some number of double steps, stopped at the first state where its test fails (`label_le`, by induction on the trips
  it may still make: its counter only grows and it stops at 320).
-/
module

public import proofs.«01_k».proof.Proof.Steps

@[expose] public section

set_option maxRecDepth 16384

noncomputable section

namespace Cert.Proof.Mask

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The variants of the label's calls: the trips it may still make. -/
abbrev 𝒱₀ : Variants := Variants.nat

/-- The scratch buffer, whole, at contents `X`. -/
abbrev scr (c : Dev nD) (X : Vec F S2560x128 .f32) : sProp 𝕄 :=
  iprop((((c : Thread nD τ).loc cc0_scratch0) ↦{fullShare} (X : Buf (Elt F) ((c : Thread nD τ).loc cc0_scratch0))))

/-- What a load of 512 rows at row `512 k` reads. -/
theorem read_chunk (c : Dev nD) (X : Vec F S2560x128 .f32) (k : Fin 5) (off : Fin 2 → ℕ) (hoff : off = ![512 * k.val, 0])
    (h : ∀ a, off a + S512x128.size a ≤ S2560x128.size a) :
    (Memref.whole cc0_scratch0).view.readAt (Elt F) (Rect.unit (s := S2560x128) off S512x128.size h).toLoadRect
      (X : Buf (Elt F) ((c : Thread nD τ).loc cc0_scratch0)) = chunk X k := by
  subst hoff
  funext j
  show X _ = X _
  congr 1
  funext a
  apply Fin.ext
  match a with
  | ⟨0, _⟩ => show 512 * k.val + 1 * (j 0).val = 512 * k.val + (j 0).val; omega
  | ⟨1, _⟩ => show 0 + 1 * (j 1).val = (j 1).val; omega

section Loops

variable (𝒱 : Variants) (c : Dev nD) (bd : Option 𝒱.V) (E : Set ℕ) (X : Vec F S2560x128 .f32)

/-- A counted loop of five trips, each counting its chunk. -/
theorem count_loop (L : Scf.Loop 32) (hL : L.trips = 5) (ok : L.OK) (mid : FVec F S1x128 .f32)
    (body : Fin L.trips → FVec F S64x128 .f32 → Prog (TpuEff nD τ sig (Elt F) (Λ₀ F) .tc) (FVec F S64x128 .f32))
    (off : Fin L.trips → Fin 2 → ℕ) (hoff : ∀ k, off k = ![512 * k.val, 0])
    (inb : ∀ k a, off k a + S512x128.size a ≤ S2560x128.size a)
    (hb : ∀ k acc, body k acc = .op (.load (Memref.whole cc0_scratch0)
      (Rect.unit (s := S2560x128) (off k) S512x128.size (inb k)).toLoadRect (View.loadsAt_vmem h_S512x128)) fun v => .ret (tally mid acc v))
    (K : FVec F S64x128 .f32 → sProp 𝕄) :
    iprop(scr c X ∗ (scr c X -∗ K (partials X mid 5)))
      ⊢ wp frame (wpE (defs₀ (F := F)) 𝒱 (c : Thread nD τ) bd) E
          (Scf.Loop.for L ok (broadcast S64x128 (Scalar.ofBits .f32 0x00000000#32)) body) K := by
  have hstep : ∀ (k : Fin L.trips) (acc : FVec F S64x128 .f32),
      iprop(scr c X ∗ ⌜acc = partials X mid k.val⌝)
        ⊢ wp frame (wpE (defs₀ (F := F)) 𝒱 (c : Thread nD τ) bd) E (body k acc)
          (fun r => iprop(scr c X ∗ ⌜r = partials X mid (k.val + 1)⌝)) := by
    intro k acc
    have hk : k.val < 5 := hL ▸ k.isLt
    rw [hb]
    iintro ⟨H, %hacc⟩
    subst hacc
    iapply (wp_load 𝒱 (c : Thread nD τ) bd E (m := Memref.whole cc0_scratch0) (Finset.subset_univ _)) $$ H
    iintro H
    rw [wp_ret]; imodintro
    isplitl [H]
    · iexact H
    ipureintro
    rw [read_chunk c X ⟨k.val, hk⟩ (off k) (hoff k)]
    show _ = if h : k.val < 5 then _ else _
    rw [dif_pos hk]
  iintro ⟨H, HK⟩
  iapply (Scf.wp_for frame (wpE (defs₀ (F := F)) 𝒱 (c : Thread nD τ) bd) E L.lb L.ub L.st ok _ body
    (fun k acc => iprop(scr c X ∗ ⌜acc = partials X mid k⌝)) hstep)
  isplitl [H]
  · isplitl [H]
    · iexact H
    ipureintro; rfl
  iintro %acc ⟨H, %hacc⟩
  have e : acc = partials X mid 5 := by rw [hacc]; exact congrArg _ hL
  subst e
  iapply HK; iexact H

theorem trips2 : k0_t2_loop.trips = 5 := by decide
theorem trips3 : k0_t3_loop.trips = 5 := by decide
theorem trips4 : k0_t4_loop.trips = 5 := by decide
theorem trips5 : k0_t5_loop.trips = 5 := by decide
theorem trips1 : k0_t1_loop.trips = 8 := by decide
theorem off1 : ∀ k : Fin k0_t2_loop.trips, k0_off1 k = ![512 * k.val, 0] := by decide
theorem off2 : ∀ k : Fin k0_t3_loop.trips, k0_off2 k = ![512 * k.val, 0] := by decide
theorem off3 : ∀ k : Fin k0_t4_loop.trips, k0_off3 k = ![512 * k.val, 0] := by decide
theorem off4 : ∀ k : Fin k0_t5_loop.trips, k0_off4 k = ![512 * k.val, 0] := by decide

variable (arg0 : Memref sig .tc .vmem S2560x128 .f32) (harg0 : arg0.IsWhole) (arg1 : Memref sig .tc .vmem S2560x128 .f32) (harg1 : arg1.IsWhole)

/-- One trip of the unrolled loop is two bisection steps. -/
theorem trip (k : Fin k0_t1_loop.trips) (s : St F) (K : St F → sProp 𝕄) :
    iprop(scr c X ∗ (scr c X -∗ K (bis X (bis X s))))
      ⊢ wp frame (wpE (defs₀ (F := F)) 𝒱 (c : Thread nD τ) bd) E
          (k0_t1_body (F := F) arg0 harg0 arg1 harg1 (Memref.whole cc0_scratch0) (Memref.isWhole_whole _) k s) K := by
  obtain ⟨lo, hi, d, u⟩ := s
  unfold k0_t1_body
  simp only [k0_part1_eq_skeleton]
  unfold k0_part1_skel
  simp only [bind_assoc, pure_bind]
  iintro ⟨H, HK⟩
  rw [wp_bind]
  iapply (count_loop 𝒱 c bd E X k0_t2_loop trips2 k0_t2_ok (middle lo hi) _ (fun k => k0_off1 k) off1 (fun k => k0_off1_inb k) (fun _ _ => rfl))
  isplitl [H]; · iexact H
  iintro H
  rw [wp_bind]
  iapply (count_loop 𝒱 c bd E X k0_t3_loop trips3 k0_t3_ok
    (middle (k0_pay33 lo hi d (partials X (middle lo hi) 5)) (k0_pay34 lo hi d (partials X (middle lo hi) 5))) _
    (fun k => k0_off2 k) off2 (fun k => k0_off2_inb k) (fun _ _ => rfl))
  isplitl [H]; · iexact H
  iintro H
  rw [Prog.pure_eq_ret, wp_ret]; imodintro
  rw [both X lo hi d u _ _ rfl rfl]
  iapply HK; iexact H

/-- `n` double steps. -/
def twice (X : Vec F S2560x128 .f32) (n : ℕ) (s : St F) : St F := (fun s => bis X (bis X s))^[n] s

/-- The unrolled loop is eight double steps. -/
theorem unrolled (s : St F) (K : St F → sProp 𝕄) :
    iprop(scr c X ∗ (scr c X -∗ K (twice X 8 s)))
      ⊢ wp frame (wpE (defs₀ (F := F)) 𝒱 (c : Thread nD τ) bd) E
          (Scf.Loop.for k0_t1_loop k0_t1_ok s (k0_t1_body (F := F) arg0 harg0 arg1 harg1 (Memref.whole cc0_scratch0) (Memref.isWhole_whole _))) K := by
  have hstep : ∀ (k : Fin k0_t1_loop.trips) (acc : St F),
      iprop(scr c X ∗ ⌜acc = twice X k.val s⌝)
        ⊢ wp frame (wpE (defs₀ (F := F)) 𝒱 (c : Thread nD τ) bd) E
          (k0_t1_body (F := F) arg0 harg0 arg1 harg1 (Memref.whole cc0_scratch0) (Memref.isWhole_whole _) k acc)
          (fun r => iprop(scr c X ∗ ⌜r = twice X (k.val + 1) s⌝)) := by
    intro k acc
    iintro ⟨H, %hacc⟩
    iapply (trip 𝒱 c bd E X arg0 harg0 arg1 harg1 k acc)
    isplitl [H]; · iexact H
    iintro H
    isplitl [H]; · iexact H
    ipureintro
    rw [hacc]; unfold twice; rw [Function.iterate_succ_apply']
  iintro ⟨H, HK⟩
  iapply (Scf.wp_for frame (wpE (defs₀ (F := F)) 𝒱 (c : Thread nD τ) bd) E k0_t1_loop.lb k0_t1_loop.ub k0_t1_loop.st k0_t1_ok _ _
    (fun k acc => iprop(scr c X ∗ ⌜acc = twice X k s⌝)) hstep)
  isplitl [H]
  · isplitl [H]
    · iexact H
    ipureintro; rfl
  iintro %acc ⟨H, %hacc⟩
  have e : acc = twice X 8 s := by rw [hacc]; exact congrArg (fun n => twice X n s) trips1
  subst e
  iapply HK; iexact H

end Loops

/-! ### The while's label -/

/-- What the label returns from counter `a` and state `s`: the state after some number `j` of double steps, where the test
    fails, having passed at every state before. -/
def Stops (X : Vec F S2560x128 .f32) (a : ℕ) (s : St F) (r : BitVec 32 × St F) : Prop :=
  ∃ j, a + j ≤ 320 ∧ r = (BitVec.ofNat 32 (a + j), twice X j s) ∧ more (BitVec.ofNat 32 (a + j)) (twice X j s) ≠ 1#1
    ∧ ∀ i < j, more (BitVec.ofNat 32 (a + i)) (twice X i s) = 1#1

theorem Stops.here {X : Vec F S2560x128 .f32} {a : ℕ} {s : St F} (ha : a ≤ 320) (h : more (BitVec.ofNat 32 a) s ≠ 1#1) :
    Stops X a s (BitVec.ofNat 32 a, s) := ⟨0, ha, rfl, h, fun i hi => absurd hi (Nat.not_lt_zero i)⟩

theorem Stops.later {X : Vec F S2560x128 .f32} {a : ℕ} {s : St F} {r : BitVec 32 × St F} (h : more (BitVec.ofNat 32 a) s = 1#1)
    (hr : Stops X (a + 1) (bis X (bis X s)) r) : Stops X a s r := by
  obtain ⟨j, hj, hr, hn, hb⟩ := hr
  have e : ∀ i, twice X (i + 1) s = twice X i (bis X (bis X s)) := fun i => Function.iterate_succ_apply _ _ _
  have ea : ∀ i, a + (i + 1) = a + 1 + i := fun i => by omega
  refine ⟨j + 1, by omega, ?_, ?_, ?_⟩
  · rw [hr, e, ea j]
  · rw [e, ea j]; exact hn
  · intro i hi
    cases i with
    | zero => exact h
    | succ i => rw [e, ea i]; exact hb i (by omega)

/-- The label's specification at counter `a` and state `s`. -/
def spec (c : Dev nD) (X : Vec F S2560x128 .f32) (a : ℕ) (s : St F) : sWPT 𝕄 (BitVec 32 × St F) := do
  sWPT.consume (scr c X)
  let r ← sWPT.arbitrary
  sWPT.assume (Stops X a s r)
  sWPT.produce (scr c X)
  pure r

theorem spec_apply (c : Dev nD) (X : Vec F S2560x128 .f32) (a : ℕ) (s : St F) (K : BitVec 32 × St F → sProp 𝕄) :
    spec c X a s K = iprop(scr c X ∗ ∀ r : BitVec 32 × St F, ⌜Stops X a s r⌝ -∗ (scr c X -∗ K r)) := rfl

theorem more_top (s : St F) : more (BitVec.ofNat 32 320) s ≠ 1#1 := by
  unfold more
  rw [show Scalar.cmpi .slt (BitVec.ofNat 32 320) 320#32 = 0#1 from by decide]
  generalize Scalar.cmpf .olt (least s) (Scalar.ofBits .f32 0x3F000000#32) = b
  revert b; decide

theorem succ_word (a : ℕ) : Scalar.addi (BitVec.ofNat 32 a) 1#32 = BitVec.ofNat 32 (a + 1) := by
  show BitVec.ofNat 32 a + 1#32 = _
  rw [BitVec.ofNat_add]

/-- The label's function meets the specification, entered with `k` trips left. -/
theorem label_le (c : Dev nD) (E : Set ℕ) (X : Vec F S2560x128 .f32) (w : BitVec 1) :
    ∀ k a, a + k = 320 → ∀ (s : St F) (K : BitVec 32 × St F → sProp 𝕄), spec c X a s K
      ⊢ wp frame (wpE (defs₀ (F := F)) 𝒱₀ (c : Thread nD τ) (some k)) E
          (defs₀ (F := F) .tc 1 ⟨w, Memref.whole cc0_scratch0, Memref.isWhole_whole _, BitVec.ofNat 32 a, s.1, s.2.1, s.2.2.1, s.2.2.2⟩) K := by
  intro k
  induction k with
  | zero =>
    intro a ha s K
    obtain rfl : a = 320 := by omega
    rw [spec_apply]
    show _ ⊢ wp frame (wpE (defs₀ (F := F)) 𝒱₀ (c : Thread nD τ) (some 0)) E
      (cc0_while1 w (Memref.whole cc0_scratch0) (Memref.isWhole_whole _) (BitVec.ofNat 32 320) s.1 s.2.1 s.2.2.1 s.2.2.2) K
    simp only [cc0_while1_eq_skeleton]; unfold cc0_while1_skel
    have ht : ¬ more (BitVec.ofNat 32 320) s = 1#1 := more_top s
    unfold more least at ht
    simp only [ht, ↓reduceIte, Prog.pure_eq_ret]
    iintro ⟨H, HK⟩
    rw [wp_ret]; imodintro
    iapply HK
    · ipureintro; exact Stops.here (le_refl _) (more_top s)
    iexact H
  | succ k ih =>
    intro a ha s K
    rw [spec_apply]
    show _ ⊢ wp frame (wpE (defs₀ (F := F)) 𝒱₀ (c : Thread nD τ) (some (k + 1))) E
      (cc0_while1 w (Memref.whole cc0_scratch0) (Memref.isWhole_whole _) (BitVec.ofNat 32 a) s.1 s.2.1 s.2.2.1 s.2.2.2) K
    simp only [cc0_while1_eq_skeleton]; unfold cc0_while1_skel
    by_cases hm : more (BitVec.ofNat 32 a) s = 1#1
    · have ht := hm
      unfold more least at ht
      simp only [ht, ↓reduceIte, k0_part3_eq_skeleton]
      unfold k0_part3_skel
      simp only [bind_assoc, pure_bind]
      obtain ⟨lo, hi, d, u⟩ := s
      iintro ⟨H, HK⟩
      rw [wp_bind]
      iapply (count_loop 𝒱₀ c (some (k + 1)) E X k0_t4_loop trips4 k0_t4_ok (middle lo hi) _ (fun k => k0_off3 k) off3 (fun k => k0_off3_inb k) (fun _ _ => rfl))
      isplitl [H]; · iexact H
      iintro H
      rw [wp_bind]
      iapply (count_loop 𝒱₀ c (some (k + 1)) E X k0_t5_loop trips5 k0_t5_ok
        (middle (k0_pay66 lo hi d (partials X (middle lo hi) 5)) (k0_pay67 lo hi d (partials X (middle lo hi) 5))) _
        (fun k => k0_off4 k) off4 (fun k => k0_off4_inb k) (fun _ _ => rfl))
      isplitl [H]; · iexact H
      iintro H
      have eb := both' X lo hi d u _ _ rfl rfl
      have ih' := ih (a + 1) (by omega) (bis X (bis X (lo, hi, d, u)))
      rw [← eb] at ih'
      dsimp only at ih'
      simp only [Prog.lift, succ_word]
      iapply (wp_call_spec 𝒱₀ (c : Thread nD τ) (some (k + 1)) E (spec c X (a + 1) (bis X (bis X (lo, hi, d, u)))) k
        (fun v hv => by cases hv; exact Nat.lt_succ_self k) (by rw [← eb]; exact ih'))
      rw [spec_apply]
      isplitl [H]; · iexact H
      iintro %r %hr H
      rw [wp_ret]; imodintro
      iapply HK
      · ipureintro; exact Stops.later hm hr
      iexact H
    · have ht := hm
      unfold more least at ht
      simp only [ht, ↓reduceIte, Prog.pure_eq_ret]
      iintro ⟨H, HK⟩
      rw [wp_ret]; imodintro
      iapply HK
      · ipureintro; exact Stops.here (by omega) hm
      iexact H

end Cert.Proof.Mask

end
-- ==== Proof.Body.lean ====
/-
  The kernel's body. `Leaves x out` says what it may leave in the result's buffer over the scores `x`: for the state the
  while loop stops at, if no sample is unresolved, the mask of the scores not below the thresholds (`mask`); if some sample is
  unresolved the path that breaks ties by position runs, and nothing is said of the result. `body_triple` is the body's
  triple with that relation.
-/
module

public import proofs.«01_k».proof.Proof.Rounds
public import proofs.«01_k».proof.Proof.Gen.KernelIdeal.Loops
public import Idealize.ShloMosaic.Lib.VecWindow

@[expose] public section

set_option maxRecDepth 16384

noncomputable section

namespace Cert.Proof.Mask

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state the bisection starts from. -/
def first (x : Vec F S2560x128 .f32) : St F := (k0_pay45 x, k0_pay46 x, k0_pay48 x, k0_pay49)

/-- The word the first conditional branches on: some sample is unfinished at the start. -/
def begins (x : Vec F S2560x128 .f32) : BitVec 1 :=
  Scalar.cmpi .ne (Scalar.extui (Scalar.cmpf .olt (k0_pay50 x) (Scalar.ofBits .f32 0x3F000000#32)) : BitVec 32) 0#32

/-- The counter and the state the while loop is entered with: eight double steps done, or none if every sample is finished. -/
def entry (x : Vec F S2560x128 .f32) : ℕ × St F :=
  if begins x = 1#1 then (8, twice (k0_pay43 x) 8 (first x)) else (0, first x)

/-- The word the second conditional branches on: some sample has no threshold. -/
def ties (x : Vec F S2560x128 .f32) (u : FVec F S1x128 .f32) : BitVec 1 :=
  Scalar.cmpi .ne (Scalar.extui (Scalar.cmpf .ogt (k0_pay1 (k0_pay59 x u)) (Scalar.ofBits .f32 0x00000000#32)) : BitVec 32) 0#32

/-- The mask of thresholds `u`. -/
def mask (x : Vec F S2560x128 .f32) (u : FVec F S1x128 .f32) : FVec F S2560x128 .f32 :=
  k0_pay18 (k0_pay2 (k0_pay47 x) u) (k0_pay43 x)

/-- What the body may leave in the result's buffer. -/
def Leaves (x out : Vec F S2560x128 .f32) : Prop :=
  ∃ r : BitVec 32 × St F, Stops (k0_pay43 x) (entry x).1 (entry x).2 r ∧ (ties x r.2.2.2.2 ≠ 1#1 → out = mask x r.2.2.2.2)

theorem entry_le (x : Vec F S2560x128 .f32) : (entry x).1 ≤ 320 := by
  unfold entry; split
  · show 8 ≤ 320; omega
  · show 0 ≤ 320; omega

/-- A view written whole through the rectangle of its own sizes reads as the payload. -/
theorem read_write_full {κ : Kind} {sp : Space} {s : Shape} {e : EltTy} (m : Memref sig κ sp s e)
    (f : m.view.ty.Contents (Elt F)) (off : Fin s.rank → ℕ) (inb : ∀ a, off a + s.size a ≤ s.size a) (w : s.Idx → Elt F e) :
    m.view.read (Elt F) ((m.access (Rect.unit off s.size inb)).write (Elt F) f w Finset.univ) = w := by
  funext x
  have h := View.read_slice_write_emb (v := m.view) (Rect.unit off s.size inb) f w (M := Finset.univ) (x := x) (Finset.mem_univ _)
  rw [show (Rect.unit off s.size inb).emb x = x from funext fun a => Fin.ext (by
    show off a + 1 * (x a).val = (x a).val
    have := inb a; omega)] at h
  exact h

set_option maxHeartbeats 1000000 in
/-- The path that breaks ties, from anything in the scratch buffer, back to something in it. -/
theorem tie_path {α : Type} (c : Dev nD) (E : Set ℕ) (arg0 : Memref sig .tc .vmem S2560x128 .f32) (harg0 : arg0.IsWhole)
    (arg1 : Memref sig .tc .vmem S2560x128 .f32) (harg1 : arg1.IsWhole)
    (arg2 : Memref sig .tc .vmem S2560x128 .f32) (harg2 : arg2.IsWhole) (v31_1 v31_2 : FVec F S1x128 .f32) (v35 : IVec S1x128 1)
    (k : FVec F S64x128 .f32 → Prog (TpuEff nD τ sig (Elt F) (Λ₀ F) .tc) α)
    (X : Buf (Elt F) (arg2.view.loc (c : Thread nD τ))) (K : α → sProp 𝕄) :
    iprop((arg2.view.loc (c : Thread nD τ) ↦[arg2.view.set]{fullShare} X)
        ∗ (∀ v57 Y, (arg2.view.loc (c : Thread nD τ) ↦[arg2.view.set]{fullShare} Y)
            -∗ wp frame (wpE (defs₀ (F := F)) 𝒱₀ (c : Thread nD τ) none) E (k v57) K))
      ⊢ wp frame (wpE (defs₀ (F := F)) 𝒱₀ (c : Thread nD τ) none) E (do
        let v57 : FVec F S64x128 .f32 ← Scf.Loop.for k0_t6_loop k0_t6_ok (k0_pay3 (F := F)) (k0_t6_body arg0 harg0 arg1 harg1 arg2 harg2 v31_2)
        let v67 : FVec F S64x128 .f32 ← Scf.Loop.for k0_t7_loop k0_t7_ok (k0_pay6 (F := F)) (k0_t7_body arg0 harg0 arg1 harg1 arg2 harg2 v31_1 v31_2 v35 v57)
        let q ← Scf.Loop.for k0_t8_loop k0_t8_ok (k0_pay8, k0_pay9) (k0_t8_body arg0 harg0 arg1 harg1 arg2 harg2 v31_1 v31_2 v35 v57 v67)
        Scf.Loop.for k0_t10_loop k0_t10_ok ⟨⟩ (k0_t10_body arg0 harg0 arg1 harg1 arg2 harg2 v31_1 v31_2 v35 v57 q.2)
        k v57) K := by
  iintro ⟨H, HK⟩
  sl_exec
  iapply HK
  iexact H

/-- The scratch buffer held by its view's elements is the buffer held whole. -/
theorem scr_eq (c : Dev nD) (X : Vec F S2560x128 .f32) :
    (((Memref.whole cc0_scratch0).view.loc (c : Thread nD τ) ↦[(Memref.whole cc0_scratch0).view.set]{fullShare}
      (X : Buf (Elt F) ((Memref.whole cc0_scratch0).view.loc (c : Thread nD τ)))) : sProp 𝕄) = scr c X := by
  rw [show (Memref.whole cc0_scratch0).view.set = Finset.univ from View.set_whole _]

/-- A call of the while loop's label. -/
theorem enter {α : Type} (c : Dev nD) (E : Set ℕ) (X : Vec F S2560x128 .f32) (w : BitVec 1) (n : ℕ) (hn : n ≤ 320) (s : St F)
    (k : BitVec 32 × St F → Prog (TpuEff nD τ sig (Elt F) (Λ₀ F) .tc) α) (K : α → sProp 𝕄) :
    iprop(scr c X ∗ ∀ r : BitVec 32 × St F, ⌜Stops X n s r⌝ -∗ (scr c X -∗ wp frame (wpE (defs₀ (F := F)) 𝒱₀ (c : Thread nD τ) none) E (k r) K))
      ⊢ wp frame (wpE (defs₀ (F := F)) 𝒱₀ (c : Thread nD τ) none) E
          (.op (.call (Λ := Λ₀ F) (1 : Fin 2) ⟨w, Memref.whole cc0_scratch0, Memref.isWhole_whole _, BitVec.ofNat 32 n, s.1, s.2.1, s.2.2.1, s.2.2.2⟩) k) K := by
  refine .trans ?_ (wp_call_spec 𝒱₀ (c : Thread nD τ) none E (spec c X n s) (320 - n) (fun u hu => nomatch hu)
    (label_le c E X w (320 - n) n (by omega) s))
  rw [spec_apply]

/-- The last statements: the scratch read back, its mask at the thresholds stored over the result's buffer. -/
theorem last (c : Dev nD) (E : Set ℕ) (arg0 : Memref sig .tc .vmem S2560x128 .f32)
    (arg1 : Memref sig .tc .vmem S2560x128 .f32) (x : Vec F S2560x128 .f32) (v47 : FVec F S1x128 .f32)
    (f0 : arg0.view.ty.Contents (Elt F)) (hf0 : View.read (Elt F) arg0.view f0 = x)
    (Y : Vec F S2560x128 .f32) (hL : Leaves x (k0_pay18 v47 Y)) (f1 : arg1.view.ty.Contents (Elt F)) (K : PUnit → sProp 𝕄) h1 h2 h3 h4 :
    iprop((arg0.view.loc (c : Thread nD τ) ↦[arg0.view.set]{fullShare} f0) ∗ (arg1.view.loc (c : Thread nD τ) ↦[arg1.view.set]{fullShare} f1)
        ∗ scr c Y
        ∗ (iprop(owns (c : Thread nD τ) arg0 fullShare x ∗ (∃ d, ⌜Leaves x d⌝ ∗ owns (c : Thread nD τ) arg1 fullShare d)
          ∗ (∃ d, scr c d)) -∗ K ⟨⟩))
      ⊢ wp frame (wpE (defs₀ (F := F)) 𝒱₀ (c : Thread nD τ) none) E
        (.op (.load (Memref.whole cc0_scratch0) (Rect.unit ![0, 0] ![2560, 128] inb_S2560x128_S2560x128_0_0).toLoadRect h1) fun v48 =>
          .op (.load arg1 (Rect.unit ![0, 0] ![2560, 128] inb_S2560x128_S2560x128_0_0).toLoadRect h2) fun _ =>
          .op (.store arg1 (Rect.unit ![0, 0] ![2560, 128] inb_S2560x128_S2560x128_0_0) (k0_pay18 v47 v48) Finset.univ h3 h4) fun _ =>
          pure PUnit.unit) K := by
  unfold owns
  have hy : View.readAt (Elt F) (Memref.whole cc0_scratch0).view (Rect.unit ![0, 0] ![2560, 128] inb_S2560x128_S2560x128_0_0).toLoadRect Y = Y :=
    View.readAt_full (Memref.whole cc0_scratch0).view Y _
  iintro ⟨H0, H1, HS, Hk⟩
  iapply (wp_load 𝒱₀ (c : Thread nD τ) none E (m := Memref.whole cc0_scratch0) (Finset.subset_univ _)) $$ HS; iintro HS
  iapply (wp_load 𝒱₀ (c : Thread nD τ) none E (m := arg1) (View.setOn_subset_set _ _)) $$ H1; iintro H1
  iapply (wp_store 𝒱₀ (c : Thread nD τ) none E (m := arg1) (r := Rect.unit ![0, 0] ![2560, 128] inb_S2560x128_S2560x128_0_0)
    (S := arg1.view.set) (View.set_slice_subset _ _)) $$ H1; iintro H1
  rw [hy, Prog.pure_eq_ret, wp_ret]; imodintro
  iapply Hk
  isplitl [H0]
  · iexists f0
    isplitr; · ipureintro; exact hf0
    iexact H0
  isplitl [H1]
  · iexists (k0_pay18 v47 Y)
    isplitr; · ipureintro; exact hL
    iexists _
    isplitr
    · ipureintro; exact read_write_full arg1 f1 ![0, 0] inb_S2560x128_S2560x128_0_0 (k0_pay18 v47 Y)
    iexact H1
  iexists Y; iexact HS

/-- What follows the while loop, from the state `r` it stops at. -/
theorem finish (c : Dev nD) (E : Set ℕ) (arg0 : Memref sig .tc .vmem S2560x128 .f32) (harg0 : arg0.IsWhole)
    (arg1 : Memref sig .tc .vmem S2560x128 .f32) (harg1 : arg1.IsWhole) (x : Vec F S2560x128 .f32)
    (f0 : arg0.view.ty.Contents (Elt F)) (hf0 : View.read (Elt F) arg0.view f0 = x) (f1 : arg1.view.ty.Contents (Elt F))
    (r : BitVec 32 × St F) (hr : Stops (k0_pay43 x) (entry x).1 (entry x).2 r) (K : PUnit → sProp 𝕄) h1 h2 h3 h4 h5 h6 h7 h8 :
    iprop((arg0.view.loc (c : Thread nD τ) ↦[arg0.view.set]{fullShare} f0) ∗ (arg1.view.loc (c : Thread nD τ) ↦[arg1.view.set]{fullShare} f1)
        ∗ scr c (k0_pay43 x)
        ∗ (iprop(owns (c : Thread nD τ) arg0 fullShare x ∗ (∃ d, ⌜Leaves x d⌝ ∗ owns (c : Thread nD τ) arg1 fullShare d)
          ∗ (∃ d, scr c d)) -∗ K ⟨⟩))
      ⊢ wp frame (wpE (defs₀ (F := F)) 𝒱₀ (c : Thread nD τ) none) E
        (if Scalar.cmpi .ne (Scalar.extui (Scalar.cmpf .ogt (k0_pay1 (k0_pay59 x r.2.2.2.2)) (FloatOps.ofBits FTy.f32 0#32)) : BitVec 32) 0#32 = 1#1 then do
          let v57 : FVec F S64x128 .f32 ← Scf.Loop.for k0_t6_loop k0_t6_ok (k0_pay3 (F := F)) (k0_t6_body arg0 harg0 arg1 harg1 (Memref.whole cc0_scratch0) (Memref.isWhole_whole _) r.2.2.1)
          let v67 : FVec F S64x128 .f32 ← Scf.Loop.for k0_t7_loop k0_t7_ok (k0_pay6 (F := F)) (k0_t7_body arg0 harg0 arg1 harg1 (Memref.whole cc0_scratch0) (Memref.isWhole_whole _) r.2.1 r.2.2.1 (k0_pay58 x r.2.2.2.2) v57)
          let q ← Scf.Loop.for k0_t8_loop k0_t8_ok (k0_pay8, k0_pay9) (k0_t8_body arg0 harg0 arg1 harg1 (Memref.whole cc0_scratch0) (Memref.isWhole_whole _) r.2.1 r.2.2.1 (k0_pay58 x r.2.2.2.2) v57 v67)
          Scf.Loop.for k0_t10_loop k0_t10_ok ⟨⟩ (k0_t10_body arg0 harg0 arg1 harg1 (Memref.whole cc0_scratch0) (Memref.isWhole_whole _) r.2.1 r.2.2.1 (k0_pay58 x r.2.2.2.2) v57 q.2)
          Prog.op (.load (Memref.whole cc0_scratch0) (Rect.unit ![0, 0] ![2560, 128] inb_S2560x128_S2560x128_0_0).toLoadRect h1) fun v48 =>
            .op (.load arg1 (Rect.unit ![0, 0] ![2560, 128] inb_S2560x128_S2560x128_0_0).toLoadRect h2) fun _ =>
            .op (.store arg1 (Rect.unit ![0, 0] ![2560, 128] inb_S2560x128_S2560x128_0_0)
              (k0_pay18 (k0_pay17 (k0_pay47 x) r.2.1 r.2.2.1 r.2.2.2.2 (k0_pay58 x r.2.2.2.2) v57) v48) Finset.univ h3 h4) fun _ =>
            pure PUnit.unit
        else
          Prog.op (.load (Memref.whole cc0_scratch0) (Rect.unit ![0, 0] ![2560, 128] inb_S2560x128_S2560x128_0_0).toLoadRect h5) fun v48 =>
            .op (.load arg1 (Rect.unit ![0, 0] ![2560, 128] inb_S2560x128_S2560x128_0_0).toLoadRect h6) fun _ =>
            .op (.store arg1 (Rect.unit ![0, 0] ![2560, 128] inb_S2560x128_S2560x128_0_0)
              (k0_pay18 (k0_pay2 (k0_pay47 x) r.2.2.2.2) v48) Finset.univ h7 h8) fun _ =>
            pure PUnit.unit) K := by
  by_cases ht : ties x r.2.2.2.2 = 1#1
  · have ht' : Scalar.cmpi .ne (Scalar.extui (Scalar.cmpf .ogt (k0_pay1 (k0_pay59 x r.2.2.2.2)) (FloatOps.ofBits FTy.f32 0#32)) : BitVec 32) 0#32 = 1#1 := ht
    rw [if_pos ht']
    iintro ⟨H0, H1, HS, Hk⟩
    iapply (tie_path c E arg0 harg0 arg1 harg1 (Memref.whole cc0_scratch0) (Memref.isWhole_whole _) r.2.1 r.2.2.1
      (k0_pay58 x r.2.2.2.2) _ (k0_pay43 x) K)
    rw [scr_eq c (k0_pay43 x)]
    isplitl [HS]; · iexact HS
    iintro %v57 %Y HS
    have L := fun a b d e => last c E arg0 arg1 x (k0_pay17 (k0_pay47 x) r.2.1 r.2.2.1 r.2.2.2.2 (k0_pay58 x r.2.2.2.2) v57) f0 hf0 Y ⟨r, hr, fun h => absurd ht h⟩ f1 K a b d e
    rw [← scr_eq c Y] at L
    iapply (L _ _ _ _)
    isplitl [H0]; · iexact H0
    isplitl [H1]; · iexact H1
    isplitl [HS]; · iexact HS
    iexact Hk
  · have ht' : ¬ Scalar.cmpi .ne (Scalar.extui (Scalar.cmpf .ogt (k0_pay1 (k0_pay59 x r.2.2.2.2)) (FloatOps.ofBits FTy.f32 0#32)) : BitVec 32) 0#32 = 1#1 := ht
    rw [if_neg ht']
    exact last c E arg0 arg1 x _ f0 hf0 (k0_pay43 x) ⟨r, hr, fun _ => rfl⟩ f1 K _ _ _ _

set_option maxHeartbeats 1000000 in
/-- The body's triple: the scores kept, the result's buffer at contents `Leaves` allows, the scratch at anything. -/
theorem body_triple (c : Dev nD) (arg0 : Memref sig .tc .vmem S2560x128 .f32) (harg0 : arg0.IsWhole)
    (arg1 : Memref sig .tc .vmem S2560x128 .f32) (harg1 : arg1.IsWhole) (x : Vec F S2560x128 .f32) (E : Set ℕ) (K : PUnit → sProp 𝕄) :
    iprop(owns (c : Thread nD τ) arg0 fullShare x ∗ (∃ d, owns (c : Thread nD τ) arg1 fullShare d)
        ∗ (∃ d, owns (c : Thread nD τ) (Memref.whole cc0_scratch0) fullShare d)
        ∗ (iprop(owns (c : Thread nD τ) arg0 fullShare x ∗ (∃ d, ⌜Leaves x d⌝ ∗ owns (c : Thread nD τ) arg1 fullShare d)
          ∗ (∃ d, owns (c : Thread nD τ) (Memref.whole cc0_scratch0) fullShare d)) -∗ K ⟨⟩))
      ⊢ wp frame (wpE (defs₀ (F := F)) 𝒱₀ (c : Thread nD τ) none) E
          (cc0_decode_mask arg0 harg0 arg1 harg1 (Memref.whole cc0_scratch0) (Memref.isWhole_whole _)) K := by
  simp only [cc0_decode_mask_eq_skeleton]; unfold cc0_decode_mask_skel
  simp only [k0_part2_eq_skeleton]; unfold k0_part2_skel
  simp only [owns_whole]
  unfold owns
  simp only [bind_assoc, pure_bind, Prog.lift, Prog.bind_op, Prog.bind_ret]
  iintro ⟨⟨%f0, %hf0, H0⟩, ⟨%d1, %f1, -, H1⟩, ⟨%fs, HS⟩, Hk⟩
  iapply (wp_load 𝒱₀ (c : Thread nD τ) none E (m := arg0) (View.setOn_subset_set _ _)) $$ H0; iintro H0
  have hx : View.readAt (Elt F) arg0.view (Rect.unit ![0, 0] ![2560, 128] inb_S2560x128_S2560x128_0_0).toLoadRect f0 = x :=
    (View.readAt_full arg0.view f0 _).trans hf0
  simp only [hx]
  have hw : (Memref.access (Memref.whole cc0_scratch0) (Rect.unit ![0, 0] ![2560, 128] inb_S2560x128_S2560x128_0_0)).write (Elt F) fs (k0_pay43 x) Finset.univ = k0_pay43 x :=
    read_write_full (Memref.whole cc0_scratch0) fs ![0, 0] _ (k0_pay43 x)
  iapply (wp_load 𝒱₀ (c : Thread nD τ) none E (m := Memref.whole cc0_scratch0) (Finset.subset_univ _)) $$ HS; iintro HS
  iapply (wp_store 𝒱₀ (c : Thread nD τ) none E (m := Memref.whole cc0_scratch0) (r := Rect.unit ![0, 0] ![2560, 128] inb_S2560x128_S2560x128_0_0) (Finset.subset_univ _)) $$ HS; iintro HS
  rw [hw]
  rw [wp_bind]
  by_cases hb : begins x = 1#1
  · have hb' : Scalar.cmpi .ne (Scalar.extui (Scalar.cmpf .olt (k0_pay50 x) (FloatOps.ofBits FTy.f32 1056964608#32)) : BitVec 32) 0#32 = 1#1 := hb
    rw [if_pos hb']
    have he : entry x = (8, twice (k0_pay43 x) 8 (first x)) := if_pos hb
    rw [wp_bind]
    iapply (unrolled 𝒱₀ c none E (k0_pay43 x) arg0 harg0 arg1 harg1 _)
    isplitl [HS]; · iexact HS
    iintro HS
    iapply (enter c E (k0_pay43 x) _ 8 (by omega) (twice (k0_pay43 x) 8 (first x)))
    isplitl [HS]; · iexact HS
    iintro %r %hr HS
    have hr' : Stops (k0_pay43 x) (entry x).1 (entry x).2 r := by rw [he]; exact hr
    rw [Prog.pure_eq_ret, wp_ret]; imodintro
    dsimp only
    iapply (finish c E arg0 harg0 arg1 harg1 x f0 hf0 f1 r hr' K)
    isplitl [H0]; · iexact H0
    isplitl [H1]; · iexact H1
    isplitl [HS]; · iexact HS
    iexact Hk
  · have hb' : ¬ Scalar.cmpi .ne (Scalar.extui (Scalar.cmpf .olt (k0_pay50 x) (FloatOps.ofBits FTy.f32 1056964608#32)) : BitVec 32) 0#32 = 1#1 := hb
    rw [if_neg hb']
    have he : entry x = (0, first x) := if_neg hb
    iapply (enter c E (k0_pay43 x) _ 0 (by omega) (k0_pay45 x, k0_pay46 x, k0_pay48 x, k0_pay49))
    isplitl [HS]; · iexact HS
    iintro %r %hr HS
    have hr' : Stops (k0_pay43 x) (entry x).1 (entry x).2 r := by rw [he]; exact hr
    rw [Prog.pure_eq_ret, wp_ret]; imodintro
    dsimp only
    iapply (finish c E arg0 harg0 arg1 harg1 x f0 hf0 f1 r hr' K)
    isplitl [H0]; · iexact H0
    isplitl [H1]; · iexact H1
    isplitl [HS]; · iexact HS
    iexact Hk

end Cert.Proof.Mask

end
-- ==== Proof.Launch.lean ====
/-
  The launch. The host operations pad and transpose the scores; the region then runs the body once on the whole arrays. The
  proof data is relational: the scores' buffer is left as found, the result's buffer holds something `Leaves` allows.
  `result` concludes both what the frame needs (the argument unchanged, every counter at zero) and that the result array
  holds contents `Leaves` allows over the scores as the region finds them (`entering`).
-/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Claim

@[expose] public section

set_option maxRecDepth 16384

noncomputable section

namespace Cert.Proof.Mask

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem to_region : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- The argument reaches the region as launched. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The scores as the region finds them: padded, one column to a sample. -/
def entering (c : Dev nD) : Vec F S2560x128 .f32 := V m c main_v2

/-- What the body does to the two windows' buffers. -/
def effect (c : Dev nD) : (w : Fin (cfg0 (F := F)).W) → (Y X : ((cfg0 (F := F)).win w).block.Idx → Elt F ((cfg0 (F := F)).win w).elt) → Prop
  | 0, Y, X => X = Y
  | 1, _, X => Leaves (entering m c) X
  | ⟨_ + 2, h⟩, _, _ => absurd h (Nat.not_lt.2 (Nat.le_add_left _ _))

/-- The launch's proof data. -/
def data (c : Dev nD) : RDat τ (Elt F) Unit ℕ (UR sig nD τ) ℕ (cfg0 (F := F)) c where
  A w := V m c (Pipeline.arrRef spec0 w)
  after w _ := effect m c w
  Φ _ := Pipeline.ΦA spec0 c
  q _ := fullShare
  owed _ := 0

theorem phi_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

theorem row (t : Fin (cfg0 (F := F)).N) :
    defs₀ (F := F) .tc cfg0.body (cfg0.bodyArgs t (cfg0.slots t)) = bodyAt0 t := by
  unfold defs₀; rw [Defs.onTc_tc]

/-- The fetched block is the whole array of scores. -/
theorem finds_scores (c : Dev nD) (t : Fin (cfg0 (F := F)).N) (X) (h : (data m c).Finds 0 t X) : X = entering m c := by
  obtain ⟨d, rfl⟩ := (RDat.finds_of_fetch (data m c) (fetch0_0 t) X).1 h
  funext j
  unfold RDat.fetched Pipeline.Window.fill
  rw [dif_pos ((((cfg0 (F := F)).win 0).moved_iff _ j).mpr fun a => (j a).isLt)]
  exact congrArg (V m c main_v2) (funext fun a => Fin.ext (by
    show 0 * _ + 1 * (j a).val = (j a).val
    rw [Nat.zero_mul, Nat.zero_add, Nat.one_mul]))

theorem obligation (c : Dev nD) : (data (F := F) m c).BodyObligation (defs₀ (F := F)) 𝒱₀ () Set.univ := fun t Y hY => by
  have h0 := finds_scores m c t (Y 0) (hY 0)
  rw [bigSep_W0, bigSep_W0, row]
  show iprop(Pipeline.ΦA spec0 c ∗ _) ⊢ wp _ _ _ _ fun _ => iprop(Pipeline.ΦA spec0 c ∗ _)
  rw [phi_eq, h0]
  iintro ⟨⟨HS, Hg⟩, Ho, H0, H1⟩
  iapply (body_triple c _ _ _ _ (entering m c) Set.univ _)
  isplitl [H0]; · iexact H0
  isplitl [H1]; · iexists (Y 1); iexact H1
  isplitl [HS]; · iexact HS
  iintro ⟨H0, H1, HS⟩
  isplitl [HS Hg]
  · isplitl [HS]
    · iexact HS
    iexact Hg
  isplitl [Ho]; · iexact Ho
  isplitl [H0]
  · iexists (entering m c)
    isplitr; · ipureintro; exact rfl
    iexact H0
  iexact H1

-- the launch rule's implicit arguments are found by unfolding plain definitions in their types
set_option backward.isDefEq.respectTransparency.types false in
theorem launched : θ_run defs (onTc (τ := τ) (main (F := F))) (s₀ m ρ)
    (fun r => RDat.FramePost (cfgs 0) (data m) (V m) r ∧ r.2.sem = fun _ => 0) :=
  RDat.θ_run_frame (Q' := _) cfgs (0 : Fin 1) launch0 defs₀ 𝒱₀ (data m) m ρ main
    (hbody := obligation m) (hshare := fun c => (data m c).share_full fun _ => rfl)
    (howed := fun _ _ => rfl) (V := V m) (hmain := to_region m) (hA := fun _ _ => rfl) (hΦ := fun _ _ => rfl)

/-- A whole buffer written through the rectangle of its own sizes at offset zero holds the payload. -/
theorem write_all (b : Ref sig .tc) (off : Fin b.ty.shape.rank → ℕ) (h0 : ∀ a, off a = 0) (inb : ∀ a, off a + b.ty.shape.size a ≤ b.ty.shape.size a)
    (f : b.ty.Contents (Elt F)) (w : b.ty.Contents (Elt F)) :
    ((View.whole b).slice (Rect.unit off b.ty.shape.size inb)).write (Elt F) f w Finset.univ = w := by
  funext j
  have e : (Rect.unit off b.ty.shape.size inb).emb j = j := funext fun a => Fin.ext (by
    show off a + 1 * (j a).val = (j a).val
    rw [h0, Nat.zero_add, Nat.one_mul])
  have h := View.read_slice_write_emb (v := View.whole b) (Val := Elt F) (Rect.unit off b.ty.shape.size inb) f w (M := Finset.univ) (x := j) (Finset.mem_univ _)
  rw [e] at h
  exact h

/-- The result array after the run: contents `Leaves` allows. -/
theorem array_after (c : Dev nD) (G : Buf (Elt F) ((c : Thread nD τ).loc main_v3)) (h : (data m c).ArrAt 1 (cfg0 (F := F)).N G) :
    Leaves (entering m c) (G : Vec F S2560x128 .f32) := by
  have h' : (data m c).ArrAt 1 (0 + 1) G := h
  rw [RDat.ArrAt] at h'
  rw [dif_pos (show 0 < (cfg0 (F := F)).N from (by decide : 0 < grid0.N)), if_pos (flush0_1 _)] at h'
  obtain ⟨G₀, X, -, ⟨Y, -, hX⟩, hG⟩ := h'
  have hX' : Leaves (entering m c) X := hX
  have hG' : G = X := hG.trans (write_all main_v3 _ (fun a => Nat.zero_mul _) _ G₀ X)
  rw [hG']; exact hX'

/-- The run: the argument unchanged, every counter at zero, the result array as `Leaves` allows. -/
theorem result : θ_run defs (onTc (τ := τ) (main (F := F))) ⟨m, fun _ => 0, ρ⟩ (fun r => (∀ c : Dev nD,
      Leaves (entering m c) (r.2.mem ((c.tc : Thread nD τ).loc main_v3) : Vec F S2560x128 .f32)
      ∧ r.2.mem ((c.tc : Thread nD τ).loc main_arg0) = m ((c.tc : Thread nD τ).loc main_arg0))
      ∧ r.2.sem = fun _ => 0) :=
  (θ_run defs _ _).mono (fun r h => ⟨fun c => ⟨array_after m c _ ((h.1 c).1 1),
    ((h.1 c).2 main_arg0 (Pipeline.mem_restRefs_of main_arg0 (by decide) (by intro w; revert w; exact (by decide : ∀ w : Fin 2, (win0 w).arr.view.ref ≠ main_arg0)))).trans (V_arg m c)⟩, h.2⟩) (launched m ρ)

theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (result m ρ)

end Cert.Proof.Mask

end
-- ==== Proof.Bisect.lean ====
/-
  The bisection of one sample in exact arithmetic. `x` are the sample's scores; `cnt x t` of them are not below `t`. The 256th
  largest is `p`, the 257th `q`. A step keeps the sample either finished, with a threshold that exactly 256 scores reach
  (`Good`, left), or unfinished between bounds `l ≤ q`, `p ≤ h` whose distance has been halved at every step (right). If
  `p` and `q` are further apart than the first distance over `2 ^ 600`, 600 steps finish it (`Good.finished`).
-/
module

public import Mathlib.Data.EReal.Operations
public import Mathlib.Data.Fintype.Card
public import Mathlib.Tactic.Linarith
public import Mathlib.Tactic.Ring
public import Mathlib.Tactic.FieldSimp
public import Mathlib.Tactic.Positivity

@[expose] public section

noncomputable section

namespace Cert.Proof.Mask

/-- How many of the scores are not below `t`. -/
def cnt {n : ℕ} (x : Fin n → EReal) (t : EReal) : ℕ := (Finset.univ.filter fun k => t ≤ x k).card

/-- One step of one sample: the bounds, the flag, the threshold. -/
def lane {n : ℕ} (x : Fin n → EReal) (s : EReal × EReal × EReal × EReal) : EReal × EReal × EReal × EReal :=
  let mid := s.1 + (s.2.1 - s.1) * ((1 / 2 : ℝ) : EReal)
  let c : EReal := ((cnt x mid : ℝ) : EReal)
  let k : EReal := ((256 : ℝ) : EReal)
  let half : EReal := ((1 / 2 : ℝ) : EReal)
  (if s.2.2.1 < half ∧ k < c then mid else s.1, if s.2.2.1 < half ∧ c < k then mid else s.2.1,
    if c = k ∨ mid ≤ s.1 ∨ s.2.1 ≤ mid then 1 else s.2.2.1, if s.2.2.1 < half ∧ c = k then mid else s.2.2.2)

/-- What is known of one sample's scores: the two largest scores about the cut, and bounds about them. -/
structure Cut {n : ℕ} (x : Fin n → EReal) (p q a b : ℝ) : Prop where
  ge : ∀ t : ℝ, 256 ≤ cnt x t ↔ t ≤ p
  gt : ∀ t : ℝ, 256 < cnt x t ↔ t ≤ q
  low : a ≤ q
  high : p ≤ b
  lt : q < p

/-- What holds of one sample after `m` steps. -/
def Good {n : ℕ} (x : Fin n → EReal) (p q a b : ℝ) (m : ℕ) (s : EReal × EReal × EReal × EReal) : Prop :=
  (s.2.2.1 = 1 ∧ ∃ t : ℝ, s.2.2.2 = t ∧ cnt x t = 256)
    ∨ (s.2.2.1 = 0 ∧ ∃ l h : ℝ, s.1 = l ∧ s.2.1 = h ∧ l ≤ q ∧ p ≤ h ∧ h - l = (b - a) / 2 ^ m)

theorem Good.start {n : ℕ} {x : Fin n → EReal} {p q a b : ℝ} (H : Cut x p q a b) (u : EReal) : Good x p q a b 0 (a, b, 0, u) :=
  .inr ⟨rfl, a, b, rfl, rfl, H.low, H.high, by simp⟩

theorem Good.step {n : ℕ} {x : Fin n → EReal} {p q a b : ℝ} (H : Cut x p q a b) {m : ℕ} {s : EReal × EReal × EReal × EReal}
    (h : Good x p q a b m s) : Good x p q a b (m + 1) (lane x s) := by
  obtain ⟨lo, hi, d, u⟩ := s
  rcases h with ⟨hd, t, hu, ht⟩ | ⟨hd, l, h, hl, hh, lq, ph, e⟩
  · dsimp only at hd hu
    subst hd hu
    have n1 : ¬ (1 : EReal) < ((1 / 2 : ℝ) : EReal) := by
      rw [show (1 : EReal) = ((1 : ℝ) : EReal) from rfl, EReal.coe_lt_coe_iff]; norm_num
    refine .inl ⟨?_, t, ?_, ht⟩
    · simp [lane]
    · simp only [lane]
      rw [if_neg (fun h1 => n1 h1.1)]
  · dsimp only at hd hl hh
    subst hd hl hh
    have lh : l < h := by have := H.lt; linarith
    set r : ℝ := l + (h - l) * (1 / 2) with hr
    have hmid : (l : EReal) + ((h : EReal) - (l : EReal)) * ((1 / 2 : ℝ) : EReal) = (r : EReal) := by
      rw [hr, EReal.coe_add, EReal.coe_mul, EReal.coe_sub]
    have z : (0 : EReal) < ((1 / 2 : ℝ) : EReal) := by
      rw [show (0 : EReal) = ((0 : ℝ) : EReal) from rfl, EReal.coe_lt_coe_iff]; norm_num
    have m1 : ¬ ((r : EReal) ≤ (l : EReal)) := by rw [EReal.coe_le_coe_iff]; rw [hr]; linarith
    have m2 : ¬ ((h : EReal) ≤ (r : EReal)) := by rw [EReal.coe_le_coe_iff]; rw [hr]; linarith
    have w : ∀ v : ℝ, v = (h - l) / 2 → v = (b - a) / 2 ^ (m + 1) := fun v hv => by
      rw [hv, e, pow_succ]; field_simp
    rcases lt_trichotomy (cnt x (r : EReal)) 256 with hc | hc | hc
    · have c1 : (((cnt x (r : EReal) : ℝ) : EReal) < ((256 : ℝ) : EReal)) := by
        rw [EReal.coe_lt_coe_iff]; exact_mod_cast hc
      refine .inr ⟨?_, l, r, ?_, ?_, lq, ?_, w _ (by rw [hr]; ring)⟩
      · simp only [lane, hmid]
        rw [if_neg (by rintro (h1 | h1 | h1); exacts [absurd h1 c1.ne, m1 h1, m2 h1])]
      · simp only [lane, hmid]
        rw [if_neg (fun h1 => absurd h1.2 c1.not_gt)]
      · simp only [lane, hmid]
        rw [if_pos ⟨z, c1⟩]
      · by_contra hlt
        have := (H.ge r).2 (by linarith)
        omega
    · have c1 : (((cnt x (r : EReal) : ℝ) : EReal) = ((256 : ℝ) : EReal)) := by
        rw [EReal.coe_eq_coe_iff]; exact_mod_cast hc
      refine .inl ⟨?_, r, ?_, hc⟩
      · simp only [lane, hmid]
        rw [if_pos (.inl c1)]
      · simp only [lane, hmid]
        rw [if_pos ⟨z, c1⟩]
    · have c1 : (((256 : ℝ) : EReal) < ((cnt x (r : EReal) : ℝ) : EReal)) := by
        rw [EReal.coe_lt_coe_iff]; exact_mod_cast hc
      refine .inr ⟨?_, r, h, ?_, ?_, (H.gt r).1 hc, ph, w _ (by rw [hr]; ring)⟩
      · simp only [lane, hmid]
        rw [if_neg (by rintro (h1 | h1 | h1); exacts [absurd h1 c1.ne', m1 h1, m2 h1])]
      · simp only [lane, hmid]
        rw [if_pos ⟨z, c1⟩]
      · simp only [lane, hmid]
        rw [if_neg (fun h1 => absurd h1.2 c1.not_gt)]

theorem Good.finished {n : ℕ} {x : Fin n → EReal} {p q a b : ℝ} (gap : (b - a) / 2 ^ 600 < p - q) {m : ℕ} (hm : 600 ≤ m)
    {s : EReal × EReal × EReal × EReal} (h : Good x p q a b m s) (hab : a ≤ b) : s.2.2.1 = 1 := by
  rcases h with ⟨hd, -⟩ | ⟨-, l, h, -, -, lq, ph, e⟩
  · exact hd
  · exfalso
    have h2 : (b - a) / 2 ^ m ≤ (b - a) / 2 ^ 600 :=
      div_le_div_of_nonneg_left (by linarith) (by positivity) (pow_le_pow_right₀ (by norm_num) hm)
    linarith

end Cert.Proof.Mask

end
-- ==== Proof.Lane.lean ====
/-
  The bisection's step at the ideal values, read at one sample `l`. `col X l` are the sample's scores; `count X mid` is the
  number of them not below the sample's midpoint, and `bis X s` at the sample is `lane`.
-/
module

public import proofs.«01_k».proof.Proof.Steps
public import proofs.«01_k».proof.Proof.Rounds
public import proofs.«01_k».proof.Proof.Bisect
public import Idealize.ShloMosaic.PureOps.Ideal.Laws
public import Idealize.ShloMosaic.Lib.ValueLayout

@[expose] public section

set_option maxRecDepth 16384

noncomputable section

namespace Cert.Proof.Mask

open Cert.KernelIdeal Cert.KernelIdeal.Gen
open Idealize.ShloMosaic Idealize.ShloMosaic.TcCoe Idealize.ShloMosaic.ValueIdx

/-! ### The words -/

theorem word_half : FloatOps.ofBits (F := Ideal) .f32 0x3F000000#32 = ((1 / 2 : ℝ) : EReal) := by
  rw [Ideal.ofBits_def]; simp [Ideal.ofBits, Ideal.ieee, -EReal.coe_mul]; norm_num

theorem word_one : FloatOps.ofBits (F := Ideal) .f32 0x3F800000#32 = (1 : EReal) := by
  rw [Ideal.ofBits_def]; simp [Ideal.ofBits, Ideal.ieee, -EReal.coe_mul]; norm_num

theorem word_zero : FloatOps.ofBits (F := Ideal) .f32 0x00000000#32 = (0 : EReal) := by
  rw [Ideal.ofBits_def]; simp [Ideal.ofBits, Ideal.ieee]

theorem word_k : FloatOps.ofBits (F := Ideal) .f32 0x43800000#32 = ((256 : ℝ) : EReal) := by
  rw [Ideal.ofBits_def]; simp [Ideal.ofBits, Ideal.ieee, -EReal.coe_mul]; norm_num

theorem word_top : FloatOps.ofBits (F := Ideal) .f32 0x7F800000#32 = (⊤ : EReal) := by
  rw [Ideal.ofBits_def]; simp [Ideal.ofBits, Ideal.ieee]

theorem word_bot : FloatOps.ofBits (F := Ideal) .f32 0xFF800000#32 = (⊥ : EReal) := by
  rw [Ideal.ofBits_def]; simp [Ideal.ofBits, Ideal.ieee]

/-- A decided comparison's word is one exactly when it holds. -/
theorem word_dec (p : Prop) [Decidable p] : BitVec.ofBool (decide p) = 1#1 ↔ p := by
  by_cases h : p <;> simp [h]

theorem and_one (a b : BitVec 1) : a &&& b = 1#1 ↔ a = 1#1 ∧ b = 1#1 := by
  revert a b; decide

theorem or_one (a b : BitVec 1) : a ||| b = 1#1 ↔ a = 1#1 ∨ b = 1#1 := by
  revert a b; decide

/-! ### The count -/

/-- The scores of sample `l`. -/
def col (X : Vec Ideal S2560x128 .f32) (l : Fin 128) (k : Fin 2560) : EReal := X (ix2 k l)

/-- One where score `m` is not below `t`. -/
def hitAt (x : Fin 2560 → EReal) (t : EReal) (m : ℕ) : EReal := if h : m < 2560 then (if t ≤ x ⟨m, h⟩ then 1 else 0) else 0

theorem sum_blocks {M : Type} [AddCommMonoid M] (f : ℕ → M) (b a : ℕ) :
    ∑ m ∈ Finset.range (a * b), f m = ∑ i ∈ Finset.range a, ∑ j ∈ Finset.range b, f (b * i + j) := by
  induction a with
  | zero => simp
  | succ a ih => rw [Finset.sum_range_succ, ← ih, Nat.succ_mul, Finset.sum_range_add, Nat.mul_comm a b]

theorem sum_hits (x : Fin 2560 → EReal) (t : EReal) : ∑ m ∈ Finset.range 2560, hitAt x t m = ((cnt x t : ℝ) : EReal) := by
  have e : ∀ m : Fin 2560, hitAt x t m.val = if t ≤ x m then 1 else 0 := fun m => by
    unfold hitAt; rw [dif_pos m.isLt]
  rw [Finset.sum_range, Finset.sum_congr rfl fun m _ => e m, EReal.coe_natCast, cnt, Finset.sum_boole]

theorem bump_apply (o : ℕ) (h : S512x128.Slices ![o, 0] S64x128) (ho : o + 64 ≤ 512) (hit : IVec S512x128 1) (acc : FVec Ideal S64x128 .f32)
    (r : Fin 64) (l : Fin 128) :
    bump o h hit acc (ix2 r l) = (acc (ix2 r l) : EReal) + if hit (ix2 ⟨o + r.val, by omega⟩ l) = 1#1 then 1 else 0 := by
  have e : extractStridedSlice S64x128 ![o, 0] hit h (ix2 r l) = hit (ix2 ⟨o + r.val, by omega⟩ l) := by
    unfold extractStridedSlice
    refine congrArg hit (funext fun a => Fin.ext ?_)
    match a with
    | ⟨0, _⟩ => rfl
    | ⟨1, _⟩ => exact Nat.zero_add _
  show (if extractStridedSlice S64x128 ![o, 0] hit h (ix2 r l) = 1#1 then
    (acc (ix2 r l) : EReal) + FloatOps.ofBits (F := Ideal) .f32 0x3F800000#32 else acc (ix2 r l)) = _
  rw [e, word_one]
  split
  · rfl
  · exact (add_zero _).symm

theorem hit_apply (X : Vec Ideal S2560x128 .f32) (mid : FVec Ideal S1x128 .f32) (k : Fin 5) (l : Fin 128) (m : ℕ) (hm : m < 512) :
    (if (cmpf .oge (chunk X k) (broadcastTo S512x128 mid broadcasts_S1x128_S512x128) : IVec S512x128 1) (ix2 ⟨m, hm⟩ l) = 1#1
      then (1 : EReal) else 0) = hitAt (col X l) (mid (ix2 0 l)) (512 * k.val + m) := by
  have hk := k.isLt
  have eb : broadcastTo S512x128 mid broadcasts_S1x128_S512x128 (ix2 ⟨m, hm⟩ l) = mid (ix2 0 l) := by
    unfold broadcastTo
    refine congrArg mid (funext fun a => Fin.ext ?_)
    match a with
    | ⟨0, _⟩ => rfl
    | ⟨1, _⟩ => rfl
  have ec : chunk X k (ix2 ⟨m, hm⟩ l) = col X l ⟨512 * k.val + m, by omega⟩ := by
    unfold chunk col
    refine congrArg X (funext fun a => Fin.ext ?_)
    match a with
    | ⟨0, _⟩ => rfl
    | ⟨1, _⟩ => rfl
  have e : ((cmpf .oge (chunk X k) (broadcastTo S512x128 mid broadcasts_S1x128_S512x128) : IVec S512x128 1) (ix2 ⟨m, hm⟩ l) = 1#1)
      ↔ mid (ix2 0 l) ≤ col X l ⟨512 * k.val + m, by omega⟩ := by
    show (BitVec.ofBool (decide ((broadcastTo S512x128 mid broadcasts_S1x128_S512x128 (ix2 ⟨m, hm⟩ l) : EReal)
      ≤ chunk X k (ix2 ⟨m, hm⟩ l))) = 1#1) ↔ _
    rw [word_dec, eb, ec]
  unfold hitAt
  rw [dif_pos (by omega : 512 * k.val + m < 2560)]
  by_cases hh : mid (ix2 0 l) ≤ col X l ⟨512 * k.val + m, by omega⟩
  · rw [if_pos (e.2 hh), if_pos hh]
  · rw [if_neg (fun w => hh (e.1 w)), if_neg hh]

theorem tally_apply (X : Vec Ideal S2560x128 .f32) (mid : FVec Ideal S1x128 .f32) (acc : FVec Ideal S64x128 .f32) (k : Fin 5)
    (r : Fin 64) (l : Fin 128) :
    tally mid acc (chunk X k) (ix2 r l)
      = (acc (ix2 r l) : EReal) + ∑ g ∈ Finset.range 8, hitAt (col X l) (mid (ix2 0 l)) (512 * k.val + (64 * g + r.val)) := by
  unfold tally
  rw [bump_apply 448 _ (by norm_num), hit_apply, bump_apply 384 _ (by norm_num), hit_apply, bump_apply 320 _ (by norm_num), hit_apply,
    bump_apply 256 _ (by norm_num), hit_apply, bump_apply 192 _ (by norm_num), hit_apply, bump_apply 128 _ (by norm_num), hit_apply,
    bump_apply 64 _ (by norm_num), hit_apply, bump_apply 0 _ (by norm_num), hit_apply]
  simp only [Finset.sum_range_succ, Finset.sum_range_zero, zero_add, add_assoc, Nat.mul_zero, Nat.reduceMul]

theorem partials_apply (X : Vec Ideal S2560x128 .f32) (mid : FVec Ideal S1x128 .f32) (r : Fin 64) (l : Fin 128) :
    ∀ n : ℕ, n ≤ 5 → (partials X mid n (ix2 r l) : EReal)
      = ∑ k ∈ Finset.range n, ∑ g ∈ Finset.range 8, hitAt (col X l) (mid (ix2 0 l)) (512 * k + (64 * g + r.val))
  | 0, _ => word_zero
  | n + 1, hn => by
    have h : n < 5 := hn
    rw [Finset.sum_range_succ, ← partials_apply X mid r l n h.le]
    show ((if h : n < 5 then tally mid (partials X mid n) (chunk X ⟨n, h⟩) else partials X mid n) (ix2 r l) : EReal) = _
    rw [dif_pos h, tally_apply]

theorem count_apply (X : Vec Ideal S2560x128 .f32) (mid : FVec Ideal S1x128 .f32) (l : Fin 128) :
    (count X mid (ix2 0 l) : EReal) = ((cnt (col X l) (mid (ix2 0 l)) : ℝ) : EReal) := by
  unfold count
  refine (shapeCast_a_1a_apply _ _ _ _).trans ?_
  refine (Ideal.multiReduction_add_single (partials X mid 5) _ reduces_S64x128_S128 _ _ (ix1 l)).trans ?_
  rw [← sum_hits]
  have e : ∀ r : Fin 64, (partials X mid 5 (reduces_S64x128_S128.lift (ix1 l) r) : EReal)
      = ∑ k ∈ Finset.range 5, ∑ g ∈ Finset.range 8, hitAt (col X l) (mid (ix2 0 l)) (512 * k + (64 * g + r.val)) := fun r => by
    rw [← partials_apply X mid r l 5 le_rfl]
    refine congrArg _ (funext fun a => Fin.ext ?_)
    match a with
    | ⟨0, _⟩ => rfl
    | ⟨1, _⟩ => rfl
  refine (Finset.sum_congr rfl fun r _ => e r).trans ?_
  rw [show (2560 : ℕ) = 5 * 512 from rfl, sum_blocks]
  have e2 : ∀ k : ℕ, ∑ j ∈ Finset.range 512, hitAt (col X l) (mid (ix2 0 l)) (512 * k + j)
      = ∑ g ∈ Finset.range 8, ∑ r ∈ Finset.range 64, hitAt (col X l) (mid (ix2 0 l)) (512 * k + (64 * g + r)) := fun k => by
    rw [show (512 : ℕ) = 8 * 64 from rfl]
    exact sum_blocks (fun j => hitAt (col X l) (mid (ix2 0 l)) (8 * 64 * k + j)) 64 8
  rw [Finset.sum_congr rfl fun k _ => e2 k]
  refine (Finset.sum_range (n := 64) fun r => ∑ k ∈ Finset.range 5, ∑ g ∈ Finset.range 8,
    hitAt (col X l) (mid (ix2 0 l)) (512 * k + (64 * g + r))).symm.trans ?_
  rw [Finset.sum_comm]
  exact Finset.sum_congr rfl fun k _ => Finset.sum_comm

/-! ### A step -/

/-- A state at one sample. -/
def at' (s : St Ideal) (l : Fin 128) : EReal × EReal × EReal × EReal :=
  (s.1 (ix2 0 l), s.2.1 (ix2 0 l), s.2.2.1 (ix2 0 l), s.2.2.2 (ix2 0 l))

theorem middle_apply (lo hi : FVec Ideal S1x128 .f32) (l : Fin 128) :
    (middle lo hi (ix2 0 l) : EReal)
      = (lo (ix2 0 l) : EReal) + ((hi (ix2 0 l) : EReal) - (lo (ix2 0 l) : EReal)) * ((1 / 2 : ℝ) : EReal) := by
  rw [← word_half]; rfl

theorem bis_apply (X : Vec Ideal S2560x128 .f32) (s : St Ideal) (l : Fin 128) : at' (bis X s) l = lane (col X l) (at' s l) := by
  obtain ⟨lo, hi, d, u⟩ := s
  have hm := middle_apply lo hi l
  have hc := count_apply X (middle lo hi) l
  rw [hm] at hc
  unfold lane at' bis
  dsimp only
  rw [← hm] at hc ⊢
  have w : ∀ (c : BitVec 1) (p : Prop) [Decidable p], (c = 1#1 ↔ p) → ∀ a b : EReal, (if c = 1#1 then a else b) = if p then a else b := by
    intro c p _ h a b
    by_cases hp : p
    · rw [if_pos hp, if_pos (h.2 hp)]
    · rw [if_neg hp, if_neg fun q => hp (h.1 q)]
  refine Prod.ext ?_ (Prod.ext ?_ (Prod.ext ?_ ?_))
  · refine w _ _ ?_ _ _
    show BitVec.ofBool (decide ((d (ix2 0 l) : EReal) < FloatOps.ofBits (F := Ideal) .f32 0x3F000000#32))
      &&& BitVec.ofBool (decide (FloatOps.ofBits (F := Ideal) .f32 0x43800000#32 < (count X (middle lo hi) (ix2 0 l) : EReal))) = 1#1 ↔ _
    rw [and_one, word_dec, word_dec, hc, word_half, word_k]
  · refine w _ _ ?_ _ _
    show BitVec.ofBool (decide ((d (ix2 0 l) : EReal) < FloatOps.ofBits (F := Ideal) .f32 0x3F000000#32))
      &&& BitVec.ofBool (decide ((count X (middle lo hi) (ix2 0 l) : EReal) < FloatOps.ofBits (F := Ideal) .f32 0x43800000#32)) = 1#1 ↔ _
    rw [and_one, word_dec, word_dec, hc, word_half, word_k]
  · show (if _ = 1#1 then (FloatOps.ofBits (F := Ideal) .f32 0x3F800000#32 : EReal) else _) = _
    rw [word_one]
    refine w _ _ ?_ _ _
    show BitVec.ofBool (decide ((count X (middle lo hi) (ix2 0 l) : EReal) = FloatOps.ofBits (F := Ideal) .f32 0x43800000#32))
      ||| (BitVec.ofBool (decide ((middle lo hi (ix2 0 l) : EReal) ≤ lo (ix2 0 l)))
        ||| BitVec.ofBool (decide ((hi (ix2 0 l) : EReal) ≤ middle lo hi (ix2 0 l)))) = 1#1 ↔ _
    rw [or_one, or_one, word_dec, word_dec, word_dec, hc, word_k]
  · refine w _ _ ?_ _ _
    show BitVec.ofBool (decide ((d (ix2 0 l) : EReal) < FloatOps.ofBits (F := Ideal) .f32 0x3F000000#32))
      &&& BitVec.ofBool (decide ((count X (middle lo hi) (ix2 0 l) : EReal) = FloatOps.ofBits (F := Ideal) .f32 0x43800000#32)) = 1#1 ↔ _
    rw [and_one, word_dec, word_dec, hc, word_half, word_k]

end Cert.Proof.Mask

end
-- ==== Proof.Found.lean ====
/-
  What the kernel leaves, at the ideal values. From the first state of samples whose scores are cut (`Ready`), the while loop
  stops only with every sample finished: 640 single steps are made unless all are, and 600 finish every one. Each sample has
  a threshold then, so no ties are broken, and the result is the mask of a threshold that exactly 256 scores reach.
-/
module

public import proofs.«01_k».proof.Proof.Body
public import proofs.«01_k».proof.Proof.Lane

@[expose] public section

set_option maxRecDepth 16384

noncomputable section

namespace Cert.Proof.Mask

open Cert.KernelIdeal Cert.KernelIdeal.Gen
open Idealize.ShloMosaic Idealize.ShloMosaic.TcCoe Idealize.ShloMosaic.ValueIdx

/-- What the argument says of sample `l` at the start. -/
structure Ready (x : Vec Ideal S2560x128 .f32) (l : Fin 128) (p q a b : ℝ) : Prop where
  cut : Cut (col x l) p q a b
  gap : (b - a) / 2 ^ 600 < p - q
  start : at' (first x) l = ((a : EReal), (b : EReal), 0, ⊤)
  many : k0_pay47 x (ix2 0 l) ≠ 1#1

/-- Double steps add up. -/
theorem twice_add {F : FTy → Type} [FloatOps F] (X : Vec F S2560x128 .f32) (m n : ℕ) (s : St F) :
    twice X n (twice X m s) = twice X (n + m) s := (Function.iterate_add_apply _ n m s).symm

/-- The while loop's entry is some number of double steps from the first state. -/
theorem entry_eq {F : FTy → Type} [FloatOps F] (x : Vec F S2560x128 .f32) : (entry x).2 = twice (k0_pay43 x) (entry x).1 (first x) := by
  unfold entry
  split
  · rfl
  · rfl

theorem pay43_eq {F : FTy → Type} [FloatOps F] (x : Vec F S2560x128 .f32) : k0_pay43 x = x := by
  unfold k0_pay43 k0_pay42
  simp only [shapeCast_self]

theorem good_twice {x : Vec Ideal S2560x128 .f32} {l : Fin 128} {p q a b : ℝ} (H : Ready x l p q a b) :
    ∀ n : ℕ, Good (col x l) p q a b (2 * n) (at' (twice x n (first x)) l)
  | 0 => by
    show Good (col x l) p q a b 0 (at' (first x) l)
    rw [H.start]; exact Good.start H.cut _
  | n + 1 => by
    have e : twice x (n + 1) (first x) = bis x (bis x (twice x n (first x))) := Function.iterate_succ_apply' _ n _
    rw [e, bis_apply, bis_apply]
    exact ((good_twice H n).step H.cut).step H.cut

/-- The least flag is no larger than any sample's. -/
theorem least_le (s : St Ideal) (l : Fin 128) : (least s : EReal) ≤ s.2.2.1 (ix2 0 l) := by
  obtain ⟨j, hj⟩ : ∃ j : S1.Idx, k0_pay19 (F := Ideal) s.2.2.1
      = multiReduction .minimumf [1, 2] S1 (shapeCast S1x1x128 s.2.2.1 shapeCasts_S1x128_S1x1x128) 0x7F800000#32 reduces_S1x1x128_S1 (.inl rfl) rfl j :=
    ⟨_, rfl⟩
  have e := hj.trans (multiReduction_minimumf_eq_fold _ _ reduces_S1x1x128_S1 _ _ j)
  have le := (Finset.le_fold_min (b := (FloatOps.ofBits (F := Ideal) .f32 0x7F800000#32 : EReal))
    (f := (shapeCast S1x1x128 s.2.2.1 shapeCasts_S1x128_S1x1x128 : S1x1x128.Idx → EReal))
    (s := Finset.univ.filter fun i => reduces_S1x1x128_S1.drop i = j) (c := (least s : EReal))).1 (le_of_eq e)
  have h := le.2 (ix3 0 0 l) (Finset.mem_filter.2 ⟨Finset.mem_univ _, funext fun b => Fin.ext (by
    have h1 : (reduces_S1x1x128_S1.drop (ix3 (0 : Fin 1) (0 : Fin 1) l) b).val < S1.size b := Fin.isLt _
    have h2 : (j b).val < S1.size b := Fin.isLt _
    have h3 : S1.size b = 1 := by
      match b with
      | ⟨0, _⟩ => rfl
    omega)⟩)
  rwa [show shapeCast S1x1x128 s.2.2.1 shapeCasts_S1x128_S1x1x128 (ix3 (0 : Fin 1) (0 : Fin 1) l) = s.2.2.1 (ix2 0 l) from
    shapeCast_ab_1ab_apply _ _ _ _ _] at h

theorem slt_bound (n : ℕ) (h : n < 320) : Scalar.cmpi .slt (BitVec.ofNat 32 n) 320#32 = 1#1 := by
  have a : ∀ n < 320, Scalar.cmpi .slt (BitVec.ofNat 32 n) 320#32 = 1#1 := by decide +kernel
  exact a n h

/-- If the test fails with trips left, every flag is at least a half. -/
theorem more_least (n : ℕ) (hn : n < 320) (s : St Ideal) (h : more (BitVec.ofNat 32 n) s ≠ 1#1) :
    ((1 / 2 : ℝ) : EReal) ≤ (least s : EReal) := by
  by_contra hl
  refine h ((and_one _ _).2 ⟨slt_bound n hn, ?_⟩)
  have e : (Scalar.cmpf .olt (least s) (Scalar.ofBits .f32 0x3F000000#32) : BitVec 1)
      = BitVec.ofBool (decide ((least s : EReal) < FloatOps.ofBits (F := Ideal) .f32 0x3F000000#32)) := rfl
  rw [e, word_dec, word_half]
  exact not_le.1 hl

/-- A state the test fails at is finished. -/
theorem done_of {x : Fin 2560 → EReal} {p q a b : ℝ} (C : Cut x p q a b) (gap : (b - a) / 2 ^ 600 < p - q) (n : ℕ) (hn : n ≤ 320)
    (s : St Ideal) (l : Fin 128) (g : Good x p q a b (2 * n) (at' s l)) (h : more (BitVec.ofNat 32 n) s ≠ 1#1) :
    ∃ t : ℝ, (s.2.2.2 (ix2 0 l) : EReal) = (t : EReal) ∧ cnt x (t : EReal) = 256 := by
  have ab : a ≤ b := by have := C.low; have := C.high; have := C.lt; linarith
  have d1 : (at' s l).2.2.1 = 1 := by
    rcases Nat.lt_or_ge n 320 with hlt | hge
    · have c3 : ((1 / 2 : ℝ) : EReal) ≤ (at' s l).2.2.1 := (more_least n hlt s h).trans (least_le s l)
      rcases g with g | g
      · exact g.1
      · rw [g.1] at c3
        exact absurd c3 (not_le.2 (by
          rw [show (0 : EReal) = ((0 : ℝ) : EReal) from rfl, EReal.coe_lt_coe_iff]; norm_num))
    · exact g.finished gap (by omega) ab
  rcases g with g | g
  · exact g.2
  · rw [g.1] at d1
    exact absurd d1 zero_ne_one

/-- The loop stops after at most 320 double steps from the state before those already made. -/
theorem Stops.final {F : FTy → Type} [FloatOps F] {X : Vec F S2560x128 .f32} {a : ℕ} {s f : St F} {r : BitVec 32 × St F}
    (hs : s = twice X a f) (h : Stops X a s r) : ∃ n, n ≤ 320 ∧ r.2 = twice X n f ∧ more (BitVec.ofNat 32 n) r.2 ≠ 1#1 := by
  obtain ⟨j, hj, hr, hm, -⟩ := h
  refine ⟨a + j, hj, ?_, ?_⟩
  · rw [hr, hs, twice_add, Nat.add_comm]
  · rw [hr]; exact hm

/-- Where the loop stops every sample is finished. -/
theorem all_done {x : Vec Ideal S2560x128 .f32} (H : ∀ l, ∃ p q a b : ℝ, Ready x l p q a b) {r : BitVec 32 × St Ideal}
    (h : Stops (k0_pay43 x) (entry x).1 (entry x).2 r) (l : Fin 128) :
    ∃ t : ℝ, (r.2.2.2.2 (ix2 0 l) : EReal) = (t : EReal) ∧ cnt (col x l) (t : EReal) = 256 := by
  obtain ⟨n, hn, hr, hm⟩ := Stops.final (entry_eq x) h
  obtain ⟨p, q, a, b, R⟩ := H l
  have g := good_twice R n
  rw [pay43_eq] at hr
  rw [← hr] at g
  exact done_of R.cut R.gap n hn r.2 l g hm

/-- No ties are left to break. -/
theorem no_ties {x : Vec Ideal S2560x128 .f32} {u : FVec Ideal S1x128 .f32} (h : ∀ l, (u (ix2 0 l) : EReal) ≠ ⊤) : ties x u ≠ 1#1 := by
  have z : ∀ j : S1x128.Idx, k0_pay58 x u j = 0#1 := fun j => by
    have hj : j = ix2 0 (j 1) := funext fun a => Fin.ext (by
      match a with
      | ⟨0, _⟩ => have h0 : (j 0).val < 1 := (j 0).isLt; show (j 0).val = 0; omega
      | ⟨1, _⟩ => rfl)
    have hne : (u j : EReal) ≠ ⊤ := by rw [hj]; exact h (j 1)
    show BitVec.ofBool (decide ((u j : EReal) = FloatOps.ofBits (F := Ideal) .f32 0x7F800000#32)) &&& _ = 0#1
    rw [word_top, decide_eq_false hne]
    exact BitVec.zero_and
  have s0 : ∀ i : S1x1x128.Idx, (k0_pay59 x u i : EReal) = 0 := fun i => by
    have ez : k0_pay58 x u = fun _ => 0#1 := funext z
    unfold k0_pay59
    rw [ez]
    show (((((0#1 : BitVec 1).setWidth 32 : BitVec 32).toInt : ℤ) : ℝ) : EReal) = 0
    simp
  obtain ⟨j, hj⟩ : ∃ j : S1.Idx, k0_pay1 (F := Ideal) (k0_pay59 x u)
      = multiReduction .add [1, 2] S1 (k0_pay59 x u) 0x00000000#32 reduces_S1x1x128_S1 (.inl rfl) rfl j := ⟨_, rfl⟩
  have e : (k0_pay1 (F := Ideal) (k0_pay59 x u) : EReal) = 0 :=
    (hj.trans (Ideal.multiReduction_add_total _ _ reduces_S1x1x128_S1 (fun b => match b with | ⟨0, _⟩ => rfl) _ _ j)).trans
      (Finset.sum_eq_zero fun i _ => s0 i)
  unfold ties
  have c : Scalar.cmpf .ogt (k0_pay1 (F := Ideal) (k0_pay59 x u)) (Scalar.ofBits .f32 0x00000000#32) = 0#1 := by
    show BitVec.ofBool (decide (FloatOps.ofBits (F := Ideal) .f32 0x00000000#32 < (k0_pay1 (F := Ideal) (k0_pay59 x u) : EReal))) = 0#1
    rw [e, word_zero, decide_eq_false (lt_irrefl _)]; rfl
  rw [c]
  decide

/-- What the kernel leaves: for every sample the mask of a threshold that exactly 256 of its scores reach. -/
theorem leaves_mask {x : Vec Ideal S2560x128 .f32} (H : ∀ l, ∃ p q a b : ℝ, Ready x l p q a b) {out : Vec Ideal S2560x128 .f32}
    (h : Leaves x out) (l : Fin 128) : ∃ t : ℝ, cnt (col x l) (t : EReal) = 256 ∧ ∀ k : Fin 2560,
      (out (ix2 k l) : EReal) = if (t : EReal) ≤ col x l k then 0 else FloatOps.ofBits (F := Ideal) .f32 0xF149F2CA#32 := by
  obtain ⟨r, hs, hm⟩ := h
  have D := all_done H hs
  have nt : ties x r.2.2.2.2 ≠ 1#1 := no_ties fun l => by
    obtain ⟨t, ht, -⟩ := D l
    rw [ht]; exact EReal.coe_ne_top t
  obtain ⟨t, ht, hc⟩ := D l
  refine ⟨t, hc, fun k => ?_⟩
  rw [hm nt]
  obtain ⟨p, q, a, b, R⟩ := H l
  unfold mask
  rw [pay43_eq]
  have eb : broadcastTo S2560x128 (k0_pay2 (k0_pay47 x) r.2.2.2.2) broadcasts_S1x128_S2560x128 (ix2 k l) = r.2.2.2.2 (ix2 0 l) := by
    have e1 : broadcastTo S2560x128 (k0_pay2 (k0_pay47 x) r.2.2.2.2) broadcasts_S1x128_S2560x128 (ix2 k l)
        = k0_pay2 (k0_pay47 x) r.2.2.2.2 (ix2 0 l) := by
      unfold broadcastTo
      refine congrArg _ (funext fun a => Fin.ext ?_)
      match a with
      | ⟨0, _⟩ => rfl
      | ⟨1, _⟩ => rfl
    rw [e1]
    exact if_neg R.many
  show (if BitVec.ofBool (decide ((broadcastTo S2560x128 (k0_pay2 (k0_pay47 x) r.2.2.2.2) broadcasts_S1x128_S2560x128 (ix2 k l) : EReal)
    ≤ x (ix2 k l))) = 1#1 then (FloatOps.ofBits (F := Ideal) .f32 0x00000000#32 : EReal) else _) = _
  rw [eb, ht, word_zero]
  change (if BitVec.ofBool (decide ((t : EReal) ≤ col x l k)) = 1#1 then (0 : EReal) else _) = _
  by_cases hle : (t : EReal) ≤ col x l k
  · rw [if_pos hle, if_pos ((word_dec _).2 hle)]
  · rw [if_neg hle, if_neg fun w => hle ((word_dec _).1 w)]; rfl

end Cert.Proof.Mask

end
-- ==== Proof.Sorted.lean ====
/-
  The scores in order. `row A l` are sample `l`'s 2049 scores, `order A l` the positions of a stable sort of them, greatest
  first: `chlo.top_k` reads its values and positions through it (`topK_value`, `topK_index`). A threshold at most the score
  at place `j` is reached by more than `j` scores, and conversely (`succ_le_cnt`); so if exactly 256 scores reach `t`, they are
  those at the first 256 places (`reached`).
-/
module

public import proofs.«01_k».proof.Proof.Bisect
public import Idealize.ShloMosaic.PureOps.Ideal.Laws
public import Idealize.ShloMosaic.Lib.SortFacts
public import Idealize.ShloMosaic.Lib.ValueLayout
public import Mathlib.Order.Interval.Finset.Fin

@[expose] public section

set_option maxRecDepth 16384

noncomputable section

namespace Cert.Proof.Mask

open Idealize.ShloMosaic Idealize.ShloMosaic.ValueIdx

/-! ### In the reals -/

/-- Scores `x` of 2560 places: `a` at the first 2049, nothing at the others; `σ` sorts `a`, greatest first. -/
structure Ordered (x : Fin 2560 → EReal) (a : Fin 2049 → ℝ) (σ : Fin 2049 → Fin 2049) : Prop where
  real : ∀ k : Fin 2049, x (Fin.castLE (by norm_num) k) = (a k : EReal)
  pad : ∀ k : Fin 2560, 2049 ≤ k.val → x k = ⊥
  inj : Function.Injective σ
  surj : Function.Surjective σ
  desc : ∀ i j : Fin 2049, i < j → a (σ j) ≤ a (σ i)

variable {x : Fin 2560 → EReal} {a : Fin 2049 → ℝ} {σ : Fin 2049 → Fin 2049}

theorem Ordered.cnt_eq (O : Ordered x a σ) (t : ℝ) : cnt x (t : EReal) = (Finset.univ.filter fun j : Fin 2049 => t ≤ a (σ j)).card := by
  unfold cnt
  symm
  refine Finset.card_nbij (fun j => Fin.castLE (by norm_num) (σ j)) ?_ ?_ ?_
  · intro j hj
    have hj2 := (Finset.mem_filter.1 (Finset.mem_coe.1 hj)).2
    exact Finset.mem_coe.2 (Finset.mem_filter.2 ⟨Finset.mem_univ _, by rw [O.real]; exact EReal.coe_le_coe_iff.2 hj2⟩)
  · intro i _ j _ h
    exact O.inj (Fin.castLE_injective _ h)
  · intro k hk
    have hk2 := (Finset.mem_filter.1 hk).2
    have hlt : k.val < 2049 := by
      by_contra hge
      rw [O.pad k (by omega)] at hk2
      exact absurd (le_bot_iff.1 hk2) (EReal.coe_ne_bot t)
    obtain ⟨j, hj⟩ := O.surj ⟨k.val, hlt⟩
    have hkj : Fin.castLE (by norm_num) (σ j) = k := by rw [hj]; rfl
    refine ⟨j, ?_, hkj⟩
    rw [← hkj, O.real] at hk2
    exact Finset.mem_coe.2 (Finset.mem_filter.2 ⟨Finset.mem_univ _, EReal.coe_le_coe_iff.1 hk2⟩)

theorem Ordered.mono (O : Ordered x a σ) {i j : Fin 2049} (h : i ≤ j) : a (σ j) ≤ a (σ i) := by
  rcases h.eq_or_lt with h | h
  · rw [h]
  · exact O.desc i j h

theorem Ordered.succ_le_cnt (O : Ordered x a σ) (t : ℝ) (j : Fin 2049) : j.val + 1 ≤ cnt x (t : EReal) ↔ t ≤ a (σ j) := by
  rw [O.cnt_eq]
  constructor
  · intro h
    by_contra hlt
    have sub : (Finset.univ.filter fun i : Fin 2049 => t ≤ a (σ i)) ⊆ Finset.Iio j := fun i hi => by
      rw [Finset.mem_Iio]
      by_contra hij
      exact hlt ((Finset.mem_filter.1 hi).2.trans (O.mono (not_lt.1 hij)))
    have := Finset.card_le_card sub
    rw [Fin.card_Iio] at this
    omega
  · intro h
    have sub : Finset.Iic j ⊆ Finset.univ.filter fun i : Fin 2049 => t ≤ a (σ i) := fun i hi =>
      Finset.mem_filter.2 ⟨Finset.mem_univ _, h.trans (O.mono (Finset.mem_Iic.1 hi))⟩
    have := Finset.card_le_card sub
    rw [Fin.card_Iic] at this
    omega

/-- If exactly 256 scores reach `t`, they are those at the first 256 places. -/
theorem Ordered.reached (O : Ordered x a σ) (t : ℝ) (h : cnt x (t : EReal) = 256) (j : Fin 2049) : t ≤ a (σ j) ↔ j.val < 256 := by
  have := O.succ_le_cnt t j
  rw [← this, h]
  omega

theorem Ordered.cut (O : Ordered x a σ) (lo hi : ℝ) (hlo : ∀ k, lo ≤ a k) (hhi : ∀ k, a k ≤ hi)
    (lt : a (σ ⟨256, by norm_num⟩) < a (σ ⟨255, by norm_num⟩)) :
    Cut x (a (σ ⟨255, by norm_num⟩)) (a (σ ⟨256, by norm_num⟩)) lo hi where
  ge t := O.succ_le_cnt t ⟨255, by norm_num⟩
  gt t := O.succ_le_cnt t ⟨256, by norm_num⟩
  low := hlo _
  high := hhi _
  lt := lt

/-! ### The sort -/

/-- The comparator of `chlo.top_k` on sample `l`'s scores. -/
def before (A : FVec Ideal ⟨2, ![128, 2049]⟩ .f32) (l : Fin 128) (k k' : Fin 2049) : Bool :=
  FloatOps.cmpfTotal (F := Ideal) .gt (A (ix2 l k)) (A (ix2 l k')) == 1#1

/-- The positions of sample `l`'s scores, greatest first. -/
def order (A : FVec Ideal ⟨2, ![128, 2049]⟩ .f32) (l : Fin 128) : Fin 2049 → Fin 2049 := sortedFrom (before A l)

theorem before_iff (A : FVec Ideal ⟨2, ![128, 2049]⟩ .f32) (l : Fin 128) (k k' : Fin 2049) :
    before A l k k' = true ↔ (A (ix2 l k') : EReal) < A (ix2 l k) := by
  show (BitVec.ofBool (decide ((A (ix2 l k') : EReal) < A (ix2 l k))) == 1#1) = true ↔ _
  by_cases h : (A (ix2 l k') : EReal) < A (ix2 l k) <;> simp [h]

theorem before_false (A : FVec Ideal ⟨2, ![128, 2049]⟩ .f32) (l : Fin 128) (k k' : Fin 2049) :
    before A l k k' = false ↔ (A (ix2 l k) : EReal) ≤ A (ix2 l k') := by
  rw [← not_lt, ← before_iff, Bool.not_eq_true]

theorem order_desc (A : FVec Ideal ⟨2, ![128, 2049]⟩ .f32) (l : Fin 128) (i j : Fin 2049) (h : i < j) :
    (A (ix2 l (order A l j)) : EReal) ≤ A (ix2 l (order A l i)) :=
  (before_false A l _ _).1 (sortedFrom_noInversion (before A l) (before A l)
    (fun a b h => (before_false A l _ _).2 ((before_iff A l _ _).1 h).le) (fun _ _ h => h)
    (fun a b c hab hbc => (before_false A l _ _).2 (((before_false A l _ _).1 hab).trans ((before_false A l _ _).1 hbc))) i j h)

theorem along_ix2 (l : Fin 128) (j k : Fin 2049) :
    Shape.Idx.along (s := ⟨2, ![128, 2049]⟩) (ix2 l j) (1 : Fin 2) k = ix2 l k := by
  funext b
  unfold Shape.Idx.along
  match b with
  | ⟨0, h⟩ => exact Function.update_of_ne (fun e => absurd (congrArg Fin.val e) (by show ¬ (0 = 1); omega)) _ _
  | ⟨1, _⟩ => exact Function.update_self ..

theorem slice_ix2 {α : Type} (n : ℕ) (hn : n ≤ 2049) (h : Shape.Slices (⟨2, ![128, 2049]⟩ : Shape) (fun _ => 0) ⟨2, ![128, n]⟩)
    (y : (⟨2, ![128, 2049]⟩ : Shape).Idx → α) (l : Fin 128) (j : Fin n) :
    extractStridedSlice ⟨2, ![128, n]⟩ (fun _ => 0) y h (ix2 l j) = y (ix2 l (Fin.castLE hn j)) := by
  unfold extractStridedSlice
  refine congrArg y (funext fun b => Fin.ext ?_)
  match b with
  | ⟨0, _⟩ => exact Nat.zero_add _
  | ⟨1, _⟩ => exact Nat.zero_add _

/-- The position a sort along the second axis puts at place `j` of sample `l`. -/
theorem sort2_at {β : Type} (A : FVec Ideal ⟨2, ![128, 2049]⟩ .f32) (y : (⟨2, ![128, 2049]⟩ : Shape).Idx → β) (l : Fin 128) (j : Fin 2049) :
    (Host.sort2 ⟨2, ![128, 2049]⟩ 1 (fun l r => FloatOps.cmpfTotal (F := Ideal) .gt l.1 r.1) A y).1 (ix2 l j) = A (ix2 l (order A l j))
      ∧ (Host.sort2 ⟨2, ![128, 2049]⟩ 1 (fun l r => FloatOps.cmpfTotal (F := Ideal) .gt l.1 r.1) A y).2 (ix2 l j) = y (ix2 l (order A l j)) := by
  have e : sortedFrom (fun k k' : Fin 2049 => FloatOps.cmpfTotal (F := Ideal) .gt
      (A (Shape.Idx.along (s := ⟨2, ![128, 2049]⟩) (ix2 l j) (1 : Fin 2) k))
      (A (Shape.Idx.along (s := ⟨2, ![128, 2049]⟩) (ix2 l j) (1 : Fin 2) k')) == 1#1) j = order A l j := by
    unfold order
    refine congrArg (fun f => sortedFrom f j) (funext fun k => funext fun k' => ?_)
    rw [along_ix2, along_ix2]; rfl
  unfold Host.sort2
  rw [dif_pos (by decide : 1 < (⟨2, ![128, 2049]⟩ : Shape).rank)]
  constructor
  · show A (Shape.Idx.along (s := ⟨2, ![128, 2049]⟩) (ix2 l j) (1 : Fin 2) _) = _
    refine (congrArg A (along_ix2 l j _)).trans ?_
    exact congrArg (fun k => A (ix2 l k)) e
  · show y (Shape.Idx.along (s := ⟨2, ![128, 2049]⟩) (ix2 l j) (1 : Fin 2) _) = _
    refine (congrArg y (along_ix2 l j _)).trans ?_
    exact congrArg (fun k => y (ix2 l k)) e

theorem topK_value (A : FVec Ideal ⟨2, ![128, 2049]⟩ .f32) (n : ℕ) (hn : n ≤ 2049)
    (h : Shape.Slices (⟨2, ![128, 2049]⟩ : Shape) (fun _ => 0) ⟨2, ![128, n]⟩) (l : Fin 128) (j : Fin n) :
    (Host.topK ⟨2, ![128, n]⟩ 1 (FloatOps.cmpfTotal (F := Ideal) .gt) A h).1 (ix2 l j) = A (ix2 l (order A l (Fin.castLE hn j))) := by
  unfold Host.topK
  dsimp only
  rw [slice_ix2 n hn, (sort2_at A _ l _).1]

theorem topK_index (A : FVec Ideal ⟨2, ![128, 2049]⟩ .f32) (n : ℕ) (hn : n ≤ 2049)
    (h : Shape.Slices (⟨2, ![128, 2049]⟩ : Shape) (fun _ => 0) ⟨2, ![128, n]⟩) (l : Fin 128) (j : Fin n) :
    (Host.topK ⟨2, ![128, n]⟩ 1 (FloatOps.cmpfTotal (F := Ideal) .gt) A h).2 (ix2 l j)
      = BitVec.ofNat 32 (order A l (Fin.castLE hn j)).val := by
  unfold Host.topK
  dsimp only
  rw [slice_ix2 n hn, (sort2_at A _ l _).2, dif_pos (by decide : 1 < (⟨2, ![128, 2049]⟩ : Shape).rank)]
  rfl

end Cert.Proof.Mask

end
-- ==== Proof.Select.lean ====
/-
  The reference, at a place: position `k` of sample `l` holds 0 if `k` is among the first 256 places of the sorted scores and
  the mask's constant otherwise.
-/
module

public import proofs.«01_k».proof.Proof.Gen.ReferenceIdeal
public import proofs.«01_k».proof.Proof.Gen.ReferenceIdeal.Run
public import proofs.«01_k».proof.Proof.Sorted
public import Idealize.ShloMosaic.Lib.ValueLayout

@[expose] public section

set_option maxRecDepth 16384

noncomputable section

namespace Cert.Proof.Mask

open Cert.ReferenceIdeal
open Cert.ReferenceIdeal.Facts₀ Cert.ReferenceIdeal.Facts
open Idealize.ShloMosaic Idealize.ShloMosaic.TcCoe Idealize.ShloMosaic.ValueIdx

theorem fold_max_eq {ι : Type} [Fintype ι] (f : ι → EReal) (b r : EReal) (hb : b ≤ r) (h1 : ∀ k, f k ≤ r) (h2 : ∃ k, f k = r) :
    Finset.univ.fold max b f = r := by
  obtain ⟨k, hk⟩ := h2
  exact le_antisymm ((Finset.fold_max_le r).2 ⟨hb, fun k _ => h1 k⟩) ((Finset.le_fold_max r).2 (.inr ⟨k, Finset.mem_univ _, hk.ge⟩))

theorem fold_min_eq {ι : Type} [Fintype ι] (f : ι → EReal) (b r : EReal) (hb : r ≤ b) (h1 : ∀ k, r ≤ f k) (h2 : ∃ k, f k = r) :
    Finset.univ.fold min b f = r := by
  obtain ⟨k, hk⟩ := h2
  exact le_antisymm ((Finset.fold_min_le r).2 (.inr ⟨k, Finset.mem_univ _, hk.le⟩)) ((Finset.le_fold_min r).2 ⟨hb, fun k _ => h1 k⟩)

/-- The mask's constant. -/
abbrev off : EReal := FloatOps.ofBits (F := Ideal) .f32 0xF149F2CA#32

theorem off_le : off ≤ 0 := by
  show FloatOps.ofBits (F := Ideal) .f32 0xF149F2CA#32 ≤ (0 : EReal)
  rw [Ideal.ofBits_def, show (0 : EReal) = ((0 : ℝ) : EReal) from rfl]
  simp [Ideal.ofBits, Ideal.ieee, -EReal.coe_mul]

variable [Facts]

/-- The reference's result as a function of its argument. -/
def picked (A : FVec Ideal S128x2049 .f32) : FVec Ideal S2560x128 .f32 :=
  transpose S2560x128 [1, 0] (Host.reduce FloatOps.maximumf (id (select (cmpi .eq
    (broadcastInDim S128x256x2560 ![0, 1, 2] bcast_S128x256x1_S128x256x2560_0_1_2 (broadcastInDim S128x256x1 ![0, 1] bcast_S128x256_S128x256x1_0_1
      ((Host.topK S128x256 1 (FloatOps.cmpfTotal (F := Ideal) .gt) A sliceFits_S128x2049_S128x256).2)))
    (iotaInDim S128x256x2560 32 2))
    (broadcastInDim S128x256x2560 ![] bcast_S_S128x256x2560 (constant (F := Ideal) S_ .f32 0x00000000#32))
    (broadcastInDim S128x256x2560 ![] bcast_S_S128x256x2560 (constant (F := Ideal) S_ .f32 0xF149F2CA#32))))
    (constant (F := Ideal) S_ .f32 0xFF800000#32) reducesTo_S128x256x2560_S128x2560_d1 h_S_) transposes_S128x2560_S2560x128_1_0

theorem entry_at (A : FVec Ideal S128x2049 .f32) (l : Fin 128) (j : Fin 256) (k : Fin 2560) :
    (select (cmpi .eq
      (broadcastInDim S128x256x2560 ![0, 1, 2] bcast_S128x256x1_S128x256x2560_0_1_2 (broadcastInDim S128x256x1 ![0, 1] bcast_S128x256_S128x256x1_0_1
        ((Host.topK S128x256 1 (FloatOps.cmpfTotal (F := Ideal) .gt) A sliceFits_S128x2049_S128x256).2)))
      (iotaInDim S128x256x2560 32 2))
      (broadcastInDim S128x256x2560 ![] bcast_S_S128x256x2560 (constant (F := Ideal) S_ .f32 0x00000000#32))
      (broadcastInDim S128x256x2560 ![] bcast_S_S128x256x2560 (constant (F := Ideal) S_ .f32 0xF149F2CA#32)) (ix3 l j k) : EReal)
      = if (order A l (Fin.castLE (by norm_num) j)).val = k.val then 0 else off := by
  have e : broadcastInDim S128x256x2560 ![0, 1, 2] bcast_S128x256x1_S128x256x2560_0_1_2 (broadcastInDim S128x256x1 ![0, 1] bcast_S128x256_S128x256x1_0_1
        ((Host.topK S128x256 1 (FloatOps.cmpfTotal (F := Ideal) .gt) A sliceFits_S128x2049_S128x256).2)) (ix3 l j k)
      = BitVec.ofNat 32 (order A l (Fin.castLE (by norm_num) j)).val := by
    rw [← topK_index A 256 (by norm_num) sliceFits_S128x2049_S128x256 l j]
    unfold broadcastInDim
    refine congrArg _ (funext fun a => Fin.ext ?_)
    match a with
    | ⟨0, _⟩ => rfl
    | ⟨1, _⟩ => rfl
  show (if (BitVec.ofBool (broadcastInDim S128x256x2560 ![0, 1, 2] bcast_S128x256x1_S128x256x2560_0_1_2 (broadcastInDim S128x256x1 ![0, 1] bcast_S128x256_S128x256x1_0_1
        ((Host.topK S128x256 1 (FloatOps.cmpfTotal (F := Ideal) .gt) A sliceFits_S128x2049_S128x256).2)) (ix3 l j k) == BitVec.ofNat 32 k.val)) = 1#1
      then (FloatOps.ofBits (F := Ideal) .f32 0x00000000#32 : EReal) else off) = _
  rw [e]
  have hn : (order A l (Fin.castLE (by norm_num) j)).val < 2049 := Fin.isLt _
  generalize (order A l (Fin.castLE (by norm_num) j)).val = n at hn
  have hk := k.isLt
  have z : FloatOps.ofBits (F := Ideal) .f32 0x00000000#32 = (0 : EReal) := by rw [Ideal.ofBits_def]; exact Ideal.ofBits_zero_f32
  by_cases h : n = k.val
  · rw [if_pos h, if_pos (by rw [h]; simp), z]
  · rw [if_neg h, if_neg]
    intro hb
    have hb2 : (BitVec.ofNat 32 n == BitVec.ofNat 32 k.val) = true := by
      cases hh : (BitVec.ofNat 32 n == BitVec.ofNat 32 k.val)
      · rw [hh] at hb; exact absurd hb (by decide)
      · rfl
    have hb3 := congrArg BitVec.toNat (eq_of_beq hb2)
    rw [BitVec.toNat_ofNat, BitVec.toNat_ofNat, Nat.mod_eq_of_lt (by omega), Nat.mod_eq_of_lt (by omega)] at hb3
    exact h hb3

theorem reduces_d1 : S128x256x2560.Reduces [1] S128x2560 := by decide

/-- The reference's maximum over the selected positions. -/
theorem max_at (S : FVec Ideal S128x256x2560 .f32) (k : Fin 2560) (l : Fin 128) (P : Fin 256 → Prop) [DecidablePred P] [Decidable (∃ j, P j)]
    (h : ∀ j, (S (ix3 l j k) : EReal) = if P j then 0 else off) :
    (Host.reduce (FloatOps.maximumf (F := Ideal) (φ := .f32)) (id S) (constant (F := Ideal) S_ .f32 0xFF800000#32) reducesTo_S128x256x2560_S128x2560_d1 h_S_ (ix2 l k) : EReal)
      = if ∃ j, P j then 0 else off := by
  refine (Host.reduce_eq_fold_single FloatOps.maximumf _ _ reducesTo_S128x256x2560_S128x2560_d1 reduces_d1 h_S_ (ix2 l k)).trans ?_
  have f : ∀ j : Fin 256, (S (reduces_d1.lift (ix2 l k) j) : EReal) = if P j then 0 else off := fun j => by
    rw [← h j]
    refine congrArg S (funext fun a => Fin.ext ?_)
    match a with
    | ⟨0, _⟩ => rfl
    | ⟨1, _⟩ => rfl
    | ⟨2, _⟩ => rfl
  have b : (FloatOps.ofBits (F := Ideal) .f32 0xFF800000#32 : EReal) = ⊥ := by rw [Ideal.ofBits_def]; simp [Ideal.ofBits, Ideal.ieee]
  refine fold_max_eq (ι := Fin 256) (fun j => (S (reduces_d1.lift (ix2 l k) j) : EReal)) _ _ (b.le.trans bot_le) (fun j => (f j).le.trans ?_) ?_
  · by_cases hj : P j
    · rw [if_pos hj, if_pos ⟨j, hj⟩]
    · rw [if_neg hj]
      split
      · exact off_le
      · exact le_rfl
  · by_cases he : ∃ j, P j
    · obtain ⟨j, hj⟩ := he
      exact ⟨j, (f j).trans (by rw [if_pos hj, if_pos ⟨j, hj⟩])⟩
    · exact ⟨0, (f 0).trans (by rw [if_neg (fun h0 => he ⟨0, h0⟩), if_neg he])⟩

open Classical in
theorem picked_at (A : FVec Ideal S128x2049 .f32) (k : Fin 2560) (l : Fin 128) :
    (picked A (ix2 k l) : EReal)
      = if ∃ j : Fin 256, (order A l (Fin.castLE (by norm_num) j)).val = k.val then 0 else off := by
  unfold picked
  refine (transpose_ix2_apply _ _ k l).trans ?_
  exact max_at _ k l (fun j => (order A l (Fin.castLE (by norm_num) j)).val = k.val) fun j => (entry_at A l j k).trans (by congr)

end Cert.Proof.Mask

end
-- ==== Proof.Separated.lean ====
/-
  The precondition, read: the scores are reals, and of every sample the 256th largest is above the 257th by more than the
  distance of the largest and the smallest over `2 ^ 600`.
-/
module

public import proofs.«01_k».proof.Pre_separated
public import proofs.«01_k».proof.Proof.Gen.Pre_separated
public import proofs.«01_k».proof.Proof.Sorted
public import proofs.«01_k».proof.Proof.Select
public import Idealize.ShloMosaic.Lib.ReduceAll
public import Idealize.ShloMosaic.Lib.ValueLayout

@[expose] public section

set_option maxRecDepth 16384
set_option exponentiation.threshold 1024

noncomputable section

namespace Cert.Proof.Mask

open Cert.Pre_separated
open Cert.Pre_separated.Facts
open Idealize.ShloMosaic Idealize.ShloMosaic.TcCoe Idealize.ShloMosaic.ValueIdx

theorem word_small : FloatOps.ofBits (F := Ideal) .f32 0x0D800000#32 = ((1 / 2 ^ 100 : ℝ) : EReal) := by
  rw [Ideal.ofBits_def]; simp [Ideal.ofBits, Ideal.ieee, -EReal.coe_mul]; norm_num

theorem dec_one (p : Prop) [Decidable p] (h : BitVec.ofBool (decide p) = 1#1) : p := by
  by_contra hp
  rw [decide_eq_false hp] at h
  exact absurd h (by decide)

theorem both_one (a b : BitVec 1) (h : a &&& b = 1#1) : a = 1#1 ∧ b = 1#1 := by
  revert a b; decide

variable [Cert.Pre_separated.Facts]

/-- A row's largest and smallest score, as the precondition takes them. -/
def top (A : FVec Ideal S128x2049 .f32) : FVec Ideal S128 .f32 :=
  Host.reduce (FloatOps.maximumf (F := Ideal) (φ := .f32)) A (constant (F := Ideal) S_ .f32 0xFF800000#32) reducesTo_S128x2049_S128_d1 h_S_
def bottom (A : FVec Ideal S128x2049 .f32) : FVec Ideal S128 .f32 :=
  Host.reduce (FloatOps.minimumf (F := Ideal) (φ := .f32)) A (constant (F := Ideal) S_ .f32 0x7F800000#32) reducesTo_S128x2049_S128_d1 h_S_

theorem reduces_row : S128x2049.Reduces [1] S128 := by decide

theorem lift_row (l : Fin 128) (k : Fin 2049) : reduces_row.lift (ix1 l) k = ix2 l k := funext fun a => Fin.ext (by
  match a with
  | ⟨0, _⟩ => rfl
  | ⟨1, _⟩ => rfl)

theorem top_eq (A : FVec Ideal S128x2049 .f32) (l : Fin 128) (r : EReal) (h1 : ∀ k : Fin 2049, (A (ix2 l k) : EReal) ≤ r)
    (h2 : ∃ k : Fin 2049, (A (ix2 l k) : EReal) = r) : (top A (ix1 l) : EReal) = r := by
  unfold top
  refine (Host.reduce_eq_fold_single FloatOps.maximumf _ _ reducesTo_S128x2049_S128_d1 reduces_row h_S_ (ix1 l)).trans ?_
  have b : (FloatOps.ofBits (F := Ideal) .f32 0xFF800000#32 : EReal) = ⊥ := by rw [Ideal.ofBits_def]; simp [Ideal.ofBits, Ideal.ieee]
  refine fold_max_eq (ι := Fin 2049) (fun k => (A (reduces_row.lift (ix1 l) k) : EReal)) _ _ (b.le.trans bot_le) (fun k => ?_) ?_
  · exact (congrArg (fun i => (A i : EReal)) (lift_row l k)).le.trans (h1 k)
  · obtain ⟨k, hk⟩ := h2
    exact ⟨k, (congrArg (fun i => (A i : EReal)) (lift_row l k)).trans hk⟩

theorem bottom_eq (A : FVec Ideal S128x2049 .f32) (l : Fin 128) (r : EReal) (h1 : ∀ k : Fin 2049, r ≤ (A (ix2 l k) : EReal))
    (h2 : ∃ k : Fin 2049, (A (ix2 l k) : EReal) = r) : (bottom A (ix1 l) : EReal) = r := by
  unfold bottom
  refine (Host.reduce_eq_fold_single FloatOps.minimumf _ _ reducesTo_S128x2049_S128_d1 reduces_row h_S_ (ix1 l)).trans ?_
  have b : (FloatOps.ofBits (F := Ideal) .f32 0x7F800000#32 : EReal) = ⊤ := by rw [Ideal.ofBits_def]; simp [Ideal.ofBits, Ideal.ieee]
  refine fold_min_eq (ι := Fin 2049) (fun k => (A (reduces_row.lift (ix1 l) k) : EReal)) _ _ (le_top.trans b.ge) (fun k => ?_) ?_
  · exact (h1 k).trans (congrArg (fun i => (A i : EReal)) (lift_row l k)).ge
  · obtain ⟨k, hk⟩ := h2
    exact ⟨k, (congrArg (fun i => (A i : EReal)) (lift_row l k)).trans hk⟩

/-- The value at place `i` of a sample's 257 largest. -/
theorem value_at (A : FVec Ideal S128x2049 .f32) (l : Fin 128) (i : Fin 257) (h : S128x257.Slices ![0, i.val] S128x1)
    (hc : S128x1.ShapeCasts S128) :
    shapeCast S128 (extractStridedSlice S128x1 ![0, i.val] ((Host.topK S128x257 1 (FloatOps.cmpfTotal (F := Ideal) .gt) A sliceFits_S128x2049_S128x257).1) h) hc (ix1 l)
      = A (ix2 l (order A l (Fin.castLE (by norm_num) i))) := by
  refine (shapeCast_apply _ hc (ix1 l) (ix2 l (0 : Fin 1)) (by
    rw [Shape.rowMajor_val_two, Shape.rowMajor_val_one]
    show l.val * 1 + 0 = l.val
    omega)).trans ?_
  rw [← topK_value A 257 (by norm_num) sliceFits_S128x2049_S128x257 l i]
  unfold extractStridedSlice
  refine congrArg _ (funext fun a => Fin.ext ?_)
  match a with
  | ⟨0, _⟩ => exact Nat.zero_add _
  | ⟨1, _⟩ => rfl

/-- The two facts the precondition states. -/
theorem separated_facts (A : FVec Ideal S128x2049 .f32) (h : Cert.Pre_separated.fn (F := Ideal) A = fun _ => 1#1) :
    (∀ (l : Fin 128) (k : Fin 2049), max (A (ix2 l k) : EReal) (-(A (ix2 l k) : EReal)) < FloatOps.ofBits (F := Ideal) .f32 0x7F000000#32)
      ∧ ∀ l : Fin 128, ((((((((top A (ix1 l) : EReal) - (bottom A (ix1 l) : EReal)) * ((1 / 2 ^ 100 : ℝ) : EReal)) * ((1 / 2 ^ 100 : ℝ) : EReal))
          * ((1 / 2 ^ 100 : ℝ) : EReal)) * ((1 / 2 ^ 100 : ℝ) : EReal)) * ((1 / 2 ^ 100 : ℝ) : EReal)) * ((1 / 2 ^ 100 : ℝ) : EReal))
        < (A (ix2 l (order A l ⟨255, by norm_num⟩)) : EReal) - (A (ix2 l (order A l ⟨256, by norm_num⟩)) : EReal) := by
  have h0 := congrFun h (fun a => a.elim0)
  unfold Cert.Pre_separated.fn at h0
  dsimp only at h0
  unfold Cert.Pre_separated.fn_part1 at h0
  dsimp only at h0
  obtain ⟨hl, hr⟩ := both_one _ _ h0
  have : Subsingleton S_.Idx := ⟨fun a b => funext fun i => i.elim0⟩
  constructor
  · intro l k
    exact dec_one _ (Host.reduce_andi_all _ _ reducesTo_S128x2049_S_d0_1 h_S_ _ hr (ix2 l k))
  · intro l
    have hl2 := dec_one _ (Host.reduce_andi_all _ _ reducesTo_S128_S_d0 h_S_ _ hl (ix1 l))
    rw [← word_small]
    have e1 := value_at A l ⟨255, by norm_num⟩ slices_S128x257_S128x1_0_255 shapeCasts_S128x1_S128
    have e2 := value_at A l ⟨256, by norm_num⟩ slices_S128x257_S128x1_0_256 shapeCasts_S128x1_S128
    exact lt_of_lt_of_eq hl2 (congrArg₂ (fun u v : EReal => u - v) e1 e2)

/-- Under the precondition a sample's scores are reals, the 256th largest apart from the 257th. -/
theorem separated_row (A : FVec Ideal S128x2049 .f32) (h : Cert.Pre_separated.fn (F := Ideal) A = fun _ => 1#1) (l : Fin 128) :
    ∃ (a : Fin 2049 → ℝ) (lo hi : ℝ), (∀ k, (A (ix2 l k) : EReal) = (a k : EReal)) ∧ (∀ k, lo ≤ a k) ∧ (∃ k, a k = lo)
      ∧ (∀ k, a k ≤ hi) ∧ (∃ k, a k = hi)
      ∧ (hi - lo) / 2 ^ 600 < a (order A l ⟨255, by norm_num⟩) - a (order A l ⟨256, by norm_num⟩) := by
  obtain ⟨hf, hs⟩ := separated_facts A h
  have hreal : ∀ k : Fin 2049, ∃ r : ℝ, (A (ix2 l k) : EReal) = (r : EReal) := fun k => by
    have hb := hf l k
    have h1 : (A (ix2 l k) : EReal) < ⊤ := lt_of_le_of_lt (le_max_left _ _) (lt_of_lt_of_le hb le_top)
    have h2 : -(A (ix2 l k) : EReal) < ⊤ := lt_of_le_of_lt (le_max_right _ _) (lt_of_lt_of_le hb le_top)
    have h3 : (A (ix2 l k) : EReal) ≠ ⊥ := fun e => by rw [e, EReal.neg_bot] at h2; exact lt_irrefl _ h2
    exact ⟨(A (ix2 l k) : EReal).toReal, (EReal.coe_toReal h1.ne h3).symm⟩
  choose a ha using hreal
  obtain ⟨k0, hk0⟩ := Finite.exists_min a
  obtain ⟨k1, hk1⟩ := Finite.exists_max a
  refine ⟨a, a k0, a k1, ha, hk0, ⟨k0, rfl⟩, hk1, ⟨k1, rfl⟩, ?_⟩
  have hl := hs l
  rw [top_eq A l (a k1 : EReal) (fun k => by rw [ha]; exact EReal.coe_le_coe_iff.2 (hk1 k)) ⟨k1, ha k1⟩,
    bottom_eq A l (a k0 : EReal) (fun k => by rw [ha]; exact EReal.coe_le_coe_iff.2 (hk0 k)) ⟨k0, ha k0⟩, ha, ha,
    ← EReal.coe_sub, ← EReal.coe_sub, ← EReal.coe_mul, ← EReal.coe_mul, ← EReal.coe_mul, ← EReal.coe_mul, ← EReal.coe_mul, ← EReal.coe_mul,
    EReal.coe_lt_coe_iff] at hl
  refine lt_of_eq_of_lt ?_ hl
  rw [show (600 : ℕ) = 100 + 100 + 100 + 100 + 100 + 100 from rfl]
  simp only [pow_add]
  generalize (2 : ℝ) ^ 100 = c
  simp only [div_eq_mul_inv, mul_inv, one_mul]
  ring

end Cert.Proof.Mask

end
-- ==== Proof.Value.lean ====
/-
  The kernel's result is the reference's. The scores enter the launch padded by −∞ and turned, one column to a sample; under
  the precondition every sample is ready for the bisection (`ready`), so the kernel leaves the mask of the 256 largest scores
  (`Found`), which is what the reference holds (`Select`).
-/
module

public import proofs.«01_k».proof.Proof.Launch
public import proofs.«01_k».proof.Proof.Found
public import proofs.«01_k».proof.Proof.Separated
public import proofs.«01_k».proof.Proof.Select
public import Idealize.ShloMosaic.Lib.Pipeline.Value

@[expose] public section

set_option maxRecDepth 16384

noncomputable section

namespace Cert.Proof.Mask

open Cert.KernelIdeal Cert.KernelIdeal.Gen
open Idealize.ShloMosaic Idealize.ShloMosaic.TcCoe Idealize.ShloMosaic.ValueIdx Idealize.ShloMosaic.Tactic

/-- The scores, padded and turned. -/
def padded (A : FVec Ideal S128x2049 .f32) : FVec Ideal S2560x128 .f32 :=
  transpose S2560x128 [1, 0] (concatenate S128x2560 1 [⟨S128x2049, A⟩,
    ⟨S128x511, broadcastInDim S128x511 ![] bcast_S_S128x511 (constant (F := Ideal) S_ .f32 0xFF800000#32)⟩]
    concatenates_S128x2049_S128x511_S128x2560_d1) transposes_S128x2560_S2560x128_1_0

theorem entering_eq (m : (ℓ : Loc nD τ sig) → Buf (Elt Ideal) ℓ) (c : Dev nD) :
    entering m c = padded (m ((c.tc : Thread nD τ).loc main_arg0)) := by
  show StableHlo.after hostOps0 (fun b => m (c, b)) main_v2 = _
  after_results
  rfl

theorem padded_real (A : FVec Ideal S128x2049 .f32) (l : Fin 128) (k : Fin 2049) :
    col (padded A) l (Fin.castLE (by norm_num) k) = A (ix2 l k) := by
  unfold col padded
  refine (transpose_ix2_apply _ _ _ _).trans ?_
  exact concatenate_pair_apply_left 1 A _ concatenates_S128x2049_S128x511_S128x2560_d1 _ rfl (ix2 l k) (fun b => by
    match b with
    | ⟨0, _⟩ => rfl
    | ⟨1, _⟩ => rfl)

theorem padded_pad (A : FVec Ideal S128x2049 .f32) (l : Fin 128) (k : Fin 2560) (hk : 2049 ≤ k.val) : col (padded A) l k = ⊥ := by
  unfold col padded
  refine (transpose_ix2_apply _ _ _ _).trans ?_
  refine (concatenate_pair_apply_right 1 A _ concatenates_S128x2049_S128x511_S128x2560_d1 _ rfl rfl
    (ix2 l (⟨k.val - 2049, by have := k.isLt; omega⟩ : Fin 511)) (fun b hb => by
      match b with
      | ⟨0, _⟩ => rfl
      | ⟨1, _⟩ => exact absurd rfl hb) (by
      show k.val - 2049 + 2049 = k.val
      omega)).trans ?_
  exact word_bot

/-! ### The first state -/

theorem pay42_eq {F : FTy → Type} [FloatOps F] (x : Vec F S2560x128 .f32) : k0_pay42 x = x := by
  unfold k0_pay42; simp only [shapeCast_self]

theorem lift_col (l : Fin 128) (k : Fin 2560) : reduces_S2560x128_S128.lift (ix1 l) k = ix2 k l := funext fun a => Fin.ext (by
  match a with
  | ⟨0, _⟩ => rfl
  | ⟨1, _⟩ => rfl)

theorem valid_iff (x : Vec Ideal S2560x128 .f32) (k : Fin 2560) (l : Fin 128) : k0_pay44 x (ix2 k l) = 1#1 ↔ col x l k ≠ ⊥ := by
  unfold k0_pay44
  rw [pay42_eq]
  show BitVec.ofBool (decide (FloatOps.ofBits (F := Ideal) .f32 0xFF800000#32 < (x (ix2 k l) : EReal))) = 1#1 ↔ _
  rw [word_dec, word_bot]
  exact bot_lt_iff_ne_bot

theorem low_eq {x : Vec Ideal S2560x128 .f32} {l : Fin 128} {a : Fin 2049 → ℝ} {σ : Fin 2049 → Fin 2049} (O : Ordered (col x l) a σ)
    (lo : ℝ) (h1 : ∀ k, lo ≤ a k) (h2 : ∃ k, a k = lo) : (k0_pay45 x (ix2 0 l) : EReal) = (lo : EReal) := by
  have f : ∀ k : Fin 2560, (select (k0_pay44 x) (k0_pay42 x) (broadcast S2560x128 (Scalar.ofBits (F := Ideal) .f32 0x7F800000#32))
      (reduces_S2560x128_S128.lift (ix1 l) k) : EReal) = if col x l k = ⊥ then ⊤ else col x l k := fun k => by
    refine (congrArg (fun i => (select (k0_pay44 x) (k0_pay42 x) (broadcast S2560x128 (Scalar.ofBits (F := Ideal) .f32 0x7F800000#32)) i : EReal))
      (lift_col l k)).trans ?_
    show (if k0_pay44 x (ix2 k l) = 1#1 then (k0_pay42 x (ix2 k l) : EReal) else FloatOps.ofBits (F := Ideal) .f32 0x7F800000#32) = _
    rw [pay42_eq, word_top]
    by_cases hk : col x l k = ⊥
    · rw [if_pos hk, if_neg fun w => (valid_iff x k l).1 w hk]
    · rw [if_neg hk, if_pos ((valid_iff x k l).2 hk)]; rfl
  unfold k0_pay45
  refine (shapeCast_a_1a_apply _ _ _ _).trans ?_
  refine (multiReduction_minimumf_eq_fold _ _ reduces_S2560x128_S128 _ _ (ix1 l)).trans ?_
  refine (reduces_S2560x128_S128.fold_filter_drop_single _ _ _ _).trans ?_
  refine fold_min_eq (ι := Fin 2560) (fun k => (select (k0_pay44 x) (k0_pay42 x) (broadcast S2560x128 (Scalar.ofBits (F := Ideal) .f32 0x7F800000#32))
      (reduces_S2560x128_S128.lift (ix1 l) k) : EReal)) _ _ (le_top.trans word_top.ge) (fun k => ?_) ?_
  · refine le_of_le_of_eq ?_ (f k).symm
    by_cases hk : col x l k = ⊥
    · rw [if_pos hk]; exact le_top
    · rw [if_neg hk]
      have hlt : k.val < 2049 := by
        by_contra hge
        exact hk (O.pad k (by omega))
      rw [show k = Fin.castLE (by norm_num) (⟨k.val, hlt⟩ : Fin 2049) from rfl, O.real]
      exact EReal.coe_le_coe_iff.2 (h1 _)
  · obtain ⟨k, hk⟩ := h2
    refine ⟨Fin.castLE (by norm_num) k, (f _).trans ?_⟩
    rw [O.real, if_neg (EReal.coe_ne_bot _), hk]

theorem high_eq {x : Vec Ideal S2560x128 .f32} {l : Fin 128} {a : Fin 2049 → ℝ} {σ : Fin 2049 → Fin 2049} (O : Ordered (col x l) a σ)
    (hi : ℝ) (h1 : ∀ k, a k ≤ hi) (h2 : ∃ k, a k = hi) : (k0_pay46 x (ix2 0 l) : EReal) = (hi : EReal) := by
  have f : ∀ k : Fin 2560, (x (reduces_S2560x128_S128.lift (ix1 l) k) : EReal) = col x l k := fun k =>
    congrArg (fun i => (x i : EReal)) (lift_col l k)
  unfold k0_pay46
  rw [pay42_eq]
  refine (shapeCast_a_1a_apply _ _ _ _).trans ?_
  refine (Ideal.multiReduction_maximumf_single _ _ reduces_S2560x128_S128 _ _ (ix1 l)).trans ?_
  refine fold_max_eq (ι := Fin 2560) (fun k => (x (reduces_S2560x128_S128.lift (ix1 l) k) : EReal)) _ _ (word_bot.le.trans bot_le) (fun k => ?_) ?_
  · refine le_of_eq_of_le (f k) ?_
    rcases Nat.lt_or_ge k.val 2049 with hlt | hge
    · rw [show k = Fin.castLE (by norm_num) (⟨k.val, hlt⟩ : Fin 2049) from rfl, O.real]
      exact EReal.coe_le_coe_iff.2 (h1 _)
    · rw [O.pad k hge]; exact bot_le
  · obtain ⟨k, hk⟩ := h2
    exact ⟨Fin.castLE (by norm_num) k, (f _).trans (by rw [O.real, hk])⟩

/-- More than 256 scores are valid. -/
theorem many_valid {x : Vec Ideal S2560x128 .f32} {l : Fin 128} {t : ℝ} (h : 256 < cnt (col x l) (t : EReal)) :
    k0_pay47 x (ix2 0 l) ≠ 1#1 := by
  intro e
  have f : ∀ k : Fin 2560, (sitofp (F := Ideal) .f32 (extui 32 (k0_pay44 x) natLt_1_32) (reduces_S2560x128_S128.lift (ix1 l) k) : EReal)
      = if col x l k ≠ ⊥ then 1 else 0 := fun k => by
    refine (congrArg (fun i => (sitofp (F := Ideal) .f32 (extui 32 (k0_pay44 x) natLt_1_32) i : EReal)) (lift_col l k)).trans ?_
    show (((((k0_pay44 x (ix2 k l)).setWidth 32).toInt : ℤ) : ℝ) : EReal) = _
    by_cases hk : col x l k ≠ ⊥
    · rw [if_pos hk, (valid_iff x k l).2 hk]; simp
    · rw [if_neg hk]
      have hz : k0_pay44 x (ix2 k l) = 0#1 := by
        have hw : ∀ v : BitVec 1, v ≠ 1#1 → v = 0#1 := by decide
        exact hw _ fun w => hk ((valid_iff x k l).1 w)
      rw [hz]; simp
  have s : (shapeCast S1x128 (multiReduction .add [0] S128 (sitofp (F := Ideal) .f32 (extui 32 (k0_pay44 x) natLt_1_32)) 0x00000000#32
      reduces_S2560x128_S128 (.inl rfl) rfl) shapeCasts_S128_S1x128 (ix2 0 l) : EReal)
      = (((Finset.univ.filter fun k : Fin 2560 => col x l k ≠ ⊥).card : ℝ) : EReal) := by
    refine (shapeCast_a_1a_apply _ _ _ _).trans ?_
    refine (Ideal.multiReduction_add_single _ _ reduces_S2560x128_S128 _ _ (ix1 l)).trans ?_
    refine (Finset.sum_congr rfl fun k _ => f k).trans ?_
    rw [EReal.coe_natCast]
    exact Finset.sum_boole _ _
  have e2 : BitVec.ofBool (decide ((shapeCast S1x128 (multiReduction .add [0] S128 (sitofp (F := Ideal) .f32 (extui 32 (k0_pay44 x) natLt_1_32)) 0x00000000#32
      reduces_S2560x128_S128 (.inl rfl) rfl) shapeCasts_S128_S1x128 (ix2 0 l) : EReal) ≤ FloatOps.ofBits (F := Ideal) .f32 0x43800000#32)) = 1#1 := e
  rw [word_dec, s, word_k, EReal.coe_le_coe_iff] at e2
  have sub : (Finset.univ.filter fun k : Fin 2560 => (t : EReal) ≤ col x l k) ⊆ Finset.univ.filter fun k : Fin 2560 => col x l k ≠ ⊥ :=
    fun k hk => Finset.mem_filter.2 ⟨Finset.mem_univ _, fun hb => by
      have h2 := (Finset.mem_filter.1 hk).2
      rw [hb] at h2
      exact absurd (le_bot_iff.1 h2) (EReal.coe_ne_bot t)⟩
  have h3 := Finset.card_le_card sub
  have h4 : (Finset.univ.filter fun k : Fin 2560 => col x l k ≠ ⊥).card ≤ 256 := by exact_mod_cast e2
  unfold cnt at h
  omega

/-- The scores at or above a threshold that 256 scores reach are the first 256 in order. -/
theorem Ordered.first_iff {x : Fin 2560 → EReal} {a : Fin 2049 → ℝ} {σ : Fin 2049 → Fin 2049} (O : Ordered x a σ) (t : ℝ)
    (ht : cnt x (t : EReal) = 256) (k : Fin 2560) :
    (t : EReal) ≤ x k ↔ ∃ j : Fin 256, (σ (Fin.castLE (by norm_num) j)).val = k.val := by
  rcases Nat.lt_or_ge k.val 2049 with hlt | hge
  · obtain ⟨j, hj⟩ := O.surj ⟨k.val, hlt⟩
    have hk : k = Fin.castLE (by norm_num) (σ j) := by rw [hj]; rfl
    rw [hk, O.real, EReal.coe_le_coe_iff, O.reached t ht]
    constructor
    · intro hj2
      exact ⟨⟨j.val, hj2⟩, rfl⟩
    · rintro ⟨j', hj'⟩
      have : Fin.castLE (by norm_num) j' = j := by
        refine O.inj (Fin.ext ?_)
        rw [hj']; rfl
      rw [← this]; exact j'.isLt
  · rw [O.pad k hge]
    constructor
    · intro hb
      exact absurd (le_bot_iff.1 hb) (EReal.coe_ne_bot t)
    · rintro ⟨j', hj'⟩
      have := (σ (Fin.castLE (by norm_num) j')).isLt
      omega

/-- The state the bisection starts from, at one sample. -/
theorem start_of {x : Vec Ideal S2560x128 .f32} {l : Fin 128} {a b : EReal} (ha : (k0_pay45 x (ix2 0 l) : EReal) = a)
    (hb : (k0_pay46 x (ix2 0 l) : EReal) = b) (hm : k0_pay47 x (ix2 0 l) ≠ 1#1) : at' (first x) l = (a, b, 0, ⊤) := by
  have h3 : (k0_pay48 x (ix2 0 l) : EReal) = 0 := (if_neg hm).trans word_zero
  have h4 : (k0_pay49 (F := Ideal) (ix2 0 l) : EReal) = ⊤ := word_top
  unfold at' first
  dsimp only
  rw [ha, hb, h3, h4]

variable [Cert.Pre_separated.Facts]

/-- The scores of a sample in order, and the sample ready. -/
theorem ready (A : FVec Ideal S128x2049 .f32) (h : Cert.Pre_separated.fn (F := Ideal) A = fun _ => 1#1) (l : Fin 128) :
    ∃ a : Fin 2049 → ℝ, Ordered (col (padded A) l) a (order A l) ∧ ∃ p q lo hi : ℝ, Ready (padded A) l p q lo hi := by
  obtain ⟨a, lo, hi, ha, lo1, lo2, hi1, hi2, gap⟩ := separated_row A h l
  have O : Ordered (col (padded A) l) a (order A l) :=
    { real := fun k => (padded_real A l k).trans (ha k)
      pad := fun k hk => padded_pad A l k hk
      inj := sortedFrom_injective _
      surj := sortedFrom_surjective _
      desc := fun i j hij => by
        have := order_desc A l i j hij
        rw [ha, ha] at this
        exact EReal.coe_le_coe_iff.1 this }
  have lohi : 0 ≤ (hi - lo) / 2 ^ 600 := by
    have : lo ≤ hi := (lo1 0).trans (hi1 0)
    exact div_nonneg (sub_nonneg.2 this) (pow_nonneg zero_le_two _)
  have C := O.cut lo hi lo1 hi1 (sub_pos.1 (lt_of_le_of_lt lohi gap))
  have hm : k0_pay47 (padded A) (ix2 0 l) ≠ 1#1 := many_valid ((C.gt _).2 le_rfl)
  have hl := low_eq O lo lo1 lo2
  have hh := high_eq O hi hi1 hi2
  exact ⟨a, O, _, _, lo, hi, C, gap, start_of hl hh hm, hm⟩

variable [Cert.ReferenceIdeal.Facts]

theorem leaves_at (A : FVec Ideal S128x2049 .f32) (h : Cert.Pre_separated.fn (F := Ideal) A = fun _ => 1#1)
    {out : Vec Ideal S2560x128 .f32} (L : Leaves (padded A) out) (k : Fin 2560) (l : Fin 128) : out (ix2 k l) = picked A (ix2 k l) := by
  obtain ⟨t, ht, hv⟩ := leaves_mask (fun l => (ready A h l).choose_spec.2) L l
  obtain ⟨a, O, -⟩ := ready A h l
  refine (hv k).trans (Eq.trans ?_ (picked_at A k l).symm)
  have iff := O.first_iff t ht k
  by_cases hc : (t : EReal) ≤ col (padded A) l k
  · rw [if_pos hc, if_pos (iff.1 hc)]
  · rw [if_neg hc, if_neg fun w => hc (iff.2 w)]

/-- What the kernel may leave over the padded scores is the reference's result. -/
theorem leaves_picked (A : FVec Ideal S128x2049 .f32) (h : Cert.Pre_separated.fn (F := Ideal) A = fun _ => 1#1)
    {out : Vec Ideal S2560x128 .f32} (L : Leaves (padded A) out) : out = picked A := by
  funext i
  have e : i = ix2 (i 0) (i 1) := funext fun a => by
    match a with
    | ⟨0, _⟩ => rfl
    | ⟨1, _⟩ => rfl
  exact (congrArg out e).trans ((leaves_at A h L (i 0) (i 1)).trans (congrArg (picked A) e).symm)

end Cert.Proof.Mask

end
-- ==== Proof.Post.Body.lean ====
/-
  What one grid point of the last call leaves, as its case's payload: over any float values, the output block (the running sum) and
  the scratch block (the normed rows) after the body, in terms of the input blocks and of what the point before left.
-/
module

public import proofs.«01_k».proof.Proof.Gen.PostIdeal.Value

@[expose] public section

set_option maxRecDepth 16384

noncomputable section

namespace Cert.Proof.Post

open Cert.PostIdeal Cert.PostIdeal.Gen Idealize.ShloMosaic Idealize.ShloMosaic.TcCoe Idealize.SL.Sem

variable {F : FTy → Type} [FloatOps F]

theorem zeros : (![0, 0] : Fin 2 → Nat) = fun _ => 0 := funext fun a => by fin_cases a <;> rfl

/-- The pooling group `g`'s weights, as the kernel reads them. -/
def group0 (W : Vec F S4x256x256 .bf16) : Vec F S1x256x256 .bf16 :=
  View.ld (Val := Elt F) (e' := .bf16) W (Rect.unit (s := S4x256x256) ![0, 0, 0] S1x256x256.size inb_S4x256x256_S1x256x256_0_0_0)
def group1 (W : Vec F S4x256x256 .bf16) : Vec F S1x256x256 .bf16 :=
  View.ld (Val := Elt F) (e' := .bf16) W (Rect.unit (s := S4x256x256) ![1, 0, 0] S1x256x256.size inb_S4x256x256_S1x256x256_1_0_0)
def group2 (W : Vec F S4x256x256 .bf16) : Vec F S1x256x256 .bf16 :=
  View.ld (Val := Elt F) (e' := .bf16) W (Rect.unit (s := S4x256x256) ![2, 0, 0] S1x256x256.size inb_S4x256x256_S1x256x256_2_0_0)
def group3 (W : Vec F S4x256x256 .bf16) : Vec F S1x256x256 .bf16 :=
  View.ld (Val := Elt F) (e' := .bf16) W (Rect.unit (s := S4x256x256) ![3, 0, 0] S1x256x256.size inb_S4x256x256_S1x256x256_3_0_0)

/-- The block of rows after the output projection, and the same normed, from the input blocks. -/
def mixed (x0 : Vec F S512x2048 .f32) (x1 : Vec F S512x1024 .bf16) (x2 : Vec F S512x1024 .f32) (x3 x4 : Vec F S1024x2048 .bf16)
    (x5 : Vec F S4x256x256 .bf16) (x6 : Vec F S1x1024 .f32) : FVec F S512x2048 .f32 :=
  k0_pay1 (k0_pay5 x2 (group0 x5) (group1 x5) (group2 x5) (group3 x5) x6) (k0_pay6 x0 x1 x3) x4
def normed (x0 : Vec F S512x2048 .f32) (x1 : Vec F S512x1024 .bf16) (x2 : Vec F S512x1024 .f32) (x3 x4 : Vec F S1024x2048 .bf16)
    (x5 : Vec F S4x256x256 .bf16) (x6 : Vec F S1x1024 .f32) (x7 : Vec F S1x2048 .f32) : FVec F S512x2048 .bf16 :=
  k0_pay2 (k0_pay5 x2 (group0 x5) (group1 x5) (group2 x5) (group3 x5) x6) (k0_pay6 x0 x1 x3) x4 x7

/-- The first point of a block of rows leaves the normed rows in the scratch. -/
theorem sout_A (c : Dev nD) (i : grid0.Coords) (a2 : Memref sig .tc .vmem S512x2048 .f32) (h2 : a2.IsWhole) (a3 : Memref sig .tc .vmem S512x1024 .bf16) (h3 : a3.IsWhole) (a4 : Memref sig .tc .vmem S512x1024 .f32) (h4 : a4.IsWhole) (a5 : Memref sig .tc .vmem S1024x2048 .bf16) (h5 : a5.IsWhole) (a6 : Memref sig .tc .vmem S1024x2048 .bf16) (h6 : a6.IsWhole) (a7 : Memref sig .tc .vmem S4x256x256 .bf16) (h7 : a7.IsWhole) (a8 : Memref sig .tc .vmem S1x1024 .f32) (h8 : a8.IsWhole) (a9 : Memref sig .tc .vmem S1x2048 .f32) (h9 : a9.IsWhole) (a10 : Memref sig .tc .vmem S1x2048 .f32) (h10 : a10.IsWhole) (a11 : Memref sig .tc .vmem S2048x1024 .bf16) (h11 : a11.IsWhole) (a12 : Memref sig .tc .vmem S1024x2048 .bf16) (h12 : a12.IsWhole) (a13 : Memref sig .tc .vmem S512x2048 .f32) (h13 : a13.IsWhole) (a14 : Memref sig .tc .vmem S512x2048 .bf16) (h14 : a14.IsWhole) (hc0 : cond0_0 i) (hc1 : ¬cond0_1 i)
    (x0 : Vec F S512x2048 .f32) (x1 : Vec F S512x1024 .bf16) (x2 : Vec F S512x1024 .f32) (x3 : Vec F S1024x2048 .bf16) (x4 : Vec F S1024x2048 .bf16) (x5 : Vec F S4x256x256 .bf16) (x6 : Vec F S1x1024 .f32) (x7 : Vec F S1x2048 .f32) (x8 : Vec F S1x2048 .f32) (x9 : Vec F S2048x1024 .bf16) (x10 : Vec F S1024x2048 .bf16) :
    sout0_A_0 c i a2 h2 a3 h3 a4 h4 a5 h5 a6 h6 a7 h7 a8 h8 a9 h9 a10 h10 a11 h11 a12 h12 a13 h13 a14 h14 hc0 hc1 x0 x1 x2 x3 x4 x5 x6 x7 x8 x9 x10 = normed x0 x1 x2 x3 x4 x5 x6 x7 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_unit_zero (S := S512x2048) zeros]
  unfold normed
  simp only [View.readAt_eq_ld, View.ld_unit_zero (S := S512x2048) zeros, View.ld_unit_zero (S := S512x1024) zeros,
    View.ld_unit_zero (S := S1024x2048) zeros, View.ld_unit_zero (S := S2048x1024) zeros, View.ld_unit_zero (S := S1x1024) zeros, View.ld_unit_zero (S := S1x2048) zeros,
    h2.read_unread, h3.read_unread, h4.read_unread, h5.read_unread, h6.read_unread, h7.read_unread, h8.read_unread, h9.read_unread,
    h10.read_unread, h11.read_unread, h12.read_unread, h13.read_unread, h14.read_unread]
  rfl

/-- The first point of a block of rows leaves the mixed rows with the first slice of the feed-forward part added. -/
theorem out_A (c : Dev nD) (i : grid0.Coords) (a2 : Memref sig .tc .vmem S512x2048 .f32) (h2 : a2.IsWhole) (a3 : Memref sig .tc .vmem S512x1024 .bf16) (h3 : a3.IsWhole) (a4 : Memref sig .tc .vmem S512x1024 .f32) (h4 : a4.IsWhole) (a5 : Memref sig .tc .vmem S1024x2048 .bf16) (h5 : a5.IsWhole) (a6 : Memref sig .tc .vmem S1024x2048 .bf16) (h6 : a6.IsWhole) (a7 : Memref sig .tc .vmem S4x256x256 .bf16) (h7 : a7.IsWhole) (a8 : Memref sig .tc .vmem S1x1024 .f32) (h8 : a8.IsWhole) (a9 : Memref sig .tc .vmem S1x2048 .f32) (h9 : a9.IsWhole) (a10 : Memref sig .tc .vmem S1x2048 .f32) (h10 : a10.IsWhole) (a11 : Memref sig .tc .vmem S2048x1024 .bf16) (h11 : a11.IsWhole) (a12 : Memref sig .tc .vmem S1024x2048 .bf16) (h12 : a12.IsWhole) (a13 : Memref sig .tc .vmem S512x2048 .f32) (h13 : a13.IsWhole) (a14 : Memref sig .tc .vmem S512x2048 .bf16) (h14 : a14.IsWhole) (hc0 : cond0_0 i) (hc1 : ¬cond0_1 i)
    (x0 : Vec F S512x2048 .f32) (x1 : Vec F S512x1024 .bf16) (x2 : Vec F S512x1024 .f32) (x3 : Vec F S1024x2048 .bf16) (x4 : Vec F S1024x2048 .bf16) (x5 : Vec F S4x256x256 .bf16) (x6 : Vec F S1x1024 .f32) (x7 : Vec F S1x2048 .f32) (x8 : Vec F S1x2048 .f32) (x9 : Vec F S2048x1024 .bf16) (x10 : Vec F S1024x2048 .bf16) :
    out0_A_11 c i a2 h2 a3 h3 a4 h4 a5 h5 a6 h6 a7 h7 a8 h8 a9 h9 a10 h10 a11 h11 a12 h12 a13 h13 a14 h14 hc0 hc1 x0 x1 x2 x3 x4 x5 x6 x7 x8 x9 x10 = k0_pay3 (normed x0 x1 x2 x3 x4 x5 x6 x7) x9 (mixed x0 x1 x2 x3 x4 x5 x6) x10 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_cons_unit_zero (S := S512x2048) zeros]
  simp only [View.readCov_unit_zero (S := S512x2048) _ zeros, View.readAt_eq_ld, View.ld_unit_zero (S := S512x2048) zeros, View.ld_unit_zero (S := S512x1024) zeros,
    View.ld_unit_zero (S := S1024x2048) zeros, View.ld_unit_zero (S := S2048x1024) zeros, View.ld_unit_zero (S := S1x1024) zeros, View.ld_unit_zero (S := S1x2048) zeros,
    h2.read_unread, h3.read_unread, h4.read_unread, h5.read_unread, h6.read_unread, h7.read_unread, h8.read_unread, h9.read_unread,
    h10.read_unread, h11.read_unread, h12.read_unread, h13.read_unread, h14.read_unread]
  rfl

/-- A point in the middle adds its slice of the feed-forward part. -/
theorem out_B (c : Dev nD) (i : grid0.Coords) (a2 : Memref sig .tc .vmem S512x2048 .f32) (h2 : a2.IsWhole) (a3 : Memref sig .tc .vmem S512x1024 .bf16) (h3 : a3.IsWhole) (a4 : Memref sig .tc .vmem S512x1024 .f32) (h4 : a4.IsWhole) (a5 : Memref sig .tc .vmem S1024x2048 .bf16) (h5 : a5.IsWhole) (a6 : Memref sig .tc .vmem S1024x2048 .bf16) (h6 : a6.IsWhole) (a7 : Memref sig .tc .vmem S4x256x256 .bf16) (h7 : a7.IsWhole) (a8 : Memref sig .tc .vmem S1x1024 .f32) (h8 : a8.IsWhole) (a9 : Memref sig .tc .vmem S1x2048 .f32) (h9 : a9.IsWhole) (a10 : Memref sig .tc .vmem S1x2048 .f32) (h10 : a10.IsWhole) (a11 : Memref sig .tc .vmem S2048x1024 .bf16) (h11 : a11.IsWhole) (a12 : Memref sig .tc .vmem S1024x2048 .bf16) (h12 : a12.IsWhole) (a13 : Memref sig .tc .vmem S512x2048 .f32) (h13 : a13.IsWhole) (a14 : Memref sig .tc .vmem S512x2048 .bf16) (h14 : a14.IsWhole) (hc0 : ¬cond0_0 i) (hc1 : ¬cond0_1 i)
    (x0 : Vec F S512x2048 .f32) (x1 : Vec F S512x1024 .bf16) (x2 : Vec F S512x1024 .f32) (x3 : Vec F S1024x2048 .bf16) (x4 : Vec F S1024x2048 .bf16) (x5 : Vec F S4x256x256 .bf16) (x6 : Vec F S1x1024 .f32) (x7 : Vec F S1x2048 .f32) (x8 : Vec F S1x2048 .f32) (x9 : Vec F S2048x1024 .bf16) (x10 : Vec F S1024x2048 .bf16) (xo11 : Vec F S512x2048 .f32) (xs0 : Vec F S512x2048 .bf16) :
    out0_B_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xo11 xs0 = k0_pay3 xs0 x9 xo11 x10 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xo11 xs0)]
  unfold kernelRun0_B
  dsimp only
  rw [View.canon_unit_zero (S := S512x2048) zeros]
  simp only [View.readAt_eq_ld, View.ld_unit_zero (S := S512x2048) zeros, View.ld_unit_zero (S := S512x1024) zeros,
    View.ld_unit_zero (S := S1024x2048) zeros, View.ld_unit_zero (S := S2048x1024) zeros, View.ld_unit_zero (S := S1x1024) zeros, View.ld_unit_zero (S := S1x2048) zeros,
    h2.read_unread, h3.read_unread, h4.read_unread, h5.read_unread, h6.read_unread, h7.read_unread, h8.read_unread, h9.read_unread,
    h10.read_unread, h11.read_unread, h12.read_unread, h13.read_unread, h14.read_unread]

/-- The last point of a block of rows adds its slice and norms the rows. -/
theorem out_C (c : Dev nD) (i : grid0.Coords) (a2 : Memref sig .tc .vmem S512x2048 .f32) (h2 : a2.IsWhole) (a3 : Memref sig .tc .vmem S512x1024 .bf16) (h3 : a3.IsWhole) (a4 : Memref sig .tc .vmem S512x1024 .f32) (h4 : a4.IsWhole) (a5 : Memref sig .tc .vmem S1024x2048 .bf16) (h5 : a5.IsWhole) (a6 : Memref sig .tc .vmem S1024x2048 .bf16) (h6 : a6.IsWhole) (a7 : Memref sig .tc .vmem S4x256x256 .bf16) (h7 : a7.IsWhole) (a8 : Memref sig .tc .vmem S1x1024 .f32) (h8 : a8.IsWhole) (a9 : Memref sig .tc .vmem S1x2048 .f32) (h9 : a9.IsWhole) (a10 : Memref sig .tc .vmem S1x2048 .f32) (h10 : a10.IsWhole) (a11 : Memref sig .tc .vmem S2048x1024 .bf16) (h11 : a11.IsWhole) (a12 : Memref sig .tc .vmem S1024x2048 .bf16) (h12 : a12.IsWhole) (a13 : Memref sig .tc .vmem S512x2048 .f32) (h13 : a13.IsWhole) (a14 : Memref sig .tc .vmem S512x2048 .bf16) (h14 : a14.IsWhole) (hc0 : ¬cond0_0 i) (hc1 : cond0_1 i)
    (x0 : Vec F S512x2048 .f32) (x1 : Vec F S512x1024 .bf16) (x2 : Vec F S512x1024 .f32) (x3 : Vec F S1024x2048 .bf16) (x4 : Vec F S1024x2048 .bf16) (x5 : Vec F S4x256x256 .bf16) (x6 : Vec F S1x1024 .f32) (x7 : Vec F S1x2048 .f32) (x8 : Vec F S1x2048 .f32) (x9 : Vec F S2048x1024 .bf16) (x10 : Vec F S1024x2048 .bf16) (xo11 : Vec F S512x2048 .f32) (xs0 : Vec F S512x2048 .bf16) :
    out0_C_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xo11 xs0 = k0_pay4 (k0_pay3 xs0 x9 xo11 x10) x8 := by
  unfold out0_C_11
  rw [View.read_writes_eq_canon _ _ _ (cover0_C_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xo11 xs0)]
  unfold kernelRun0_C
  dsimp only
  sl_unfold_words
  rw [View.canon_cons_unit_zero (S := S512x2048) zeros]
  simp only [View.readCov_unit_zero (S := S512x2048) _ zeros, View.readAt_eq_ld, View.ld_unit_zero (S := S512x2048) zeros, View.ld_unit_zero (S := S512x1024) zeros,
    View.ld_unit_zero (S := S1024x2048) zeros, View.ld_unit_zero (S := S2048x1024) zeros, View.ld_unit_zero (S := S1x1024) zeros, View.ld_unit_zero (S := S1x2048) zeros,
    h2.read_unread, h3.read_unread, h4.read_unread, h5.read_unread, h6.read_unread, h7.read_unread, h8.read_unread, h9.read_unread,
    h10.read_unread, h11.read_unread, h12.read_unread, h13.read_unread, h14.read_unread]

end Cert.Proof.Post

end
-- ==== Proof.Post.Spec.lean ====
/-
  One row of the layer's last part, written over the extended reals: the pooling projection, the output projection with the
  residual, the norm, and the feed-forward part with squared relu. Both programs' results are read as these.
-/
module

public import Idealize.ShloMosaic.Lib.Pointwise

@[expose] public section

noncomputable section

namespace Cert.Proof.Post

open Idealize.ShloMosaic

/-- The row's pooled features: each group of 256 differences times the group's weights, scaled. -/
def pool (d : Fin 1024 → EReal) (W : Fin 4 → Fin 256 → Fin 256 → EReal) (s : Fin 1024 → EReal) (k : Fin 1024) : EReal :=
  (∑ y : Fin 256, d ⟨256 * (k.val / 256) + y.val, by omega⟩ * W ⟨k.val / 256, by omega⟩ y ⟨k.val % 256, by omega⟩) * s k

/-- The row after the output projection, added to the residual. -/
def mix (x : Fin 2048 → EReal) (a p : Fin 1024 → EReal) (wa wp : Fin 1024 → Fin 2048 → EReal) (n : Fin 2048) : EReal :=
  x n + ∑ k : Fin 1024, a k * wa k n + ∑ k : Fin 1024, p k * wp k n

/-- The row divided by its root mean square, times the gain. -/
def norm (h g : Fin 2048 → EReal) (n : Fin 2048) : EReal :=
  h n * Ideal.rsqrt (Ideal.div (∑ k : Fin 2048, h k * h k) (Ideal.ofBits FTy.f32 1157627904#32) + Ideal.ofBits FTy.f32 897988541#32) * g n

/-- One hidden unit of the feed-forward part: relu of the row times the unit's weights. -/
def act (u w : Fin 2048 → EReal) : EReal := max (∑ y : Fin 2048, u y * w y) 0

/-- The row with the feed-forward part added. -/
def grown (h u : Fin 2048 → EReal) (up : Fin 2048 → Fin 8192 → EReal) (down : Fin 8192 → Fin 2048 → EReal) (n : Fin 2048) : EReal :=
  h n + ∑ k : Fin 8192, act u (fun y => up y k) * act u (fun y => up y k) * down k n

/-- Hidden unit `k`'s share of the feed-forward part, `0` past the last unit. -/
def share (u : Fin 2048 → EReal) (up : Fin 2048 → Fin 8192 → EReal) (down : Fin 8192 → Fin 2048 → EReal) (n : Fin 2048) (k : ℕ) : EReal :=
  if h : k < 8192 then act u (fun y => up y ⟨k, h⟩) * act u (fun y => up y ⟨k, h⟩) * down ⟨k, h⟩ n else 0

theorem share_of (u : Fin 2048 → EReal) (up : Fin 2048 → Fin 8192 → EReal) (down : Fin 8192 → Fin 2048 → EReal) (n : Fin 2048) (k : ℕ)
    (h : k < 8192) :
    share u up down n k = act u (fun y => up y ⟨k, h⟩) * act u (fun y => up y ⟨k, h⟩) * down ⟨k, h⟩ n := by
  unfold share
  rw [dif_pos h]

/-- The row with the first `f` slices of 1024 hidden units added. -/
def part (h u : Fin 2048 → EReal) (up : Fin 2048 → Fin 8192 → EReal) (down : Fin 8192 → Fin 2048 → EReal) (n : Fin 2048) (f : ℕ) : EReal :=
  h n + ∑ b ∈ Finset.range f, ∑ j : Fin 1024, share u up down n (b * 1024 + j.val)

theorem part_succ (h u : Fin 2048 → EReal) (up : Fin 2048 → Fin 8192 → EReal) (down : Fin 8192 → Fin 2048 → EReal) (n : Fin 2048) (f : ℕ) :
    part h u up down n (f + 1) = part h u up down n f + ∑ j : Fin 1024, share u up down n (f * 1024 + j.val) := by
  unfold part
  rw [Finset.sum_range_succ, add_assoc]

theorem part_zero (h u : Fin 2048 → EReal) (up : Fin 2048 → Fin 8192 → EReal) (down : Fin 8192 → Fin 2048 → EReal) (n : Fin 2048) :
    part h u up down n 0 = h n := by
  unfold part
  rw [Finset.range_zero, Finset.sum_empty, add_zero]

/-- The eight slices are all the hidden units. -/
theorem part_all (h u : Fin 2048 → EReal) (up : Fin 2048 → Fin 8192 → EReal) (down : Fin 8192 → Fin 2048 → EReal) (n : Fin 2048) :
    part h u up down n 8 = grown h u up down n := by
  unfold part grown
  rw [Finset.sum_range]
  refine congrArg (h n + ·) (Eq.symm ((Fin.sum_univ_tiles (N := 8192) 8 1024 (by norm_num) _).trans ?_))
  refine Finset.sum_congr rfl fun b _ => Finset.sum_congr rfl fun j _ => ?_
  have hb := b.isLt
  have hj := j.isLt
  have e : b.val * 1024 + j.val < 8192 := by omega
  exact (share_of u up down n _ e).symm

/-! ### The same row from equal elements -/

theorem pool_congr {d d' : Fin 1024 → EReal} {W W' : Fin 4 → Fin 256 → Fin 256 → EReal} {s s' : Fin 1024 → EReal}
    (hd : ∀ k, d k = d' k) (hW : ∀ g y e, W g y e = W' g y e) (hs : ∀ k, s k = s' k) (k : Fin 1024) : pool d W s k = pool d' W' s' k := by
  obtain rfl : d = d' := funext hd
  obtain rfl : W = W' := funext fun g => funext fun y => funext fun e => hW g y e
  obtain rfl : s = s' := funext hs
  rfl

theorem mix_congr {x x' : Fin 2048 → EReal} {a a' p p' : Fin 1024 → EReal} {wa wa' wp wp' : Fin 1024 → Fin 2048 → EReal}
    (hx : ∀ n, x n = x' n) (ha : ∀ k, a k = a' k) (hp : ∀ k, p k = p' k) (hwa : ∀ k n, wa k n = wa' k n) (hwp : ∀ k n, wp k n = wp' k n)
    (n : Fin 2048) : mix x a p wa wp n = mix x' a' p' wa' wp' n := by
  obtain rfl : x = x' := funext hx
  obtain rfl : a = a' := funext ha
  obtain rfl : p = p' := funext hp
  obtain rfl : wa = wa' := funext fun k => funext fun n => hwa k n
  obtain rfl : wp = wp' := funext fun k => funext fun n => hwp k n
  rfl

theorem norm_congr {h h' g g' : Fin 2048 → EReal} (hh : ∀ n, h n = h' n) (hg : ∀ n, g n = g' n) (n : Fin 2048) : norm h g n = norm h' g' n := by
  obtain rfl : h = h' := funext hh
  obtain rfl : g = g' := funext hg
  rfl

theorem act_congr {u u' w w' : Fin 2048 → EReal} (hu : ∀ n, u n = u' n) (hw : ∀ n, w n = w' n) : act u w = act u' w' := by
  obtain rfl : u = u' := funext hu
  obtain rfl : w = w' := funext hw
  rfl

theorem grown_congr {h h' u u' : Fin 2048 → EReal} {up : Fin 2048 → Fin 8192 → EReal} {down : Fin 8192 → Fin 2048 → EReal}
    (hh : ∀ n, h n = h' n) (hu : ∀ n, u n = u' n) (n : Fin 2048) : grown h u up down n = grown h' u' up down n := by
  obtain rfl : h = h' := funext hh
  obtain rfl : u = u' := funext hu
  rfl

/-! ### The whole layer part -/

/-- Row `R` after the output projection: the attention's features meet the first half of the weights, the pooled ones the second. -/
def mixRow {N : ℕ} (x : Fin N → Fin 2048 → EReal) (a d : Fin N → Fin 1024 → EReal) (W : Fin 4 → Fin 256 → Fin 256 → EReal) (s : Fin 1024 → EReal)
    (wo : Fin 2048 → Fin 2048 → EReal) (R : Fin N) : Fin 2048 → EReal :=
  mix (x R) (a R) (pool (d R) W s) (fun k n => wo ⟨k.val, by omega⟩ n) (fun k n => wo ⟨1024 + k.val, by omega⟩ n)

/-- Row `R` of the result. -/
def layerRow {N : ℕ} (x : Fin N → Fin 2048 → EReal) (a d : Fin N → Fin 1024 → EReal) (W : Fin 4 → Fin 256 → Fin 256 → EReal) (s : Fin 1024 → EReal)
    (wo : Fin 2048 → Fin 2048 → EReal) (g : Fin 2048 → EReal) (up : Fin 2048 → Fin 8192 → EReal) (down : Fin 8192 → Fin 2048 → EReal)
    (e : Fin 2048 → EReal) (R : Fin N) : Fin 2048 → EReal :=
  norm (grown (mixRow x a d W s wo R) (norm (mixRow x a d W s wo R) g) up down) e

end Cert.Proof.Post

end
-- ==== Proof.Post.Rows.lean ====
/-
  The kernel's payloads of one grid point, read at an element: each is the row function of the blocks' elements.
-/
module

public import proofs.«01_k».proof.Proof.Post.Body
public import proofs.«01_k».proof.Proof.Post.Spec

@[expose] public section

set_option maxRecDepth 16384

noncomputable section

namespace Cert.Proof.Post

open Cert.PostIdeal Cert.PostIdeal.Gen Idealize.ShloMosaic Idealize.ShloMosaic.TcCoe Idealize.SL.Sem

theorem term_eq (d : Vec Ideal S512x1024 .f32) (W : Vec Ideal S4x256x256 .bf16) (r : Fin 512) (a b : Fin 1024) (g g' : Fin 4) (x e e' : Fin 256)
    (ha : a = b) (hg : g = g') (he : e = e') :
    (d (ix2 r a) : EReal) * (W (ix3 g x e) : EReal) = (d (ix2 r b) : EReal) * (W (ix3 g' x e') : EReal) := by
  subst ha hg he
  rfl

/-- The pooled block at an element. -/
theorem pooled_at (d : Vec Ideal S512x1024 .f32) (W : Vec Ideal S4x256x256 .bf16) (s : Vec Ideal S1x1024 .f32) (r : Fin 512) (k : Fin 1024) :
    (k0_pay5 d (group0 W) (group1 W) (group2 W) (group3 W) s (ix2 r k) : EReal)
      = pool (fun k => d (ix2 r k)) (fun g y e => W (ix3 g y e)) (fun k => s (ix2 0 k)) k := by
  pointwise [k0_pay5, group0, group1, group2, group3]
  unfold pool
  refine congrArg (· * (s (ix2 0 k) : EReal)) ?_
  have hk := k.isLt
  split_ifs <;> refine Finset.sum_congr rfl fun x _ => term_eq d W r _ _ _ _ _ _ _ (Fin.ext ?_) (Fin.ext ?_) (Fin.ext ?_) <;>
    dsimp only [Fin.val_zero, Fin.val_one] <;> (try simp only [Fin.isValue, Fin.coe_ofNat_eq_mod]) <;> omega

theorem mixed_at (x0 : Vec Ideal S512x2048 .f32) (x1 : Vec Ideal S512x1024 .bf16) (x2 : Vec Ideal S512x1024 .f32)
    (x3 x4 : Vec Ideal S1024x2048 .bf16) (x5 : Vec Ideal S4x256x256 .bf16) (x6 : Vec Ideal S1x1024 .f32) (r : Fin 512) (n : Fin 2048) :
    (mixed x0 x1 x2 x3 x4 x5 x6 (ix2 r n) : EReal)
      = mix (fun n => x0 (ix2 r n)) (fun k => x1 (ix2 r k))
          (pool (fun k => x2 (ix2 r k)) (fun g y e => x5 (ix3 g y e)) (fun k => x6 (ix2 0 k)))
          (fun k n => x3 (ix2 k n)) (fun k n => x4 (ix2 k n)) n := by
  unfold mixed mix
  simp only [← pooled_at]
  generalize k0_pay5 x2 (group0 x5) (group1 x5) (group2 x5) (group3 x5) x6 = p
  pointwise [k0_pay1, k0_pay6]

theorem normed_of (p : Vec Ideal S512x1024 .f32) (q : Vec Ideal S512x2048 .f32) (w : Vec Ideal S1024x2048 .bf16) (g : Vec Ideal S1x2048 .f32)
    (r : Fin 512) (n : Fin 2048) :
    (k0_pay2 p q w g (ix2 r n) : EReal) = norm (fun n => k0_pay1 p q w (ix2 r n)) (fun n => g (ix2 0 n)) n := by
  unfold norm
  pointwise [k0_pay2, k0_pay1]

theorem normed_at (x0 : Vec Ideal S512x2048 .f32) (x1 : Vec Ideal S512x1024 .bf16) (x2 : Vec Ideal S512x1024 .f32)
    (x3 x4 : Vec Ideal S1024x2048 .bf16) (x5 : Vec Ideal S4x256x256 .bf16) (x6 : Vec Ideal S1x1024 .f32) (x7 : Vec Ideal S1x2048 .f32)
    (r : Fin 512) (n : Fin 2048) :
    (normed x0 x1 x2 x3 x4 x5 x6 x7 (ix2 r n) : EReal)
      = norm (mix (fun n => x0 (ix2 r n)) (fun k => x1 (ix2 r k))
          (pool (fun k => x2 (ix2 r k)) (fun g y e => x5 (ix3 g y e)) (fun k => x6 (ix2 0 k)))
          (fun k n => x3 (ix2 k n)) (fun k n => x4 (ix2 k n))) (fun n => x7 (ix2 0 n)) n := by
  unfold normed
  refine (normed_of _ _ _ _ r n).trans ?_
  exact congrArg (fun h => norm h (fun n => x7 (ix2 0 n)) n) (funext fun n => mixed_at x0 x1 x2 x3 x4 x5 x6 r n)

/-- A slice of 1024 hidden units added to a block, at an element. -/
theorem added_at (u : Vec Ideal S512x2048 .bf16) (up : Vec Ideal S2048x1024 .bf16) (o : Vec Ideal S512x2048 .f32) (down : Vec Ideal S1024x2048 .bf16)
    (r : Fin 512) (n : Fin 2048) :
    (k0_pay3 u up o down (ix2 r n) : EReal)
      = o (ix2 r n) + ∑ j : Fin 1024, act (fun y => u (ix2 r y)) (fun y => up (ix2 y j)) * act (fun y => u (ix2 r y)) (fun y => up (ix2 y j))
          * down (ix2 j n) := by
  unfold act
  pointwise [k0_pay3]

/-- The last norm of a block, at an element. -/
theorem final_at (o : Vec Ideal S512x2048 .f32) (g : Vec Ideal S1x2048 .f32) (r : Fin 512) (n : Fin 2048) :
    (k0_pay4 o g (ix2 r n) : EReal) = norm (fun n => o (ix2 r n)) (fun n => g (ix2 0 n)) n := by
  unfold norm
  pointwise [k0_pay4]

end Cert.Proof.Post

end
-- ==== Proof.Post.Entry.lean ====
/-
  The blocks the last call reads, as elements of the program's arguments.
-/
module

public import proofs.«01_k».proof.Proof.Gen.PostIdeal.Value
public import Idealize.ShloMosaic.Lib.Pointwise
public import Idealize.ShloMosaic.Lib.Pipeline.ValueKit.Point
public import Idealize.ShloMosaic.Lib.Claim

@[expose] public section

set_option maxRecDepth 16384

noncomputable section

namespace Cert.Proof.Post

open Cert.PostIdeal Cert.PostIdeal.Gen Idealize.ShloMosaic Idealize.ShloMosaic.TcCoe Idealize.SL.Sem

variable (m : (ℓ : Loc nD τ sig) → Buf (Elt Ideal) ℓ) (c : Dev nD)

theorem index0 : ∀ t : Fin cfg0.N, win0_0.index t = ![t.val / 8, 0] := (by decide +kernel : ∀ t : Fin grid0.N, win0_0.index t = ![t.val / 8, 0])
theorem index1 : ∀ t : Fin cfg0.N, win0_1.index t = ![t.val / 8, 0] := (by decide +kernel : ∀ t : Fin grid0.N, win0_1.index t = ![t.val / 8, 0])
theorem index2 : ∀ t : Fin cfg0.N, win0_2.index t = ![t.val / 8, 0] := (by decide +kernel : ∀ t : Fin grid0.N, win0_2.index t = ![t.val / 8, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0, 0] := (by decide +kernel : ∀ t : Fin grid0.N, win0_5.index t = ![0, 0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, t.val % 8] := (by decide +kernel : ∀ t : Fin grid0.N, win0_9.index t = ![0, t.val % 8])
theorem index10 : ∀ t : Fin cfg0.N, win0_10.index t = ![t.val % 8, 0] := (by decide +kernel : ∀ t : Fin grid0.N, win0_10.index t = ![t.val % 8, 0])

theorem x_at (t : Fin cfg0.N) (r : Fin 512) (n : Fin 2048) (R : Fin 8192) (hR : R.val = 512 * (t.val / 8) + r.val) :
    (iblk m c 0 t (ix2 r n) : EReal) = m ((c : Thread nD τ).loc main_arg0) (ix2 R n) := by
  blk_point [iblk, V, index0 t]

theorem att_at (t : Fin cfg0.N) (r : Fin 512) (n : Fin 1024) (R : Fin 8192) (hR : R.val = 512 * (t.val / 8) + r.val) :
    (iblk m c 1 t (ix2 r n) : EReal) = m ((c : Thread nD τ).loc main_arg1) (ix2 R n) := by
  blk_point [iblk, V, index1 t]

theorem d_at (t : Fin cfg0.N) (r : Fin 512) (n : Fin 1024) (R : Fin 8192) (hR : R.val = 512 * (t.val / 8) + r.val) :
    (iblk m c 2 t (ix2 r n) : EReal) = m ((c : Thread nD τ).loc main_arg2) (ix2 R n) := by
  blk_point [iblk, V, index2 t]

theorem wa_at (t : Fin cfg0.N) (k : Fin 1024) (n : Fin 2048) :
    (iblk m c 3 t (ix2 k n) : EReal) = m ((c : Thread nD τ).loc main_arg5) (ix2 ⟨k.val, by omega⟩ n) := by
  blk_point [iblk, V, index3 t]

theorem wp_at (t : Fin cfg0.N) (k : Fin 1024) (n : Fin 2048) :
    (iblk m c 4 t (ix2 k n) : EReal) = m ((c : Thread nD τ).loc main_arg5) (ix2 ⟨1024 + k.val, by omega⟩ n) := by
  blk_point [iblk, V, index4 t]

theorem pool_at (t : Fin cfg0.N) (g : Fin 4) (y e : Fin 256) :
    (iblk m c 5 t (ix3 g y e) : EReal) = m ((c : Thread nD τ).loc main_arg3) (ix3 g y e) := by
  blk_point [iblk, V, index5 t]

theorem scale_at (t : Fin cfg0.N) (k : Fin 1024) :
    (iblk m c 6 t (ix2 0 k) : EReal) = m ((c : Thread nD τ).loc main_arg4) (ix1 k) := by
  blk_point [iblk, V, index6 t]

theorem gmlp_at (t : Fin cfg0.N) (k : Fin 2048) :
    (iblk m c 7 t (ix2 0 k) : EReal) = m ((c : Thread nD τ).loc main_arg6) (ix1 k) := by
  blk_point [iblk, V, index7 t]

theorem gfin_at (t : Fin cfg0.N) (k : Fin 2048) :
    (iblk m c 8 t (ix2 0 k) : EReal) = m ((c : Thread nD τ).loc main_arg9) (ix1 k) := by
  blk_point [iblk, V, index8 t]

theorem up_at (t : Fin cfg0.N) (y : Fin 2048) (j : Fin 1024) (J : Fin 8192) (hJ : J.val = t.val % 8 * 1024 + j.val) :
    (iblk m c 9 t (ix2 y j) : EReal) = m ((c : Thread nD τ).loc main_arg7) (ix2 y J) := by
  blk_point [iblk, V, index9 t]

theorem down_at (t : Fin cfg0.N) (j : Fin 1024) (n : Fin 2048) (J : Fin 8192) (hJ : J.val = t.val % 8 * 1024 + j.val) :
    (iblk m c 10 t (ix2 j n) : EReal) = m ((c : Thread nD τ).loc main_arg8) (ix2 J n) := by
  blk_point [iblk, V, index10 t]

end Cert.Proof.Post

end
-- ==== Proof.Post.Fold.lean ====
/-
  The last call's points, folded: after point `n` of the grid the scratch holds the normed rows of the block of rows `n / 8`, and the
  output block these rows with the first `n % 8 + 1` slices of the feed-forward part added — after the last slice, normed.
-/
module

public import proofs.«01_k».proof.Proof.Post.Rows
public import proofs.«01_k».proof.Proof.Post.Entry

@[expose] public section

set_option maxRecDepth 16384

noncomputable section

namespace Cert.Proof.Post

open Cert.PostIdeal Cert.PostIdeal.Gen Cert.PostIdeal.Value Idealize.ShloMosaic Idealize.ShloMosaic.TcCoe Idealize.SL.Sem

variable (m : (ℓ : Loc nD τ sig) → Buf (Elt Ideal) ℓ) (c : Dev nD)

/-- The feed-forward weights, the gains and a row of the layer, of this memory's arguments. -/
def upOf : Fin 2048 → Fin 8192 → EReal := fun y k => m ((c : Thread nD τ).loc main_arg7) (ix2 y k)
def downOf : Fin 8192 → Fin 2048 → EReal := fun k n => m ((c : Thread nD τ).loc main_arg8) (ix2 k n)
def gainOf : Fin 2048 → EReal := fun n => m ((c : Thread nD τ).loc main_arg6) (ix1 n)
def lastOf : Fin 2048 → EReal := fun n => m ((c : Thread nD τ).loc main_arg9) (ix1 n)
def mixOf (R : Fin 8192) : Fin 2048 → EReal :=
  mixRow (fun R n => m ((c : Thread nD τ).loc main_arg0) (ix2 R n)) (fun R k => m ((c : Thread nD τ).loc main_arg1) (ix2 R k))
    (fun R k => m ((c : Thread nD τ).loc main_arg2) (ix2 R k)) (fun g y e => m ((c : Thread nD τ).loc main_arg3) (ix3 g y e))
    (fun k => m ((c : Thread nD τ).loc main_arg4) (ix1 k)) (fun k n => m ((c : Thread nD τ).loc main_arg5) (ix2 k n)) R
def normOf (R : Fin 8192) : Fin 2048 → EReal := norm (mixOf m c R) (gainOf m c)

theorem mixed_row (t : Fin cfg0.N) (r : Fin 512) (n : Fin 2048) (R : Fin 8192) (hR : R.val = 512 * (t.val / 8) + r.val) :
    (mixed (iblk m c 0 t) (iblk m c 1 t) (iblk m c 2 t) (iblk m c 3 t) (iblk m c 4 t) (iblk m c 5 t) (iblk m c 6 t) (ix2 r n) : EReal) = mixOf m c R n :=
  (mixed_at _ _ _ _ _ _ _ r n).trans (mix_congr (fun n => x_at m c t r n R hR) (fun k => att_at m c t r k R hR)
    (pool_congr (fun k => d_at m c t r k R hR) (fun g y e => pool_at m c t g y e) (fun k => scale_at m c t k))
    (fun k n => wa_at m c t k n) (fun k n => wp_at m c t k n) n)

theorem normed_row (t : Fin cfg0.N) (r : Fin 512) (n : Fin 2048) (R : Fin 8192) (hR : R.val = 512 * (t.val / 8) + r.val) :
    (normed (iblk m c 0 t) (iblk m c 1 t) (iblk m c 2 t) (iblk m c 3 t) (iblk m c 4 t) (iblk m c 5 t) (iblk m c 6 t) (iblk m c 7 t) (ix2 r n) : EReal) = normOf m c R n :=
  (normed_at _ _ _ _ _ _ _ _ r n).trans (norm_congr (fun n => mix_congr (fun n => x_at m c t r n R hR) (fun k => att_at m c t r k R hR)
    (pool_congr (fun k => d_at m c t r k R hR) (fun g y e => pool_at m c t g y e) (fun k => scale_at m c t k))
    (fun k n => wa_at m c t k n) (fun k n => wp_at m c t k n) n) (fun k => gmlp_at m c t k) n)

/-- Point `t`'s slice added to a block whose rows hold the first slices. -/
theorem added_row (t : Fin cfg0.N) (u : Vec Ideal S512x2048 .bf16) (o : Vec Ideal S512x2048 .f32) (r : Fin 512) (R : Fin 8192)
    (hu : ∀ n, (u (ix2 r n) : EReal) = normOf m c R n)
    (ho : ∀ n, (o (ix2 r n) : EReal) = part (mixOf m c R) (normOf m c R) (upOf m c) (downOf m c) n (t.val % 8)) (n : Fin 2048) :
    (k0_pay3 u (iblk m c 9 t) o (iblk m c 10 t) (ix2 r n) : EReal)
      = part (mixOf m c R) (normOf m c R) (upOf m c) (downOf m c) n (t.val % 8 + 1) := by
  refine (added_at u (iblk m c 9 t) o (iblk m c 10 t) r n).trans ?_
  rw [part_succ, ho n]
  refine congrArg (part (mixOf m c R) (normOf m c R) (upOf m c) (downOf m c) n (t.val % 8) + ·) (Finset.sum_congr rfl fun j _ => ?_)
  have hj := j.isLt
  have ht : t.val % 8 < 8 := Nat.mod_lt _ (by norm_num)
  have hk : t.val % 8 * 1024 + j.val < 8192 := by omega
  rw [share_of _ _ _ _ _ hk]
  have e := act_congr hu (fun y => up_at m c t y j ⟨_, hk⟩ rfl)
  have e' := down_at m c t j n ⟨_, hk⟩ rfl
  exact congrArg₂ (· * ·) (congrArg₂ (· * ·) e e) e'

/-- What the carried blocks hold after point `n`. -/
def Holds (n : ℕ) (acc : Vec Ideal S512x2048 .f32 × Vec Ideal S512x2048 .bf16) : Prop :=
  ∀ (r : Fin 512) (R : Fin 8192), R.val = 512 * (n / 8) + r.val →
    (∀ y, (acc.2 (ix2 r y) : EReal) = normOf m c R y) ∧
    (n % 8 ≠ 7 → ∀ y, (acc.1 (ix2 r y) : EReal) = part (mixOf m c R) (normOf m c R) (upOf m c) (downOf m c) y (n % 8 + 1)) ∧
    (n % 8 = 7 → ∀ y, (acc.1 (ix2 r y) : EReal) = norm (grown (mixOf m c R) (normOf m c R) (upOf m c) (downOf m c)) (lastOf m c) y)

theorem step_first (t : Fin cfg0.N) (acc : Vec Ideal S512x2048 .f32 × Vec Ideal S512x2048 .bf16) (h0 : t.val % 8 = 0) :
    Holds m c t.val (stAt0 m c t.val t.isLt acc) := by
  have h1 : ¬t.val % 8 = 7 := by omega
  rw [stAt0_A m c t acc h0 h1, out_A, sout_A]
  intro r R hR
  refine ⟨fun y => normed_row m c t r y R hR, fun _ => added_row m c t _ _ r R (fun y => normed_row m c t r y R hR) fun y => ?_, fun h => absurd h h1⟩
  rw [h0, part_zero]
  exact mixed_row m c t r y R hR

theorem step_middle (t : Fin cfg0.N) (acc : Vec Ideal S512x2048 .f32 × Vec Ideal S512x2048 .bf16) (h0 : ¬t.val % 8 = 0) (h1 : ¬t.val % 8 = 7)
    (before : Holds m c (t.val - 1) acc) : Holds m c t.val (stAt0 m c t.val t.isLt acc) := by
  rw [stAt0_B m c t acc h0 h1, out_B]
  intro r R hR
  have e : (t.val - 1) / 8 = t.val / 8 := by omega
  have e' : (t.val - 1) % 8 + 1 = t.val % 8 := by omega
  obtain ⟨hu, ho, -⟩ := before r R (by rw [e]; exact hR)
  rw [e'] at ho
  refine ⟨hu, fun _ => added_row m c t _ _ r R hu (ho (by omega)), fun h => absurd h h1⟩

theorem step_last (t : Fin cfg0.N) (acc : Vec Ideal S512x2048 .f32 × Vec Ideal S512x2048 .bf16) (h1 : t.val % 8 = 7)
    (before : Holds m c (t.val - 1) acc) : Holds m c t.val (stAt0 m c t.val t.isLt acc) := by
  have h0 : ¬t.val % 8 = 0 := by omega
  rw [stAt0_C m c t acc h0 h1, out_C]
  intro r R hR
  have e : (t.val - 1) / 8 = t.val / 8 := by omega
  have e' : (t.val - 1) % 8 + 1 = t.val % 8 := by omega
  obtain ⟨hu, ho, -⟩ := before r R (by rw [e]; exact hR)
  rw [e'] at ho
  refine ⟨hu, fun h => absurd h1 h, fun _ y => ?_⟩
  refine (final_at _ _ r y).trans (norm_congr (fun n => ?_) (fun k => gfin_at m c t k) y)
  refine (added_row m c t _ _ r R hu (ho (by omega)) n).trans ?_
  rw [h1]
  exact part_all _ _ _ _ _

theorem holds : ∀ (n : ℕ) (hn : n < cfg0.N), Holds m c n (outsAt0 m c n hn)
  | 0, hn => by
    rw [outsAt0_zero]
    exact step_first m c ⟨0, hn⟩ _ rfl
  | n + 1, hn => by
    rw [outsAt0_succ]
    by_cases h0 : (n + 1) % 8 = 0
    · exact step_first m c ⟨n + 1, hn⟩ _ h0
    by_cases h1 : (n + 1) % 8 = 7
    · exact step_last m c ⟨n + 1, hn⟩ _ h1 (holds n _)
    · exact step_middle m c ⟨n + 1, hn⟩ _ h0 h1 (holds n _)

/-- The last call's result at an element. -/
theorem result_at (R : Fin 8192) (n : Fin 2048) :
    (G11 m c (ix2 R n) : EReal) = norm (grown (mixOf m c R) (normOf m c R) (upOf m c) (downOf m c)) (lastOf m c) n := by
  have hRl := R.isLt
  have hnl := n.isLt
  have hp : pt11Of (ix2 R n) = 8 * (R.val / 512) + 7 := by
    unfold pt11Of run11Of
    simp only [ix2_0, ix2_1]
    omega
  have hlt : pt11Of (ix2 R n) < cfg0.N := by
    rw [hp]
    exact lt_of_lt_of_eq (by omega) N_0.symm
  unfold G11
  rw [dif_pos hlt, ← outsAt0_sweep m c _ hlt]
  have h := (holds m c _ hlt ⟨R.val % 512, Nat.mod_lt _ (by norm_num)⟩ R (by rw [hp]; dsimp only; omega)).2.2 (by rw [hp]; omega) n
  refine Eq.trans (congrArg _ ?_) h
  funext a
  fin_cases a
  · rfl
  · exact Fin.ext (Nat.mod_eq_of_lt hnl)

end Cert.Proof.Post

end
-- ==== Proof.Post.Reference.lean ====
/-
  The reference program's result at an element: the same row functions.
-/
module

public import proofs.«01_k».proof.Proof.Gen.PostReferenceIdeal.Run
public import proofs.«01_k».proof.Proof.Post.Spec

@[expose] public section

set_option maxRecDepth 16384

noncomputable section

namespace Cert.Proof.Post.Reference

open Cert.PostReferenceIdeal Cert.PostReferenceIdeal.Gen Cert.PostReferenceIdeal.Value Idealize.ShloMosaic Idealize.ShloMosaic.TcCoe Idealize.SL.Sem

variable (m : (ℓ : Loc nD τ sig) → Buf (Elt Ideal) ℓ) (c : Dev nD)

/-- The reference's pooled features. -/
def pooledV (d : FVec Ideal S8192x1024 .f32) (W : FVec Ideal S4x256x256 .f32) (s : FVec Ideal S1024 .f32) : FVec Ideal S8192x1024 .f32 :=
  mulf (shapeCast _ (transpose S8192x4x256 [2, 0, 1] (Host.dotGeneral dot_S4x256x256_S8192x4x256_S4x256x8192_1_2_2_0_0_1 none W (shapeCast _ d shapeCasts_S8192x1024_S8192x4x256)) transposes_S4x256x8192_S8192x4x256_2_0_1) shapeCasts_S8192x4x256_S8192x1024) (broadcastInDim S8192x1024 ![0, 1] bcast_S1x1024_S8192x1024_0_1 (broadcastInDim S1x1024 ![1] bcast_S1024_S1x1024_1 s))

/-- The reference's rows after the output projection. -/
def mixedV (x : FVec Ideal S8192x2048 .f32) (a p : FVec Ideal S8192x1024 .f32) (wo : FVec Ideal S2048x2048 .f32) : FVec Ideal S8192x2048 .f32 :=
  addf x (Host.dotGeneral dot_S8192x2048_S2048x2048_S8192x2048_1_0_0_1_n_n none (concatenate S8192x2048 1 [⟨S8192x1024, a⟩, ⟨S8192x1024, p⟩] concatenates_S8192x1024_S8192x1024_S8192x2048_d1) wo)

/-- The reference's norm. -/
def normV (h : FVec Ideal S8192x2048 .f32) (g : FVec Ideal S2048 .f32) : FVec Ideal S8192x2048 .f32 :=
  mulf (mulf h (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The reference's hidden units. -/
def actV (u : FVec Ideal S8192x2048 .f32) (up : FVec Ideal S2048x8192 .f32) : FVec Ideal S8192x8192 .f32 :=
  maximumf (Host.dotGeneral dot_S8192x2048_S2048x8192_S8192x8192_1_0_0_1_n_n none u up) (broadcastInDim S8192x8192 ![] bcast_S_S8192x8192 (constant S_ .f32 0x00000000#32))

/-- The reference's rows with the feed-forward part added. -/
def grownV (h : FVec Ideal S8192x2048 .f32) (a : FVec Ideal S8192x8192 .f32) (down : FVec Ideal S8192x2048 .f32) : FVec Ideal S8192x2048 .f32 :=
  addf h (Host.dotGeneral dot_S8192x8192_S8192x2048_S8192x2048_1_0_0_1_n_n none (mulf a a) down)

/-- The printed result, in these names. -/
theorem result_eq : (res_main_v40 m c : FVec Ideal S8192x2048 .f32) =
    normV (grownV (mixedV (m ((c : Thread nD τ).loc main_arg0)) (m ((c : Thread nD τ).loc main_arg1))
        (pooledV (m ((c : Thread nD τ).loc main_arg2)) (m ((c : Thread nD τ).loc main_arg3)) (m ((c : Thread nD τ).loc main_arg4))) (m ((c : Thread nD τ).loc main_arg5)))
      (actV (normV (mixedV (m ((c : Thread nD τ).loc main_arg0)) (m ((c : Thread nD τ).loc main_arg1))
        (pooledV (m ((c : Thread nD τ).loc main_arg2)) (m ((c : Thread nD τ).loc main_arg3)) (m ((c : Thread nD τ).loc main_arg4))) (m ((c : Thread nD τ).loc main_arg5)))
        (m ((c : Thread nD τ).loc main_arg6))) (m ((c : Thread nD τ).loc main_arg7))) (m ((c : Thread nD τ).loc main_arg8))) (m ((c : Thread nD τ).loc main_arg9)) := by
  unfold res_main_v40
  rfl

theorem pooledV_at (d : FVec Ideal S8192x1024 .f32) (W : FVec Ideal S4x256x256 .f32) (s : FVec Ideal S1024 .f32) (R : Fin 8192) (k : Fin 1024) :
    (pooledV d W s (ix2 R k) : EReal) = pool (fun k => d (ix2 R k)) (fun g y e => W (ix3 g y e)) (fun k => s (ix1 k)) k := by
  pointwise [pooledV]
  unfold pool
  refine congrArg (· * (s (ix1 k) : EReal)) (Finset.sum_congr rfl fun y _ => (mul_comm _ _).trans ?_)
  have e : k.val / 256 * 256 + y.val = 256 * (k.val / 256) + y.val := by omega
  exact congrArg (fun j : Fin 1024 => (d (ix2 R j) : EReal) * _) (Fin.ext e)

theorem mixedV_at (x : FVec Ideal S8192x2048 .f32) (a p : FVec Ideal S8192x1024 .f32) (wo : FVec Ideal S2048x2048 .f32) (R : Fin 8192) (n : Fin 2048) :
    (mixedV x a p wo (ix2 R n) : EReal) = mix (fun n => x (ix2 R n)) (fun k => a (ix2 R k)) (fun k => p (ix2 R k))
      (fun k n => wo (ix2 ⟨k.val, by omega⟩ n)) (fun k n => wo (ix2 ⟨1024 + k.val, by omega⟩ n)) n := by
  pointwise [mixedV]
  unfold mix
  exact (add_assoc _ _ _).symm

theorem normV_at (h : FVec Ideal S8192x2048 .f32) (g : FVec Ideal S2048 .f32) (R : Fin 8192) (n : Fin 2048) :
    (normV h g (ix2 R n) : EReal) = norm (fun n => h (ix2 R n)) (fun n => g (ix1 n)) n := by
  unfold norm
  pointwise [normV]

theorem grownV_at (h u : FVec Ideal S8192x2048 .f32) (up : FVec Ideal S2048x8192 .f32) (down : FVec Ideal S8192x2048 .f32) (R : Fin 8192) (n : Fin 2048) :
    (grownV h (actV u up) down (ix2 R n) : EReal) = grown (fun n => h (ix2 R n)) (fun n => u (ix2 R n)) (fun y k => up (ix2 y k))
      (fun k n => down (ix2 k n)) n := by
  unfold grown act
  pointwise [grownV, actV]

/-- The reference's result at an element is the layer's row. -/
theorem result_at (R : Fin 8192) (n : Fin 2048) :
    (res_main_v40 m c (ix2 R n) : EReal) = layerRow
      (fun R n => m ((c : Thread nD τ).loc main_arg0) (ix2 R n)) (fun R k => m ((c : Thread nD τ).loc main_arg1) (ix2 R k))
      (fun R k => m ((c : Thread nD τ).loc main_arg2) (ix2 R k)) (fun g y e => m ((c : Thread nD τ).loc main_arg3) (ix3 g y e))
      (fun k => m ((c : Thread nD τ).loc main_arg4) (ix1 k)) (fun k n => m ((c : Thread nD τ).loc main_arg5) (ix2 k n))
      (fun n => m ((c : Thread nD τ).loc main_arg6) (ix1 n)) (fun y k => m ((c : Thread nD τ).loc main_arg7) (ix2 y k))
      (fun k n => m ((c : Thread nD τ).loc main_arg8) (ix2 k n)) (fun n => m ((c : Thread nD τ).loc main_arg9) (ix1 n)) R n := by
  refine (congrFun (result_eq m c) (ix2 R n)).trans ?_
  have hmix : ∀ n, _ = _ := fun n => (mixedV_at (m ((c : Thread nD τ).loc main_arg0)) (m ((c : Thread nD τ).loc main_arg1))
    (pooledV (m ((c : Thread nD τ).loc main_arg2)) (m ((c : Thread nD τ).loc main_arg3)) (m ((c : Thread nD τ).loc main_arg4)))
    (m ((c : Thread nD τ).loc main_arg5)) R n).trans (mix_congr (fun _ => rfl) (fun _ => rfl) (fun k => pooledV_at _ _ _ R k)
      (fun _ _ => rfl) (fun _ _ => rfl) n)
  refine (normV_at _ _ R n).trans (norm_congr (fun n => ?_) (fun _ => rfl) n)
  refine (grownV_at _ _ _ _ R n).trans (grown_congr hmix (fun n => ?_) n)
  exact (normV_at _ _ R n).trans (norm_congr hmix (fun _ => rfl) n)

end Cert.Proof.Post.Reference

end
-- ==== Proof.Post.Traced.lean ====
/-
  The last part's program as traced has the same text as the one over ideal values: one run, over any float values, gives both frames.
-/
module

public import proofs.«01_k».proof.Defs
public import proofs.«01_k».proof.Proof.Gen.Post
public import proofs.«01_k».proof.Proof.Gen.PostIdeal.Frame

@[expose] public section

set_option maxRecDepth 16384

noncomputable section

namespace Cert.Proof

open Idealize.ShloMosaic Idealize.ShloMosaic.TcCoe Idealize.SL.Sem

namespace Post

theorem body_eq : Cert.Post.cc0_post (F := Bits) = Cert.PostIdeal.cc0_post (F := Bits) := by
  unfold Cert.Post.cc0_post Cert.PostIdeal.cc0_post
  rfl

theorem labels_eq : Cert.Post.defs₀ (F := Bits) = Cert.PostIdeal.defs₀ (F := Bits) := by
  unfold Cert.Post.defs₀ Cert.PostIdeal.defs₀
  rw [body_eq]
  refine congrArg Defs.onTc (funext fun l => funext fun a => ?_)
  match l, a with
  | 0, (t, s) => rfl
  | ⟨_ + 1, h⟩, _ => exact absurd h (Nat.not_lt.2 (Nat.le_add_left _ _))

theorem defs_eq : Cert.Post.defs (F := Bits) = Cert.PostIdeal.defs (F := Bits) :=
  congrArg (Pipeline.defs (Cert.PostIdeal.pcfgs (F := Bits))) labels_eq

end Post

theorem frame_post : Cert.quiescent_Post := fun m ρ _ => by
  rw [Post.defs_eq]
  exact Cert.PostIdeal.Gen.frame (F := Bits) m ρ

end Cert.Proof

end
-- ==== Proof.Proj.Spec.lean ====
/-
  One row of the projections, written over the extended reals: the angles of the rotary embedding, the rotation of a head, and
  the products of a normed row with the weights. Both programs' results are read as these.
-/
module

public import proofs.«01_k».proof.Proof.Post.Spec

@[expose] public section

noncomputable section

namespace Cert.Proof.Proj

open Idealize.ShloMosaic

/-- The `k`-th frequency of a head whose width has the bits `D`. -/
def freq (D : BitVec 32) (k : ℕ) : EReal :=
  Ideal.pow (Ideal.ofBits FTy.f32 1176256512#32)
    (Ideal.div (-(Ideal.ofBits FTy.f32 1073741824#32 * FloatOps.sitofp (F := Ideal) FTy.f32 (BitVec.ofNat 32 k))) (Ideal.ofBits FTy.f32 D))

/-- The angle of position `p` at the `k`-th frequency. -/
def angle (D p : BitVec 32) (k : ℕ) : EReal := FloatOps.sitofp (F := Ideal) FTy.f32 p * freq D k

/-- The bits of the attention heads' width. -/
abbrev W128 : BitVec 32 := 1124073472#32

/-- The bits of the indexer heads' width. -/
abbrev W64 : BitVec 32 := 1115684864#32

theorem base_real : Ideal.ofBits FTy.f32 1176256512#32 = ((10000 : ℝ) : EReal) := by
  simp [Ideal.ofBits, Ideal.ieee, -EReal.coe_mul]; norm_num

theorem two_real : Ideal.ofBits FTy.f32 1073741824#32 = ((2 : ℝ) : EReal) := by
  simp [Ideal.ofBits, Ideal.ieee, -EReal.coe_mul]; norm_num

theorem width128_real : Ideal.ofBits FTy.f32 1124073472#32 = ((128 : ℝ) : EReal) := by
  simp [Ideal.ofBits, Ideal.ieee, -EReal.coe_mul]; norm_num

theorem width64_real : Ideal.ofBits FTy.f32 1115684864#32 = ((64 : ℝ) : EReal) := by
  simp [Ideal.ofBits, Ideal.ieee, -EReal.coe_mul]; norm_num

/-- A head's frequencies are real numbers. -/
theorem freq_real (D : BitVec 32) (d : ℝ) (hd : d ≠ 0) (hD : Ideal.ofBits FTy.f32 D = (d : EReal)) (k : ℕ) :
    ∃ r : ℝ, freq D k = (r : EReal) := by
  unfold freq
  rw [base_real, two_real, hD, Ideal.div_coe hd]
  have e : (FloatOps.sitofp (F := Ideal) FTy.f32 (BitVec.ofNat 32 k) : EReal) = (((BitVec.ofNat 32 k).toInt : ℝ) : EReal) := rfl
  rw [e, ← EReal.coe_mul, ← EReal.coe_neg, ← EReal.coe_mul]
  exact ⟨_, rfl⟩

/-- The cosine of a sum, where the first angle is position zero's. -/
theorem cos_sum (D : BitVec 32) (d : ℝ) (hd : d ≠ 0) (hD : Ideal.ofBits FTy.f32 D = (d : EReal)) (p : BitVec 32) (k : ℕ) :
    Ideal.cos (angle D 0#32 k) * Ideal.cos (angle D p k) - Ideal.sin (angle D 0#32 k) * Ideal.sin (angle D p k) = Ideal.cos (angle D p k) := by
  obtain ⟨f, hf⟩ := freq_real D d hd hD k
  have e (q : BitVec 32) : angle D q k = (((q.toInt : ℝ) * f : ℝ) : EReal) := by
    unfold angle
    rw [hf, EReal.coe_mul]
    rfl
  rw [e, e, Ideal.cos_coe, Ideal.cos_coe, Ideal.sin_coe, Ideal.sin_coe, ← EReal.coe_mul, ← EReal.coe_mul, ← EReal.coe_sub]
  simp

/-- The sine of a sum, where the first angle is position zero's. -/
theorem sin_sum (D : BitVec 32) (d : ℝ) (hd : d ≠ 0) (hD : Ideal.ofBits FTy.f32 D = (d : EReal)) (p : BitVec 32) (k : ℕ) :
    Ideal.sin (angle D 0#32 k) * Ideal.cos (angle D p k) + Ideal.cos (angle D 0#32 k) * Ideal.sin (angle D p k) = Ideal.sin (angle D p k) := by
  obtain ⟨f, hf⟩ := freq_real D d hd hD k
  have e (q : BitVec 32) : angle D q k = (((q.toInt : ℝ) * f : ℝ) : EReal) := by
    unfold angle
    rw [hf, EReal.coe_mul]
    rfl
  rw [e, e, Ideal.cos_coe, Ideal.cos_coe, Ideal.sin_coe, Ideal.sin_coe, ← EReal.coe_mul, ← EReal.coe_mul, ← EReal.coe_add]
  simp

/-- A head of 128 lanes at position `p`, rotated. -/
def turn128 (p : BitVec 32) (x : Fin 128 → EReal) (d : Fin 128) : EReal :=
  if h : d.val < 64 then
    x d * Ideal.cos (angle W128 p (d.val % 64)) - x ⟨d.val + 64, by omega⟩ * Ideal.sin (angle W128 p (d.val % 64))
  else
    x ⟨d.val - 64, by omega⟩ * Ideal.sin (angle W128 p (d.val % 64)) + x d * Ideal.cos (angle W128 p (d.val % 64))

/-- A head of 64 lanes at position `p`, rotated. -/
def turn64 (p : BitVec 32) (x : Fin 64 → EReal) (d : Fin 64) : EReal :=
  if h : d.val < 32 then
    x d * Ideal.cos (angle W64 p (d.val % 32)) - x ⟨d.val + 32, by omega⟩ * Ideal.sin (angle W64 p (d.val % 32))
  else
    x ⟨d.val - 32, by omega⟩ * Ideal.sin (angle W64 p (d.val % 32)) + x d * Ideal.cos (angle W64 p (d.val % 32))

/-- A rotated head written in two halves. -/
theorem parts128 (p : BitVec 32) (x : Fin 128 → EReal) (d : Fin 128) (A B θ : d.val < 64 → EReal) (C D η : ¬ d.val < 64 → EReal)
    (hA : ∀ h, A h = x d) (hB : ∀ h : d.val < 64, B h = x ⟨d.val + 64, by omega⟩) (hC : ∀ h : ¬ d.val < 64, C h = x ⟨d.val - 64, by omega⟩)
    (hD : ∀ h, D h = x d) (hθ : ∀ h, θ h = angle W128 p (d.val % 64)) (hη : ∀ h, η h = angle W128 p (d.val % 64)) :
    (if h : d.val < 64 then A h * Ideal.cos (θ h) - B h * Ideal.sin (θ h) else C h * Ideal.sin (η h) + D h * Ideal.cos (η h)) = turn128 p x d := by
  unfold turn128
  split_ifs with h
  · rw [hA, hB, hθ]
  · rw [hC, hD, hη]

/-- A rotated head written in two halves. -/
theorem parts64 (p : BitVec 32) (x : Fin 64 → EReal) (d : Fin 64) (A B θ : d.val < 32 → EReal) (C D η : ¬ d.val < 32 → EReal)
    (hA : ∀ h, A h = x d) (hB : ∀ h : d.val < 32, B h = x ⟨d.val + 32, by omega⟩) (hC : ∀ h : ¬ d.val < 32, C h = x ⟨d.val - 32, by omega⟩)
    (hD : ∀ h, D h = x d) (hθ : ∀ h, θ h = angle W64 p (d.val % 32)) (hη : ∀ h, η h = angle W64 p (d.val % 32)) :
    (if h : d.val < 32 then A h * Ideal.cos (θ h) - B h * Ideal.sin (θ h) else C h * Ideal.sin (η h) + D h * Ideal.cos (η h)) = turn64 p x d := by
  unfold turn64
  split_ifs with h
  · rw [hA, hB, hθ]
  · rw [hC, hD, hη]

/-- The normed row times a column of the weights. -/
def col (x g : Fin 2048 → EReal) (w : Fin 2048 → Fin 3664 → EReal) (j : Fin 3664) : EReal :=
  ∑ y : Fin 2048, Post.norm x g y * w y j

def qRow (p : BitVec 32) (x g : Fin 2048 → EReal) (w : Fin 2048 → Fin 3664 → EReal) (h : Fin 8) (d : Fin 128) : EReal :=
  turn128 p (fun e => col x g w ⟨128 * h.val + e.val, by omega⟩) d

def kRow (p : BitVec 32) (x g : Fin 2048 → EReal) (w : Fin 2048 → Fin 3664 → EReal) (h : Fin 2) (d : Fin 128) : EReal :=
  turn128 p (fun e => col x g w ⟨1024 + 128 * h.val + e.val, by omega⟩) d

def vRow (x g : Fin 2048 → EReal) (w : Fin 2048 → Fin 3664 → EReal) (h : Fin 2) (d : Fin 128) : EReal :=
  col x g w ⟨1280 + 128 * h.val + d.val, by omega⟩

def qiRow (p : BitVec 32) (x g : Fin 2048 → EReal) (w : Fin 2048 → Fin 3664 → EReal) (h : Fin 16) (d : Fin 64) : EReal :=
  turn64 p (fun e => col x g w ⟨1536 + 64 * h.val + e.val, by omega⟩) d

def kiRow (p : BitVec 32) (x g : Fin 2048 → EReal) (w : Fin 2048 → Fin 3664 → EReal) (d : Fin 64) : EReal :=
  turn64 p (fun e => col x g w ⟨2560 + e.val, by omega⟩) d

def wiRow (x g : Fin 2048 → EReal) (w : Fin 2048 → Fin 3664 → EReal) (h : Fin 16) : EReal :=
  col x g w ⟨2624 + h.val, by omega⟩ * Ideal.ofBits FTy.f32 1048576000#32

def uRow (x g : Fin 2048 → EReal) (w : Fin 2048 → Fin 3664 → EReal) (j : Fin 1024) : EReal :=
  col x g w ⟨2640 + j.val, by omega⟩

/-! ## The results, as functions of the index -/

def kRes {n : ℕ} (p : Fin n → BitVec 32) (x : Fin n → Fin 2048 → EReal) (g : Fin 2048 → EReal) (w : Fin 2048 → Fin 3664 → EReal) :
    (⟨3, ![n, 2, 128]⟩ : Shape).Idx → EReal := fun i => kRow (p (i 0)) (x (i 0)) g w (i 1) (i 2)

def vRes {n : ℕ} (x : Fin n → Fin 2048 → EReal) (g : Fin 2048 → EReal) (w : Fin 2048 → Fin 3664 → EReal) :
    (⟨3, ![n, 2, 128]⟩ : Shape).Idx → EReal := fun i => vRow (x (i 0)) g w (i 1) (i 2)

def kiRes {n : ℕ} (p : Fin n → BitVec 32) (x : Fin n → Fin 2048 → EReal) (g : Fin 2048 → EReal) (w : Fin 2048 → Fin 3664 → EReal) :
    (⟨2, ![n, 64]⟩ : Shape).Idx → EReal := fun i => kiRow (p (i 0)) (x (i 0)) g w (i 1)

def uRes {n : ℕ} (x : Fin n → Fin 2048 → EReal) (g : Fin 2048 → EReal) (w : Fin 2048 → Fin 3664 → EReal) :
    (⟨2, ![n, 1024]⟩ : Shape).Idx → EReal := fun i => uRow (x (i 0)) g w (i 1)

def wiRes {n : ℕ} (x : Fin n → Fin 2048 → EReal) (g : Fin 2048 → EReal) (w : Fin 2048 → Fin 3664 → EReal) :
    (⟨2, ![n, 16]⟩ : Shape).Idx → EReal := fun i => wiRow (x (i 0)) g w (i 1)

def qRes {n : ℕ} (p : Fin n → BitVec 32) (x : Fin n → Fin 2048 → EReal) (g : Fin 2048 → EReal) (w : Fin 2048 → Fin 3664 → EReal) :
    (⟨2, ![n, 1024]⟩ : Shape).Idx → EReal := fun i =>
  qRow (p (i 0)) (x (i 0)) g w ⟨(i 1).val / 128, Nat.div_lt_of_lt_mul (i 1).isLt⟩ ⟨(i 1).val % 128, Nat.mod_lt _ (by decide)⟩

def qiRes {n : ℕ} (p : Fin n → BitVec 32) (x : Fin n → Fin 2048 → EReal) (g : Fin 2048 → EReal) (w : Fin 2048 → Fin 3664 → EReal) :
    (⟨2, ![n, 1024]⟩ : Shape).Idx → EReal := fun i =>
  qiRow (p (i 0)) (x (i 0)) g w ⟨(i 1).val / 64, Nat.div_lt_of_lt_mul (i 1).isLt⟩ ⟨(i 1).val % 64, Nat.mod_lt _ (by decide)⟩

/-- The pooling window moved on by one row, the newest row last. -/
def poolRes (s : (⟨3, ![128, 15, 1024]⟩ : Shape).Idx → EReal) (x : Fin 128 → Fin 2048 → EReal) (g : Fin 2048 → EReal) (w : Fin 2048 → Fin 3664 → EReal) :
    (⟨3, ![128, 15, 1024]⟩ : Shape).Idx → EReal := fun i =>
  if h : (i 1).val < 14 then s (ix3 (i 0) ⟨(i 1).val + 1, Nat.succ_lt_succ h⟩ (i 2)) else uRow (x (i 0)) g w (i 2)

end Cert.Proof.Proj

end
-- ==== Proof.Proj.Host.lean ====
/-
  What the host's lines before the projection leave in the arrays the projection reads: the rows, the weights' slices, and
  the tables of cosines and sines.
-/
module

public import proofs.«01_k».proof.Proof.Gen.ProjIdeal.Frame
public import proofs.«01_k».proof.Proof.Proj.Spec
public import Idealize.ShloMosaic.Lib.Pointwise
public import Idealize.ShloMosaic.Lib.StableHlo.Run
public import Idealize.ShloMosaic.Lib.StableHlo.RunRead

@[expose] public section

set_option maxRecDepth 16384
set_option maxHeartbeats 1600000

noncomputable section

namespace Cert.Proof.Proj

open Cert.ProjIdeal Cert.ProjIdeal.Gen Idealize.ShloMosaic Idealize.ShloMosaic.TcCoe Idealize.SL.Sem

variable (m : (ℓ : Loc nD τ sig) → Buf (Elt Ideal) ℓ) (c : Dev nD)

/-- The position of a row of the concatenated tokens. -/
def place (r : ℕ) : BitVec 32 := if r < 16 then BitVec.ofNat 32 r else 2048#32

theorem host_rows : V m c main_v11 = concatenate S144x2048 0 [⟨S16x2048, m ((c : Thread nD τ).loc main_arg1)⟩, ⟨S128x2048, m ((c : Thread nD τ).loc main_arg0)⟩] concatenates_S16x2048_S128x2048_S144x2048_d0 := by
  unfold V V0
  simp only [hostOps0, hostOps0_1, hostOps0_2, List.flatten_cons, List.flatten_nil, List.append_nil, List.cons_append, List.nil_append]
  after_results

theorem host_meta (r : Fin 144) (n : Fin 2048) (R : Fin 16) (hR : r.val = R.val) :
    (V m c main_v11 (ix2 r n) : EReal) = m ((c : Thread nD τ).loc main_arg1) (ix2 R n) := by
  rw [host_rows]
  pointwise
  rw [dif_pos (by omega)]
  exact congrArg (fun q => m ((c : Thread nD τ).loc main_arg1) (ix2 q n)) (Fin.ext hR)

theorem host_sample (r : Fin 144) (n : Fin 2048) (R : Fin 128) (hR : r.val = 16 + R.val) :
    (V m c main_v11 (ix2 r n) : EReal) = m ((c : Thread nD τ).loc main_arg0) (ix2 R n) := by
  rw [host_rows]
  pointwise
  rw [dif_neg (by omega)]
  exact congrArg (fun q => m ((c : Thread nD τ).loc main_arg0) (ix2 q n)) (Fin.ext (by change r.val - 16 = R.val; omega))

theorem host_g (n : Fin 2048) : (V m c main_v110 (ix2 0 n) : EReal) = m ((c : Thread nD τ).loc main_arg3) (ix1 n) := by
  unfold V V0
  simp only [hostOps0, hostOps0_1, hostOps0_2, List.flatten_cons, List.flatten_nil, List.append_nil, List.cons_append, List.nil_append]
  after_reads_simp
  pointwise

theorem host_wq (y : Fin 2048) (j : Fin 1024) :
    (V m c main_v1 (ix2 y j) : EReal) = m ((c : Thread nD τ).loc main_arg4) (ix2 y ⟨j.val, by omega⟩) := by
  unfold V V0
  simp only [hostOps0, hostOps0_1, hostOps0_2, List.flatten_cons, List.flatten_nil, List.append_nil, List.cons_append, List.nil_append]
  after_reads_simp
  pointwise

theorem host_wkv (y : Fin 2048) (j : Fin 512) :
    (V m c main_v3 (ix2 y j) : EReal) = m ((c : Thread nD τ).loc main_arg4) (ix2 y ⟨1024 + j.val, by omega⟩) := by
  unfold V V0
  simp only [hostOps0, hostOps0_1, hostOps0_2, List.flatten_cons, List.flatten_nil, List.append_nil, List.cons_append, List.nil_append]
  after_reads_simp
  pointwise

theorem host_wqi (y : Fin 2048) (j : Fin 1024) :
    (V m c main_v5 (ix2 y j) : EReal) = m ((c : Thread nD τ).loc main_arg4) (ix2 y ⟨1536 + j.val, by omega⟩) := by
  unfold V V0
  simp only [hostOps0, hostOps0_1, hostOps0_2, List.flatten_cons, List.flatten_nil, List.append_nil, List.cons_append, List.nil_append]
  after_reads_simp
  pointwise

theorem host_wkw (y : Fin 2048) (j : Fin 80) :
    (V m c main_v10 (ix2 y ⟨j.val, by omega⟩) : EReal) = m ((c : Thread nD τ).loc main_arg4) (ix2 y ⟨2560 + j.val, by omega⟩) := by
  unfold V V0
  simp only [hostOps0, hostOps0_1, hostOps0_2, List.flatten_cons, List.flatten_nil, List.append_nil, List.cons_append, List.nil_append]
  after_reads_simp
  change (pad S2048x128 ![0, 0] ![0, 48] ![0, 0] (truncf (F := Ideal) .bf16 (extractStridedSlice S2048x80 ![0, 2560] (m ((c : Thread nD τ).loc main_arg4))
    slices_S2048x3664_S2048x80_0_2560) bitsLt_bf16_f32) (sitofp (F := Ideal) .bf16 (constantI S_ 32 0#32)) pads_S2048x80_S2048x128_000_0480 h_S_
    (ix2 y ⟨j.val, by omega⟩) : EReal) = _
  pointwise

theorem host_wu (y : Fin 2048) (j : Fin 1024) :
    (V m c main_v9 (ix2 y j) : EReal) = m ((c : Thread nD τ).loc main_arg4) (ix2 y ⟨2640 + j.val, by omega⟩) := by
  unfold V V0
  simp only [hostOps0, hostOps0_1, hostOps0_2, List.flatten_cons, List.flatten_nil, List.append_nil, List.cons_append, List.nil_append]
  after_reads_simp
  pointwise

theorem host_base_cos_W128 (j : Fin 128) : (V m c main_v60 (ix3 0 0 j) : EReal) = Ideal.cos (angle W128 0#32 (j.val % 64)) := by
  unfold V V0
  simp only [hostOps0, hostOps0_1, hostOps0_2, List.flatten_cons, List.flatten_nil, List.append_nil, List.cons_append, List.nil_append]
  after_reads_simp
  pointwise
  rfl

theorem host_base_sin_W128 (j : Fin 128) : (V m c main_v61 (ix3 0 0 j) : EReal) = Ideal.sin (angle W128 0#32 (j.val % 64)) := by
  unfold V V0
  simp only [hostOps0, hostOps0_1, hostOps0_2, List.flatten_cons, List.flatten_nil, List.append_nil, List.cons_append, List.nil_append]
  after_reads_simp
  pointwise
  rfl

theorem host_base_cos_W64 (j : Fin 128) : (V m c main_v62 (ix3 0 0 j) : EReal) = Ideal.cos (angle W64 0#32 (j.val % 32)) := by
  unfold V V0
  simp only [hostOps0, hostOps0_1, hostOps0_2, List.flatten_cons, List.flatten_nil, List.append_nil, List.cons_append, List.nil_append]
  after_reads_simp
  pointwise
  rfl

theorem host_base_sin_W64 (j : Fin 128) : (V m c main_v63 (ix3 0 0 j) : EReal) = Ideal.sin (angle W64 0#32 (j.val % 32)) := by
  unfold V V0
  simp only [hostOps0, hostOps0_1, hostOps0_2, List.flatten_cons, List.flatten_nil, List.append_nil, List.cons_append, List.nil_append]
  after_reads_simp
  pointwise
  rfl

theorem host_rel_cos_W128 (r : Fin 144) (j : Fin 128) :
    (V m c main_v83 (ix2 r j) : EReal) = Ideal.cos (angle W128 (place r.val) (j.val % 64)) := by
  unfold V V0
  simp only [hostOps0, hostOps0_1, hostOps0_2, List.flatten_cons, List.flatten_nil, List.append_nil, List.cons_append, List.nil_append]
  after_reads_simp
  pointwise
  after_reads_simp
  pointwise
  rfl

theorem host_rel_sin_W128 (r : Fin 144) (j : Fin 128) :
    (V m c main_v87 (ix2 r j) : EReal) = Ideal.sin (angle W128 (place r.val) (j.val % 64)) := by
  unfold V V0
  simp only [hostOps0, hostOps0_1, hostOps0_2, List.flatten_cons, List.flatten_nil, List.append_nil, List.cons_append, List.nil_append]
  after_reads_simp
  pointwise
  after_reads_simp
  pointwise
  rfl

theorem host_rel_cos_W64 (r : Fin 144) (j : Fin 128) :
    (V m c main_v105 (ix2 r j) : EReal) = Ideal.cos (angle W64 (place r.val) (j.val % 32)) := by
  unfold V V0
  simp only [hostOps0, hostOps0_1, hostOps0_2, List.flatten_cons, List.flatten_nil, List.append_nil, List.cons_append, List.nil_append]
  after_reads_simp
  pointwise
  after_reads_simp
  pointwise
  rfl

theorem host_rel_sin_W64 (r : Fin 144) (j : Fin 128) :
    (V m c main_v109 (ix2 r j) : EReal) = Ideal.sin (angle W64 (place r.val) (j.val % 32)) := by
  unfold V V0
  simp only [hostOps0, hostOps0_1, hostOps0_2, List.flatten_cons, List.flatten_nil, List.append_nil, List.cons_append, List.nil_append]
  after_reads_simp
  pointwise
  after_reads_simp
  pointwise
  rfl

end Cert.Proof.Proj

end
-- ==== Proof.Proj.Entry.lean ====
/-
  The blocks the projection reads, as elements of the program's arguments.
-/
module

public import proofs.«01_k».proof.Proof.Proj.Host
public import Idealize.ShloMosaic.Lib.Pointwise
public import Idealize.ShloMosaic.Lib.Pipeline.ValueKit.Point
public import Idealize.ShloMosaic.Lib.Claim

@[expose] public section

set_option maxRecDepth 16384

noncomputable section

namespace Cert.Proof.Proj

open Cert.ProjIdeal Cert.ProjIdeal.Gen Idealize.ShloMosaic Idealize.ShloMosaic.TcCoe Idealize.SL.Sem

variable (m : (ℓ : Loc nD τ sig) → Buf (Elt Ideal) ℓ) (c : Dev nD)

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0, 0] := (by decide +kernel : ∀ t : Fin grid0.N, win0_2.index t = ![0, 0, 0])
theorem index3 : ∀ t : Fin cfg0.N, win0_3.index t = ![0, 0, 0] := (by decide +kernel : ∀ t : Fin grid0.N, win0_3.index t = ![0, 0, 0])
theorem index4 : ∀ t : Fin cfg0.N, win0_4.index t = ![0, 0, 0] := (by decide +kernel : ∀ t : Fin grid0.N, win0_4.index t = ![0, 0, 0])
theorem index5 : ∀ t : Fin cfg0.N, win0_5.index t = ![0, 0, 0] := (by decide +kernel : ∀ t : Fin grid0.N, win0_5.index t = ![0, 0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index14 : ∀ t : Fin cfg0.N, win0_14.index t = ![0, 0] := (by decide +kernel : ∀ t : Fin grid0.N, win0_14.index t = ![0, 0])

theorem read0 (t : Fin cfg0.N) (i : Fin 144) (j : Fin 2048) : (iblk m c 0 t (ix2 i j) : EReal) = V m c main_v11 (ix2 i j) := by
  blk_point [iblk, index0 t]

theorem read1 (t : Fin cfg0.N) (j : Fin 2048) : (iblk m c 1 t (ix2 0 j) : EReal) = V m c main_v110 (ix2 0 j) := by
  blk_point [iblk, index1 t]

theorem read2 (t : Fin cfg0.N) (j : Fin 128) : (iblk m c 2 t (ix3 0 0 j) : EReal) = V m c main_v60 (ix3 0 0 j) := by
  blk_point [iblk, index2 t]

theorem read3 (t : Fin cfg0.N) (j : Fin 128) : (iblk m c 3 t (ix3 0 0 j) : EReal) = V m c main_v61 (ix3 0 0 j) := by
  blk_point [iblk, index3 t]

theorem read4 (t : Fin cfg0.N) (j : Fin 128) : (iblk m c 4 t (ix3 0 0 j) : EReal) = V m c main_v62 (ix3 0 0 j) := by
  blk_point [iblk, index4 t]

theorem read5 (t : Fin cfg0.N) (j : Fin 128) : (iblk m c 5 t (ix3 0 0 j) : EReal) = V m c main_v63 (ix3 0 0 j) := by
  blk_point [iblk, index5 t]

theorem read6 (t : Fin cfg0.N) (i : Fin 144) (j : Fin 128) : (iblk m c 6 t (ix2 i j) : EReal) = V m c main_v83 (ix2 i j) := by
  blk_point [iblk, index6 t]

theorem read7 (t : Fin cfg0.N) (i : Fin 144) (j : Fin 128) : (iblk m c 7 t (ix2 i j) : EReal) = V m c main_v87 (ix2 i j) := by
  blk_point [iblk, index7 t]

theorem read8 (t : Fin cfg0.N) (i : Fin 144) (j : Fin 128) : (iblk m c 8 t (ix2 i j) : EReal) = V m c main_v105 (ix2 i j) := by
  blk_point [iblk, index8 t]

theorem read9 (t : Fin cfg0.N) (i : Fin 144) (j : Fin 128) : (iblk m c 9 t (ix2 i j) : EReal) = V m c main_v109 (ix2 i j) := by
  blk_point [iblk, index9 t]

theorem read10 (t : Fin cfg0.N) (i : Fin 2048) (j : Fin 1024) : (iblk m c 10 t (ix2 i j) : EReal) = V m c main_v1 (ix2 i j) := by
  blk_point [iblk, index10 t]

theorem read11 (t : Fin cfg0.N) (i : Fin 2048) (j : Fin 512) : (iblk m c 11 t (ix2 i j) : EReal) = V m c main_v3 (ix2 i j) := by
  blk_point [iblk, index11 t]

theorem read12 (t : Fin cfg0.N) (i : Fin 2048) (j : Fin 1024) : (iblk m c 12 t (ix2 i j) : EReal) = V m c main_v5 (ix2 i j) := by
  blk_point [iblk, index12 t]

theorem read13 (t : Fin cfg0.N) (i : Fin 2048) (j : Fin 128) : (iblk m c 13 t (ix2 i j) : EReal) = V m c main_v10 (ix2 i j) := by
  blk_point [iblk, index13 t]

theorem read14 (t : Fin cfg0.N) (i : Fin 2048) (j : Fin 1024) : (iblk m c 14 t (ix2 i j) : EReal) = V m c main_v9 (ix2 i j) := by
  blk_point [iblk, index14 t]

end Cert.Proof.Proj

end
-- ==== Proof.Proj.Lanes.lean ====
/-
  What the projection's kernel computes, lane by lane: the normed rows, the rotation tables, the products, and each column block
  it stores.
-/
module

public import proofs.«01_k».proof.Proof.Proj.Entry

@[expose] public section

set_option maxRecDepth 16384

noncomputable section

namespace Cert.Proof.Proj

open Cert.ProjIdeal Cert.ProjIdeal.Gen Idealize.ShloMosaic Idealize.ShloMosaic.TcCoe Idealize.SL.Sem

/-! ## Rotations, from lanes -/

theorem select_slt (j k : ℕ) (hj : j < 2147483648) (hk : k < 2147483648) (x y : EReal) :
    Scalar.select (IntOp.cmpi CmpIPredicate.slt (BitVec.ofNat 32 j) (BitVec.ofNat 32 k)) x y = if j < k then x else y := by
  have e : (BitVec.ofNat 32 j).slt (BitVec.ofNat 32 k) = decide (j < k) := by
    rw [BitVec.slt, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  by_cases h : j < k <;> simp [Scalar.select, IntOp.cmpi, e, h]

theorem select_ne (j k : ℕ) (hj : j < 2147483648) (hk : k < 2147483648) (h : j ≠ k) (x y : EReal) :
    Scalar.select (IntOp.cmpi CmpIPredicate.eq (BitVec.ofNat 32 j) (BitVec.ofNat 32 k)) x y = y := by
  have e : BitVec.ofNat 32 j ≠ BitVec.ofNat 32 k := by
    intro q
    have := congrArg BitVec.toNat q
    rw [BitVec.toNat_ofNat, BitVec.toNat_ofNat] at this
    omega
  refine if_neg fun q => ?_
  simp only [IntOp.cmpi] at q
  rw [beq_eq_false_iff_ne.mpr e] at q
  exact absurd q (by decide)

theorem low_lane (j : Fin 128) : IntOp.andi (BitVec.ofNat 32 j.val) 63#32 = BitVec.ofNat 32 (j.val % 64) := by
  revert j; decide +kernel

theorem turn128_of (p : BitVec 32) (x C S : Fin 128 → EReal) (hC : ∀ j, C j = Ideal.cos (angle W128 p (j.val % 64)))
    (hS : ∀ j, S j = if j.val < 64 then -Ideal.sin (angle W128 p (j.val % 64)) else Ideal.sin (angle W128 p (j.val % 64))) (d : Fin 128) :
    x d * C d + x ⟨(d.val + 128 - 64) % 128, by omega⟩ * S d = turn128 p x d := by
  rw [hC, hS]
  unfold turn128
  split_ifs with h
  · rw [show (⟨(d.val + 128 - 64) % 128, by omega⟩ : Fin 128) = ⟨d.val + 64, by omega⟩ from Fin.ext (by change (d.val + 128 - 64) % 128 = d.val + 64; omega),
      mul_neg, ← sub_eq_add_neg]
  · rw [show (⟨(d.val + 128 - 64) % 128, by omega⟩ : Fin 128) = ⟨d.val - 64, by omega⟩ from Fin.ext (by change (d.val + 128 - 64) % 128 = d.val - 64; omega),
      add_comm]

/-- Two heads of 64 lanes side by side, one rotation each way, each masked to the lanes it serves. -/
theorem turn64_of (p : BitVec 32) (z : Fin 128 → EReal) (c s t : Fin 128 → EReal) (hc : ∀ j, c j = Ideal.cos (angle W64 p (j.val % 32)))
    (hs : ∀ j, s j = if j.val % 64 < 32 then -Ideal.sin (angle W64 p (j.val % 32)) else 0)
    (ht : ∀ j, t j = if j.val % 64 < 32 then 0 else Ideal.sin (angle W64 p (j.val % 32))) (x : Fin 64 → EReal) (b : Fin 2)
    (hx : ∀ e : Fin 64, z ⟨64 * b.val + e.val, by omega⟩ = x e) (e : Fin 64) (d : Fin 128) (hd : d.val = 64 * b.val + e.val) :
    z d * c d + z ⟨(d.val + 128 - 96) % 128, by omega⟩ * s d + z ⟨(d.val + 128 - 32) % 128, by omega⟩ * t d = turn64 p x e := by
  have hb := b.isLt
  rw [hc, hs, ht, ← (hx e).symm.trans (congrArg z (Fin.ext hd.symm)).symm.symm]
  rw [show d.val % 32 = e.val % 32 by omega]
  unfold turn64
  by_cases h : e.val < 32
  · rw [if_pos (by omega), if_pos (by omega), dif_pos h, mul_zero, add_zero, mul_neg, ← sub_eq_add_neg, ← hx ⟨e.val + 32, by omega⟩]
    congr 3
    exact Fin.ext (by change (d.val + 128 - 96) % 128 = 64 * b.val + (e.val + 32); omega)
  · rw [if_neg (by omega), if_neg (by omega), dif_neg h, mul_zero, add_zero, add_comm, ← hx ⟨e.val - 32, by omega⟩]
    congr 3
    exact Fin.ext (by change (d.val + 128 - 32) % 128 = 64 * b.val + (e.val - 32); omega)

/-! ## The values the stores share -/

variable (m : (ℓ : Loc nD τ sig) → Buf (Elt Ideal) ℓ) (c : Dev nD)

/-- A row of the concatenated tokens. -/
def rowK (r : Fin 144) (n : Fin 2048) : EReal := V m c main_v11 (ix2 r n)

/-- The norm's gain. -/
def gainK (n : Fin 2048) : EReal := m ((c : Thread nD τ).loc main_arg3) (ix1 n)

/-- The weights. -/
def wK (y : Fin 2048) (j : Fin 3664) : EReal := m ((c : Thread nD τ).loc main_arg4) (ix2 y j)

theorem at0 (t : Fin cfg0.N) (r : Fin 144) (n : Fin 2048) : (iblk m c 0 t (ix2 r n) : EReal) = rowK m c r n := read0 m c t r n

theorem at1 (t : Fin cfg0.N) (n : Fin 2048) : (iblk m c 1 t (ix2 0 n) : EReal) = gainK m c n := (read1 m c t n).trans (host_g m c n)

theorem at2 (t : Fin cfg0.N) (j : Fin 128) : (iblk m c 2 t (ix3 0 0 j) : EReal) = Ideal.cos (angle W128 0#32 (j.val % 64)) :=
  (read2 m c t j).trans (host_base_cos_W128 m c j)

theorem at3 (t : Fin cfg0.N) (j : Fin 128) : (iblk m c 3 t (ix3 0 0 j) : EReal) = Ideal.sin (angle W128 0#32 (j.val % 64)) :=
  (read3 m c t j).trans (host_base_sin_W128 m c j)

theorem at4 (t : Fin cfg0.N) (j : Fin 128) : (iblk m c 4 t (ix3 0 0 j) : EReal) = Ideal.cos (angle W64 0#32 (j.val % 32)) :=
  (read4 m c t j).trans (host_base_cos_W64 m c j)

theorem at5 (t : Fin cfg0.N) (j : Fin 128) : (iblk m c 5 t (ix3 0 0 j) : EReal) = Ideal.sin (angle W64 0#32 (j.val % 32)) :=
  (read5 m c t j).trans (host_base_sin_W64 m c j)

theorem at6 (t : Fin cfg0.N) (r : Fin 144) (j : Fin 128) : (iblk m c 6 t (ix2 r j) : EReal) = Ideal.cos (angle W128 (place r.val) (j.val % 64)) :=
  (read6 m c t r j).trans (host_rel_cos_W128 m c r j)

theorem at7 (t : Fin cfg0.N) (r : Fin 144) (j : Fin 128) : (iblk m c 7 t (ix2 r j) : EReal) = Ideal.sin (angle W128 (place r.val) (j.val % 64)) :=
  (read7 m c t r j).trans (host_rel_sin_W128 m c r j)

theorem at8 (t : Fin cfg0.N) (r : Fin 144) (j : Fin 128) : (iblk m c 8 t (ix2 r j) : EReal) = Ideal.cos (angle W64 (place r.val) (j.val % 32)) :=
  (read8 m c t r j).trans (host_rel_cos_W64 m c r j)

theorem at9 (t : Fin cfg0.N) (r : Fin 144) (j : Fin 128) : (iblk m c 9 t (ix2 r j) : EReal) = Ideal.sin (angle W64 (place r.val) (j.val % 32)) :=
  (read9 m c t r j).trans (host_rel_sin_W64 m c r j)

theorem at10 (t : Fin cfg0.N) (y : Fin 2048) (j : Fin 1024) : (iblk m c 10 t (ix2 y j) : EReal) = wK m c y ⟨j.val, by omega⟩ :=
  (read10 m c t y j).trans (host_wq m c y j)

theorem at11 (t : Fin cfg0.N) (y : Fin 2048) (j : Fin 512) : (iblk m c 11 t (ix2 y j) : EReal) = wK m c y ⟨1024 + j.val, by omega⟩ :=
  (read11 m c t y j).trans (host_wkv m c y j)

theorem at12 (t : Fin cfg0.N) (y : Fin 2048) (j : Fin 1024) : (iblk m c 12 t (ix2 y j) : EReal) = wK m c y ⟨1536 + j.val, by omega⟩ :=
  (read12 m c t y j).trans (host_wqi m c y j)

theorem at13 (t : Fin cfg0.N) (y : Fin 2048) (j : Fin 80) : (iblk m c 13 t (ix2 y ⟨j.val, by omega⟩) : EReal) = wK m c y ⟨2560 + j.val, by omega⟩ :=
  (read13 m c t y ⟨j.val, by omega⟩).trans (host_wkw m c y j)

theorem at14 (t : Fin cfg0.N) (y : Fin 2048) (j : Fin 1024) : (iblk m c 14 t (ix2 y j) : EReal) = wK m c y ⟨2640 + j.val, by omega⟩ :=
  (read14 m c t y j).trans (host_wu m c y j)

theorem norm_at (t : Fin cfg0.N) (r : Fin 144) (n : Fin 2048) :
    (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r n) : EReal) = Post.norm (rowK m c r) (gainK m c) n := by
  unfold k0_pay66
  pointwise [k0_pay3]
  simp only [at0, at1]
  rfl

theorem cos128_at (t : Fin cfg0.N) (r : Fin 144) (j : Fin 128) :
    (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) : EReal) = Ideal.cos (angle W128 (place r.val) (j.val % 64)) := by
  unfold k0_pay67
  pointwise [k0_pay8, k0_pay4, k0_pay5, k0_pay6, k0_pay7]
  simp only [at2, at3, at6, at7]
  exact cos_sum W128 128 (by norm_num) width128_real _ _

theorem sin128_at (t : Fin cfg0.N) (r : Fin 144) (j : Fin 128) :
    (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) : EReal) =
      if j.val < 64 then -Ideal.sin (angle W128 (place r.val) (j.val % 64)) else Ideal.sin (angle W128 (place r.val) (j.val % 64)) := by
  unfold k0_pay71 k0_pay68 k0_pay69 k0_pay70
  pointwise [k0_pay12, k0_pay9, k0_pay10, k0_pay11, k0_pay4, k0_pay5, k0_pay6, k0_pay7]
  simp only [at2, at3, at6, at7]
  rw [sin_sum W128 128 (by norm_num) width128_real, select_slt _ _ (by omega) (by omega), zero_sub]

theorem cos64_at (t : Fin cfg0.N) (r : Fin 144) (j : Fin 128) :
    (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) : EReal) = Ideal.cos (angle W64 (place r.val) (j.val % 32)) := by
  unfold k0_pay72
  pointwise [k0_pay17, k0_pay13, k0_pay14, k0_pay15, k0_pay16]
  simp only [at4, at5, at8, at9]
  exact cos_sum W64 64 (by norm_num) width64_real _ _

theorem sinA_at (t : Fin cfg0.N) (r : Fin 144) (j : Fin 128) :
    (k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) : EReal) =
      if j.val % 64 < 32 then -Ideal.sin (angle W64 (place r.val) (j.val % 32)) else 0 := by
  unfold k0_pay73 k0_pay65
  pointwise [k0_pay20, k0_pay19, k0_pay18, k0_pay13, k0_pay14, k0_pay15, k0_pay16]
  simp only [at4, at5, at8, at9]
  rw [sin_sum W64 64 (by norm_num) width64_real, low_lane, select_slt _ _ (by omega) (by omega), zero_sub]

theorem sinB_at (t : Fin cfg0.N) (r : Fin 144) (j : Fin 128) :
    (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) : EReal) =
      if j.val % 64 < 32 then 0 else Ideal.sin (angle W64 (place r.val) (j.val % 32)) := by
  unfold k0_pay74 k0_pay65
  pointwise [k0_pay21, k0_pay19, k0_pay18, k0_pay13, k0_pay14, k0_pay15, k0_pay16]
  simp only [at4, at5, at8, at9]
  rw [sin_sum W64 64 (by norm_num) width64_real, low_lane, select_slt _ _ (by omega) (by omega)]

theorem zq_at (t : Fin cfg0.N) (r : Fin 144) (j : Fin 1024) :
    ((k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 r j) : EReal) = col (rowK m c r) (gainK m c) (wK m c) ⟨j.val, by omega⟩ := by
  unfold k0_pay75
  pointwise [k0_pay22]
  simp only [norm_at, at10]
  rfl

theorem zkv_at (t : Fin cfg0.N) (r : Fin 144) (j : Fin 512) :
    ((k0_pay76 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 r j) : EReal) = col (rowK m c r) (gainK m c) (wK m c) ⟨1024 + j.val, by omega⟩ := by
  unfold k0_pay76
  pointwise [k0_pay34]
  simp only [norm_at, at11]
  rfl

theorem zqi_at (t : Fin cfg0.N) (r : Fin 144) (j : Fin 1024) :
    ((k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 r j) : EReal) = col (rowK m c r) (gainK m c) (wK m c) ⟨1536 + j.val, by omega⟩ := by
  unfold k0_pay78
  pointwise [k0_pay47]
  simp only [norm_at, at12]
  rfl

theorem zkw_at (t : Fin cfg0.N) (r : Fin 144) (j : Fin 80) :
    ((k0_pay62 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 13 t) r0_19)) (ix2 r ⟨j.val, by omega⟩) : EReal) = col (rowK m c r) (gainK m c) (wK m c) ⟨2560 + j.val, by omega⟩ := by
  pointwise [k0_pay62]
  simp only [norm_at, at13]
  rfl

theorem zu_at (t : Fin cfg0.N) (r : Fin 144) (j : Fin 1024) :
    ((k0_pay2 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 14 t) r0_4)) (ix2 r j) : EReal) = col (rowK m c r) (gainK m c) (wK m c) ⟨2640 + j.val, by omega⟩ := by
  pointwise [k0_pay2]
  simp only [norm_at, at14]
  rfl

end Cert.Proof.Proj

end
-- ==== Proof.Proj.Pieces.lean ====
/-
  The arrays the projection's kernel leaves, as functions of the index.
-/
module

public import proofs.«01_k».proof.Proof.Proj.Lanes

@[expose] public section

set_option maxRecDepth 16384
set_option maxHeartbeats 1000000

noncomputable section

namespace Cert.Proof.Proj

open Cert.ProjIdeal Cert.ProjIdeal.Gen Idealize.ShloMosaic Idealize.ShloMosaic.TcCoe Idealize.SL.Sem

variable (m : (ℓ : Loc nD τ sig) → Buf (Elt Ideal) ℓ) (c : Dev nD)

theorem turn_q (t : Fin cfg0.N) (r : Fin 144) (h : Fin 8) (z : Fin 128 → EReal)
    (hz : ∀ e : Fin 128, z e = k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨128 * h.val + e.val, by omega⟩)) (j : Fin 128) :
    z j * k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) + z ⟨(j.val + 128 - 64) % 128, by omega⟩ * k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) =
      qRow (place r.val) (rowK m c r) (gainK m c) (wK m c) h j := by
  refine (turn128_of (place r.val) z (fun e => k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e)) (fun e => k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e))
    (cos128_at m c t r) (sin128_at m c t r) j).trans ?_
  unfold qRow
  exact congrArg (fun f => turn128 (place r.val) f j) (funext fun e => (hz e).trans (zq_at m c t r _))

theorem turn_k (t : Fin cfg0.N) (r : Fin 144) (h : Fin 2) (z : Fin 128 → EReal)
    (hz : ∀ e : Fin 128, z e = k0_pay76 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨128 * h.val + e.val, by omega⟩)) (j : Fin 128) :
    z j * k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) + z ⟨(j.val + 128 - 64) % 128, by omega⟩ * k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) =
      kRow (place r.val) (rowK m c r) (gainK m c) (wK m c) h j := by
  refine (turn128_of (place r.val) z (fun e => k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e)) (fun e => k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e))
    (cos128_at m c t r) (sin128_at m c t r) j).trans ?_
  unfold kRow
  exact congrArg (fun f => turn128 (place r.val) f j) (funext fun e => (hz e).trans ((zkv_at m c t r _).trans
    (congrArg (col _ _ _) (Fin.ext (by change 1024 + (128 * h.val + e.val) = 1024 + 128 * h.val + e.val; omega)))))

theorem turn_qi (t : Fin cfg0.N) (r : Fin 144) (h : Fin 8) (z : Fin 128 → EReal)
    (hz : ∀ e : Fin 128, z e = k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨128 * h.val + e.val, by omega⟩)) (j : Fin 128) :
    z j * k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) + z ⟨(j.val + 128 - 96) % 128, by omega⟩ * k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) +
        z ⟨(j.val + 128 - 32) % 128, by omega⟩ * k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) =
      qiRow (place r.val) (rowK m c r) (gainK m c) (wK m c) ⟨2 * h.val + j.val / 64, by omega⟩ ⟨j.val % 64, by omega⟩ := by
  unfold qiRow
  refine turn64_of (place r.val) z (fun e => k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e)) (fun e => k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e)) (fun e => k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e))
    (cos64_at m c t r) (sinA_at m c t r) (sinB_at m c t r) _ ⟨j.val / 64, by omega⟩ (fun e => ?_) ⟨j.val % 64, by omega⟩ j (by change j.val = 64 * (j.val / 64) + j.val % 64; omega)
  exact (hz _).trans ((zqi_at m c t r _).trans (congrArg (col _ _ _) (Fin.ext (by
    change 1536 + (128 * h.val + (64 * (j.val / 64) + e.val)) = 1536 + 64 * (2 * h.val + j.val / 64) + e.val; omega))))

theorem q_piece0 (t : Fin cfg0.N) (r : Fin 144) (j : Fin 128) :
    ((k0_pay23 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay68 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay69 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay70 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 10 t) r0_4)) (ix2 r j) : EReal) = qRow (place r.val) (rowK m c r) (gainK m c) (wK m c) 0 j := by
  pointwise [k0_pay23]
  exact turn_q m c t r 0 (fun e => k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨e.val, by omega⟩)) (fun e => congrArg _ (congrArg (ix2 r) (Fin.ext (by simp)))) j

theorem q_piece1 (t : Fin cfg0.N) (r : Fin 144) (j : Fin 128) :
    ((k0_pay24 (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) = qRow (place r.val) (rowK m c r) (gainK m c) (wK m c) 1 j := by
  pointwise [k0_pay24]
  exact turn_q m c t r 1 (fun e => k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨128 + e.val, by omega⟩)) (fun _ => rfl) j

theorem q_piece2 (t : Fin cfg0.N) (r : Fin 144) (j : Fin 128) :
    ((k0_pay25 (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) = qRow (place r.val) (rowK m c r) (gainK m c) (wK m c) 2 j := by
  pointwise [k0_pay25]
  exact turn_q m c t r 2 (fun e => k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨256 + e.val, by omega⟩)) (fun _ => rfl) j

theorem q_piece3 (t : Fin cfg0.N) (r : Fin 144) (j : Fin 128) :
    ((k0_pay26 (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) = qRow (place r.val) (rowK m c r) (gainK m c) (wK m c) 3 j := by
  pointwise [k0_pay26]
  exact turn_q m c t r 3 (fun e => k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨384 + e.val, by omega⟩)) (fun _ => rfl) j

theorem q_piece4 (t : Fin cfg0.N) (r : Fin 144) (j : Fin 128) :
    ((k0_pay27 (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) = qRow (place r.val) (rowK m c r) (gainK m c) (wK m c) 4 j := by
  pointwise [k0_pay27]
  exact turn_q m c t r 4 (fun e => k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨512 + e.val, by omega⟩)) (fun _ => rfl) j

theorem q_piece5 (t : Fin cfg0.N) (r : Fin 144) (j : Fin 128) :
    ((k0_pay28 (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) = qRow (place r.val) (rowK m c r) (gainK m c) (wK m c) 5 j := by
  pointwise [k0_pay28]
  exact turn_q m c t r 5 (fun e => k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨640 + e.val, by omega⟩)) (fun _ => rfl) j

theorem q_piece6 (t : Fin cfg0.N) (r : Fin 144) (j : Fin 128) :
    ((k0_pay32 (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay30 (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (k0_pay31 (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)))) (ix2 r j) : EReal) = qRow (place r.val) (rowK m c r) (gainK m c) (wK m c) 6 j := by
  pointwise [k0_pay32, k0_pay31, k0_pay30, k0_pay29]
  exact turn_q m c t r 6 (fun e => k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨768 + e.val, by omega⟩)) (fun _ => rfl) j

theorem q_piece7 (t : Fin cfg0.N) (r : Fin 144) (j : Fin 128) :
    ((k0_pay33 (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) = qRow (place r.val) (rowK m c r) (gainK m c) (wK m c) 7 j := by
  pointwise [k0_pay33]
  exact turn_q m c t r 7 (fun e => k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨896 + e.val, by omega⟩)) (fun _ => rfl) j

theorem qi_piece0 (t : Fin cfg0.N) (r : Fin 144) (j : Fin 128) :
    ((k0_pay48 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 12 t) r0_4)) (ix2 r j) : EReal) =
      qiRow (place r.val) (rowK m c r) (gainK m c) (wK m c) ⟨2 * 0 + j.val / 64, by omega⟩ ⟨j.val % 64, by omega⟩ := by
  pointwise [k0_pay48]
  exact (turn_qi m c t r 0 (fun e => k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨e.val, by omega⟩)) (fun e => congrArg _ (congrArg (ix2 r) (Fin.ext (by simp)))) j).trans
    (congrArg (fun q => qiRow (place r.val) (rowK m c r) (gainK m c) (wK m c) q ⟨j.val % 64, by omega⟩) (Fin.ext (by simp)))

theorem qi_piece1 (t : Fin cfg0.N) (r : Fin 144) (j : Fin 128) :
    ((k0_pay52 (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay49 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 12 t) r0_4)) (k0_pay50 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 12 t) r0_4)) (k0_pay51 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 12 t) r0_4))) (ix2 r j) : EReal) =
      qiRow (place r.val) (rowK m c r) (gainK m c) (wK m c) ⟨2 * 1 + j.val / 64, by omega⟩ ⟨j.val % 64, by omega⟩ := by
  pointwise [k0_pay52, k0_pay51, k0_pay50, k0_pay49]
  exact turn_qi m c t r 1 (fun e => k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨128 + e.val, by omega⟩)) (fun _ => rfl) j

theorem qi_piece2 (t : Fin cfg0.N) (r : Fin 144) (j : Fin 128) :
    ((k0_pay53 (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) =
      qiRow (place r.val) (rowK m c r) (gainK m c) (wK m c) ⟨2 * 2 + j.val / 64, by omega⟩ ⟨j.val % 64, by omega⟩ := by
  pointwise [k0_pay53]
  exact turn_qi m c t r 2 (fun e => k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨256 + e.val, by omega⟩)) (fun _ => rfl) j

theorem qi_piece3 (t : Fin cfg0.N) (r : Fin 144) (j : Fin 128) :
    ((k0_pay54 (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) =
      qiRow (place r.val) (rowK m c r) (gainK m c) (wK m c) ⟨2 * 3 + j.val / 64, by omega⟩ ⟨j.val % 64, by omega⟩ := by
  pointwise [k0_pay54]
  exact turn_qi m c t r 3 (fun e => k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨384 + e.val, by omega⟩)) (fun _ => rfl) j

theorem qi_piece4 (t : Fin cfg0.N) (r : Fin 144) (j : Fin 128) :
    ((k0_pay55 (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) =
      qiRow (place r.val) (rowK m c r) (gainK m c) (wK m c) ⟨2 * 4 + j.val / 64, by omega⟩ ⟨j.val % 64, by omega⟩ := by
  pointwise [k0_pay55]
  exact turn_qi m c t r 4 (fun e => k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨512 + e.val, by omega⟩)) (fun _ => rfl) j

theorem qi_piece5 (t : Fin cfg0.N) (r : Fin 144) (j : Fin 128) :
    ((k0_pay59 (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay56 (k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (k0_pay57 (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (k0_pay58 (k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)))) (ix2 r j) : EReal) =
      qiRow (place r.val) (rowK m c r) (gainK m c) (wK m c) ⟨2 * 5 + j.val / 64, by omega⟩ ⟨j.val % 64, by omega⟩ := by
  pointwise [k0_pay59, k0_pay58, k0_pay57, k0_pay56]
  exact turn_qi m c t r 5 (fun e => k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨640 + e.val, by omega⟩)) (fun _ => rfl) j

theorem qi_piece6 (t : Fin cfg0.N) (r : Fin 144) (j : Fin 128) :
    ((k0_pay60 (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) =
      qiRow (place r.val) (rowK m c r) (gainK m c) (wK m c) ⟨2 * 6 + j.val / 64, by omega⟩ ⟨j.val % 64, by omega⟩ := by
  pointwise [k0_pay60]
  exact turn_qi m c t r 6 (fun e => k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨768 + e.val, by omega⟩)) (fun _ => rfl) j

theorem qi_piece7 (t : Fin cfg0.N) (r : Fin 144) (j : Fin 128) :
    ((k0_pay61 (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix2 r j) : EReal) =
      qiRow (place r.val) (rowK m c r) (gainK m c) (wK m c) ⟨2 * 7 + j.val / 64, by omega⟩ ⟨j.val % 64, by omega⟩ := by
  pointwise [k0_pay61]
  exact turn_qi m c t r 7 (fun e => k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨896 + e.val, by omega⟩)) (fun _ => rfl) j

theorem k_piece0 (t : Fin cfg0.N) (r : Fin 144) (j : Fin 128) :
    ((k0_pay36 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 11 t) r0_13)) (ix3 r 0 j) : EReal) =
      kRow (place r.val) (rowK m c r) (gainK m c) (wK m c) 0 j := by
  pointwise [k0_pay36, k0_pay35]
  exact turn_k m c t r 0 (fun e => k0_pay76 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨e.val, by omega⟩)) (fun e => congrArg _ (congrArg (ix2 r) (Fin.ext (by simp)))) j

theorem v_piece0 (t : Fin cfg0.N) (r : Fin 144) (j : Fin 128) :
    ((k0_pay44 (k0_pay76 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix3 r 0 j) : EReal) = vRow (rowK m c r) (gainK m c) (wK m c) 0 j := by
  pointwise [k0_pay44, k0_pay43]
  rw [zkv_at]
  exact congrArg (col _ _ _) (Fin.ext (by simp; omega))

theorem k_piece1 (t : Fin cfg0.N) (r : Fin 144) (j : Fin 128) :
    ((k0_pay40 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 11 t) r0_13)) (ix3 r 0 j) : EReal) =
      kRow (place r.val) (rowK m c r) (gainK m c) (wK m c) 1 j := by
  pointwise [k0_pay40, k0_pay39]
  exact turn_k m c t r 1 (fun e => k0_pay76 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨128 + e.val, by omega⟩)) (fun _ => rfl) j

theorem v_piece1 (t : Fin cfg0.N) (r : Fin 144) (j : Fin 128) :
    ((k0_pay45 (k0_pay76 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))) (ix3 r 0 j) : EReal) = vRow (rowK m c r) (gainK m c) (wK m c) 1 j := by
  pointwise [k0_pay45, k0_pay43]
  rw [zkv_at]
  exact congrArg (col _ _ _) (Fin.ext (by simp; omega))

end Cert.Proof.Proj

end
-- ==== Proof.Proj.Out.lean ====
/-
  The arrays the projection's kernel leaves, as functions of the index.
-/
module

public import proofs.«01_k».proof.Proof.Proj.Pieces
public import proofs.«01_k».proof.Proof.Gen.ProjIdeal.Run

@[expose] public section

set_option maxRecDepth 16384
set_option maxHeartbeats 1000000

noncomputable section

namespace Cert.Proof.Proj

open Cert.ProjIdeal Cert.ProjIdeal.Gen Idealize.ShloMosaic Idealize.ShloMosaic.TcCoe Idealize.SL.Sem

variable (m : (ℓ : Loc nD τ sig) → Buf (Elt Ideal) ℓ) (c : Dev nD)

/-- The query's lane `j` of row `r`. -/
def qLane (r : Fin 144) (j : Fin 1024) : EReal :=
  qRow (place r.val) (rowK m c r) (gainK m c) (wK m c) ⟨j.val / 128, by omega⟩ ⟨j.val % 128, by omega⟩

/-- The indexer query's lane `j` of row `r`. -/
def qiLane (r : Fin 144) (j : Fin 1024) : EReal :=
  qiRow (place r.val) (rowK m c r) (gainK m c) (wK m c) ⟨j.val / 64, by omega⟩ ⟨j.val % 64, by omega⟩

theorem qLane_at (r : Fin 144) (h : Fin 8) (j : Fin 128) (R : Fin 144) (J : Fin 1024) (hR : R = r) (hJ : J.val = 128 * h.val + j.val) :
    qRow (place r.val) (rowK m c r) (gainK m c) (wK m c) h j = qLane m c R J := by
  subst hR
  unfold qLane
  congr 1 <;> exact Fin.ext (by simp only [hJ]; omega)

theorem qiLane_at (r : Fin 144) (h : Fin 8) (j : Fin 128) (R : Fin 144) (J : Fin 1024) (hR : R = r) (hJ : J.val = 128 * h.val + j.val) :
    qiRow (place r.val) (rowK m c r) (gainK m c) (wK m c) ⟨2 * h.val + j.val / 64, by omega⟩ ⟨j.val % 64, by omega⟩ = qiLane m c R J := by
  subst hR
  unfold qiLane
  congr 1 <;> exact Fin.ext (by simp only [hJ]; omega)

theorem out_q (t : Fin cfg0.N) (i : S144x1024.Idx) : (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) i : EReal) = qLane m c (i 0) (i 1) := by
  unfold out0_15
  refine View.canon_apply_of_pieces (Val := Elt Ideal) (e := .bf16) (fun i : S144x1024.Idx => qLane m c (i 0) (i 1)) _ ?_ i (cover0_15 (F := Ideal) _ _ _ _ _ _ _ _ i)
  intro p hp
  simp only [List.mem_cons, List.not_mem_nil, or_false] at hp
  rcases hp with rfl | rfl | rfl | rfl | rfl | rfl | rfl | rfl <;> intro x
  · exact (congrArg _ (eq_ix2 x)).trans ((q_piece7 m c t (x 0) (x 1)).trans (qLane_at m c (x 0) 7 (x 1) _ _
      (Fin.ext (by simp [Rect.emb_apply])) (by simp [Rect.emb_apply])))
  · exact (congrArg _ (eq_ix2 x)).trans ((q_piece6 m c t (x 0) (x 1)).trans (qLane_at m c (x 0) 6 (x 1) _ _
      (Fin.ext (by simp [Rect.emb_apply])) (by simp [Rect.emb_apply])))
  · exact (congrArg _ (eq_ix2 x)).trans ((q_piece5 m c t (x 0) (x 1)).trans (qLane_at m c (x 0) 5 (x 1) _ _
      (Fin.ext (by simp [Rect.emb_apply])) (by simp [Rect.emb_apply])))
  · exact (congrArg _ (eq_ix2 x)).trans ((q_piece4 m c t (x 0) (x 1)).trans (qLane_at m c (x 0) 4 (x 1) _ _
      (Fin.ext (by simp [Rect.emb_apply])) (by simp [Rect.emb_apply])))
  · exact (congrArg _ (eq_ix2 x)).trans ((q_piece3 m c t (x 0) (x 1)).trans (qLane_at m c (x 0) 3 (x 1) _ _
      (Fin.ext (by simp [Rect.emb_apply])) (by simp [Rect.emb_apply])))
  · exact (congrArg _ (eq_ix2 x)).trans ((q_piece2 m c t (x 0) (x 1)).trans (qLane_at m c (x 0) 2 (x 1) _ _
      (Fin.ext (by simp [Rect.emb_apply])) (by simp [Rect.emb_apply])))
  · exact (congrArg _ (eq_ix2 x)).trans ((q_piece1 m c t (x 0) (x 1)).trans (qLane_at m c (x 0) 1 (x 1) _ _
      (Fin.ext (by simp [Rect.emb_apply])) (by simp [Rect.emb_apply])))
  · exact (congrArg _ (eq_ix2 x)).trans ((q_piece0 m c t (x 0) (x 1)).trans (qLane_at m c (x 0) 0 (x 1) _ _
      (Fin.ext (by simp [Rect.emb_apply])) (by simp [Rect.emb_apply])))

theorem out_qi (t : Fin cfg0.N) (i : S144x1024.Idx) : (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) i : EReal) = qiLane m c (i 0) (i 1) := by
  unfold out0_20
  refine View.canon_apply_of_pieces (Val := Elt Ideal) (e := .bf16) (fun i : S144x1024.Idx => qiLane m c (i 0) (i 1)) _ ?_ i (cover0_20 (F := Ideal) _ _ _ _ _ _ _ _ i)
  intro p hp
  simp only [List.mem_cons, List.not_mem_nil, or_false] at hp
  rcases hp with rfl | rfl | rfl | rfl | rfl | rfl | rfl | rfl <;> intro x
  · exact (congrArg _ (eq_ix2 x)).trans ((qi_piece7 m c t (x 0) (x 1)).trans (qiLane_at m c (x 0) 7 (x 1) _ _
      (Fin.ext (by simp [Rect.emb_apply])) (by simp [Rect.emb_apply])))
  · exact (congrArg _ (eq_ix2 x)).trans ((qi_piece6 m c t (x 0) (x 1)).trans (qiLane_at m c (x 0) 6 (x 1) _ _
      (Fin.ext (by simp [Rect.emb_apply])) (by simp [Rect.emb_apply])))
  · exact (congrArg _ (eq_ix2 x)).trans ((qi_piece5 m c t (x 0) (x 1)).trans (qiLane_at m c (x 0) 5 (x 1) _ _
      (Fin.ext (by simp [Rect.emb_apply])) (by simp [Rect.emb_apply])))
  · exact (congrArg _ (eq_ix2 x)).trans ((qi_piece4 m c t (x 0) (x 1)).trans (qiLane_at m c (x 0) 4 (x 1) _ _
      (Fin.ext (by simp [Rect.emb_apply])) (by simp [Rect.emb_apply])))
  · exact (congrArg _ (eq_ix2 x)).trans ((qi_piece3 m c t (x 0) (x 1)).trans (qiLane_at m c (x 0) 3 (x 1) _ _
      (Fin.ext (by simp [Rect.emb_apply])) (by simp [Rect.emb_apply])))
  · exact (congrArg _ (eq_ix2 x)).trans ((qi_piece2 m c t (x 0) (x 1)).trans (qiLane_at m c (x 0) 2 (x 1) _ _
      (Fin.ext (by simp [Rect.emb_apply])) (by simp [Rect.emb_apply])))
  · exact (congrArg _ (eq_ix2 x)).trans ((qi_piece1 m c t (x 0) (x 1)).trans (qiLane_at m c (x 0) 1 (x 1) _ _
      (Fin.ext (by simp [Rect.emb_apply])) (by simp [Rect.emb_apply])))
  · exact (congrArg _ (eq_ix2 x)).trans ((qi_piece0 m c t (x 0) (x 1)).trans (qiLane_at m c (x 0) 0 (x 1) _ _
      (Fin.ext (by simp [Rect.emb_apply])) (by simp [Rect.emb_apply])))

theorem kLane_at (r : Fin 144) (h : Fin 2) (j : Fin 128) (R : Fin 144) (H : Fin 2) (J : Fin 128) (hR : R = r) (hH : H = h) (hJ : J = j) :
    kRow (place r.val) (rowK m c r) (gainK m c) (wK m c) h j = kRow (place R.val) (rowK m c R) (gainK m c) (wK m c) H J := by
  rw [hR, hH, hJ]

theorem vLane_at (r : Fin 144) (h : Fin 2) (j : Fin 128) (R : Fin 144) (H : Fin 2) (J : Fin 128) (hR : R = r) (hH : H = h) (hJ : J = j) :
    vRow (rowK m c r) (gainK m c) (wK m c) h j = vRow (rowK m c R) (gainK m c) (wK m c) H J := by
  rw [hR, hH, hJ]

theorem out_k (t : Fin cfg0.N) (i : S144x2x128.Idx) : (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) i : EReal) = kRow (place (i 0).val) (rowK m c (i 0)) (gainK m c) (wK m c) (i 1) (i 2) := by
  unfold out0_16
  refine View.canon_apply_of_pieces (Val := Elt Ideal) (e := .f32) (fun i : S144x2x128.Idx => kRow (place (i 0).val) (rowK m c (i 0)) (gainK m c) (wK m c) (i 1) (i 2)) _ ?_ i (cover0_16 (F := Ideal) _ _ i)
  intro p hp
  simp only [List.mem_cons, List.not_mem_nil, or_false] at hp
  rcases hp with rfl | rfl <;> intro x
  · have e : x = ix3 (x 0) 0 (x 2) := (eq_ix3 x).trans (congrArg (fun q => ix3 (x 0) q (x 2)) (Fin.eq_zero (x 1)))
    exact (congrArg _ e).trans ((k_piece1 m c t (x 0) (x 2)).trans (kLane_at m c (x 0) 1 (x 2) _ _ _ (Fin.ext (by simp [Rect.emb_apply]))
      (Fin.ext (by simp [Rect.emb_apply])) (Fin.ext (by simp [Rect.emb_apply]))))
  · have e : x = ix3 (x 0) 0 (x 2) := (eq_ix3 x).trans (congrArg (fun q => ix3 (x 0) q (x 2)) (Fin.eq_zero (x 1)))
    exact (congrArg _ e).trans ((k_piece0 m c t (x 0) (x 2)).trans (kLane_at m c (x 0) 0 (x 2) _ _ _ (Fin.ext (by simp [Rect.emb_apply]))
      (Fin.ext (by simp [Rect.emb_apply])) (Fin.ext (by simp [Rect.emb_apply]))))

theorem out_v (t : Fin cfg0.N) (i : S144x2x128.Idx) : (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) i : EReal) = vRow (rowK m c (i 0)) (gainK m c) (wK m c) (i 1) (i 2) := by
  unfold out0_17
  refine View.canon_apply_of_pieces (Val := Elt Ideal) (e := .f32) (fun i : S144x2x128.Idx => vRow (rowK m c (i 0)) (gainK m c) (wK m c) (i 1) (i 2)) _ ?_ i (cover0_17 (F := Ideal) _ _ i)
  intro p hp
  simp only [List.mem_cons, List.not_mem_nil, or_false] at hp
  rcases hp with rfl | rfl <;> intro x
  · have e : x = ix3 (x 0) 0 (x 2) := (eq_ix3 x).trans (congrArg (fun q => ix3 (x 0) q (x 2)) (Fin.eq_zero (x 1)))
    exact (congrArg _ e).trans ((v_piece1 m c t (x 0) (x 2)).trans (vLane_at m c (x 0) 1 (x 2) _ _ _ (Fin.ext (by simp [Rect.emb_apply]))
      (Fin.ext (by simp [Rect.emb_apply])) (Fin.ext (by simp [Rect.emb_apply]))))
  · have e : x = ix3 (x 0) 0 (x 2) := (eq_ix3 x).trans (congrArg (fun q => ix3 (x 0) q (x 2)) (Fin.eq_zero (x 1)))
    exact (congrArg _ e).trans ((v_piece0 m c t (x 0) (x 2)).trans (vLane_at m c (x 0) 0 (x 2) _ _ _ (Fin.ext (by simp [Rect.emb_apply]))
      (Fin.ext (by simp [Rect.emb_apply])) (Fin.ext (by simp [Rect.emb_apply]))))

theorem out_u (t : Fin cfg0.N) (r : Fin 144) (j : Fin 1024) :
    (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) : EReal) = uRow (rowK m c r) (gainK m c) (wK m c) j := by
  unfold out0_22
  rw [View.canon_unit_zero (S := S144x1024) (off := ![0, 0]) (by funext a; fin_cases a <;> rfl)]
  exact zu_at m c t r j

theorem kw_lane (v66 v68 : FVec Ideal S144x128 .f32) (v145 v160 : FVec Ideal S144x1 .f32) (z c : FVec Ideal S144x128 .f32) (r : Fin 144) (j : Fin 128) :
    (k0_pay1 (F := Ideal) v66 v68 v145 v160 z (iota .tc S144x128 32 [1] iota_S144x128_d1_w32) k0_pay63 (k0_pay64 c) (Scalar.ofBits .f32 0x00000000#32) (ix2 r j) : EReal) =
      Scalar.select (IntOp.cmpi CmpIPredicate.eq (BitVec.ofNat 32 j.val) (BitVec.ofNat 32 81)) (v160 (ix2 r 0))
        (Scalar.select (IntOp.cmpi CmpIPredicate.eq (BitVec.ofNat 32 j.val) (BitVec.ofNat 32 80)) (v145 (ix2 r 0))
          (z (ix2 r j) * Scalar.select (IntOp.cmpi CmpIPredicate.slt (BitVec.ofNat 32 j.val) (BitVec.ofNat 32 64)) (c (ix2 r j))
              (Scalar.select (IntOp.cmpi CmpIPredicate.slt (BitVec.ofNat 32 j.val) (BitVec.ofNat 32 80)) (Ideal.ofBits FTy.f32 1048576000#32) 1) +
            Scalar.select (IntOp.cmpi CmpIPredicate.slt (BitVec.ofNat 32 j.val) (BitVec.ofNat 32 64))
              (z (ix2 r ⟨(j.val + 128 - 96) % 128, by omega⟩) * v66 (ix2 r j)) 0 +
            Scalar.select (IntOp.cmpi CmpIPredicate.slt (BitVec.ofNat 32 j.val) (BitVec.ofNat 32 64))
              (z (ix2 r ⟨(j.val + 128 - 32) % 128, by omega⟩) * v68 (ix2 r j)) 0)) := by
  pointwise [k0_pay1, k0_pay63, k0_pay64]

theorem kw_low (v66 v68 : FVec Ideal S144x128 .f32) (v145 v160 : FVec Ideal S144x1 .f32) (z c : FVec Ideal S144x128 .f32) (r : Fin 144) (j : Fin 128) (hj : j.val < 64) :
    (k0_pay1 (F := Ideal) v66 v68 v145 v160 z (iota .tc S144x128 32 [1] iota_S144x128_d1_w32) k0_pay63 (k0_pay64 c) (Scalar.ofBits .f32 0x00000000#32) (ix2 r j) : EReal) =
      z (ix2 r j) * c (ix2 r j) + z (ix2 r ⟨(j.val + 128 - 96) % 128, by omega⟩) * v66 (ix2 r j) +
        z (ix2 r ⟨(j.val + 128 - 32) % 128, by omega⟩) * v68 (ix2 r j) := by
  rw [kw_lane, select_ne _ _ (by omega) (by omega) (by omega), select_ne _ _ (by omega) (by omega) (by omega)]
  simp only [select_slt j.val 64 (by omega) (by omega), if_pos hj]

theorem kw_high (v66 v68 : FVec Ideal S144x128 .f32) (v145 v160 : FVec Ideal S144x1 .f32) (z c : FVec Ideal S144x128 .f32) (r : Fin 144) (j : Fin 128) (hj : 64 ≤ j.val) (hk : j.val < 80) :
    (k0_pay1 (F := Ideal) v66 v68 v145 v160 z (iota .tc S144x128 32 [1] iota_S144x128_d1_w32) k0_pay63 (k0_pay64 c) (Scalar.ofBits .f32 0x00000000#32) (ix2 r j) : EReal) = z (ix2 r j) * Ideal.ofBits FTy.f32 1048576000#32 := by
  rw [kw_lane, select_ne _ _ (by omega) (by omega) (by omega), select_ne _ _ (by omega) (by omega) (by omega)]
  simp only [select_slt j.val 64 (by omega) (by omega), select_slt j.val 80 (by omega) (by omega), if_neg (show ¬ j.val < 64 by omega), if_pos hk, add_zero]

theorem out_ki (t : Fin cfg0.N) (r : Fin 144) (j : Fin 64) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨j.val, by omega⟩) : EReal) = kiRow (place r.val) (rowK m c r) (gainK m c) (wK m c) j := by
  unfold out0_21
  rw [View.canon_unit_zero (S := S144x128) (off := ![0, 0]) (by funext a; fin_cases a <;> rfl)]
  refine (kw_low _ _ _ _ _ _ r ⟨j.val, by omega⟩ j.isLt).trans ?_
  unfold kiRow
  exact turn64_of (place r.val) (fun e => k0_pay62 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 13 t) r0_19) (ix2 r e)) (fun e => k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e)) (fun e => k0_pay73 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e)) (fun e => k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r e))
    (cos64_at m c t r) (sinA_at m c t r) (sinB_at m c t r) (fun e => col (rowK m c r) (gainK m c) (wK m c) ⟨2560 + e.val, by omega⟩) 0
    (fun e => (congrArg (fun q => k0_pay62 (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (e' := .bf16) (iblk m c 13 t) r0_19) (ix2 r q)) (Fin.ext (by simp))).trans (zkw_at m c t r ⟨e.val, by omega⟩)) j ⟨j.val, by omega⟩ (by simp)

theorem out_wi (t : Fin cfg0.N) (r : Fin 144) (j : Fin 16) :
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r ⟨64 + j.val, by omega⟩) : EReal) = wiRow (rowK m c r) (gainK m c) (wK m c) j := by
  unfold out0_21
  rw [View.canon_unit_zero (S := S144x128) (off := ![0, 0]) (by funext a; fin_cases a <;> rfl)]
  refine (kw_high _ _ _ _ _ _ r ⟨64 + j.val, by omega⟩ (by simp) (by change 64 + j.val < 80; omega)).trans ?_
  unfold wiRow
  refine congrArg (· * _) ((zkw_at m c t r ⟨64 + j.val, by omega⟩).trans (congrArg (col _ _ _) (Fin.ext ?_)))
  change 2560 + (64 + j.val) = 2624 + j.val
  omega

/-! ## The arrays after the region -/

theorem array_q : Value.reg_main_v111_0 m c = fun i : S144x1024.Idx => qLane m c (i 0) (i 1) := by
  unfold Value.reg_main_v111_0
  refine (dats m 0 c).arrAt_eq_of_after_last 15 t0_0 (by decide +kernel) _ fun i => ?_
  blk_simp
  rw [after0_15]
  exact out_q m c t0_0 i

theorem array_k : Value.reg_main_v111_1 m c = fun i : S144x2x128.Idx => kRow (place (i 0).val) (rowK m c (i 0)) (gainK m c) (wK m c) (i 1) (i 2) := by
  unfold Value.reg_main_v111_1
  refine (dats m 0 c).arrAt_eq_of_after_last 16 t0_0 (by decide +kernel) _ fun i => ?_
  blk_simp
  rw [after0_16]
  exact out_k m c t0_0 i

theorem array_v : Value.reg_main_v111_2 m c = fun i : S144x2x128.Idx => vRow (rowK m c (i 0)) (gainK m c) (wK m c) (i 1) (i 2) := by
  unfold Value.reg_main_v111_2
  refine (dats m 0 c).arrAt_eq_of_after_last 17 t0_0 (by decide +kernel) _ fun i => ?_
  blk_simp
  rw [after0_17]
  exact out_v m c t0_0 i

theorem array_qi : Value.reg_main_v111_5 m c = fun i : S144x1024.Idx => qiLane m c (i 0) (i 1) := by
  unfold Value.reg_main_v111_5
  refine (dats m 0 c).arrAt_eq_of_after_last 20 t0_0 (by decide +kernel) _ fun i => ?_
  blk_simp
  rw [after0_20]
  exact out_qi m c t0_0 i

theorem array_kw : Value.reg_main_v111_6 m c = fun i : S144x128.Idx => (out0_21 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) i : EReal) := by
  unfold Value.reg_main_v111_6
  refine (dats m 0 c).arrAt_eq_of_after_last 21 t0_0 (by decide +kernel) _ fun i => ?_
  blk_simp
  rw [after0_21]

theorem array_u : Value.reg_main_v111_7 m c = fun i : S144x1024.Idx => uRow (rowK m c (i 0)) (gainK m c) (wK m c) (i 1) := by
  unfold Value.reg_main_v111_7
  refine (dats m 0 c).arrAt_eq_of_after_last 22 t0_0 (by decide +kernel) _ fun i => ?_
  blk_simp
  rw [after0_22]
  exact (congrArg _ (eq_ix2 i)).trans (out_u m c t0_0 (i 0) (i 1))

end Cert.Proof.Proj

end
-- ==== Proof.Proj.KerOut.lean ====
/-
  The projection kernel's results, as functions of the index.
-/
module

public import proofs.«01_k».proof.Proof.Proj.Out

@[expose] public section

set_option maxRecDepth 16384
set_option maxHeartbeats 20000000

noncomputable section

namespace Cert.Proof.Proj

open Cert.ProjIdeal Cert.ProjIdeal.Gen Idealize.ShloMosaic Idealize.ShloMosaic.TcCoe Idealize.SL.Sem

section Rows

variable (m : (ℓ : Loc nD τ sig) → Buf (Elt Ideal) ℓ) (c : Dev nD)

/-- A sample row. -/
def sampleK (r : Fin 128) (n : Fin 2048) : EReal := m ((c : Thread nD τ).loc main_arg0) (ix2 r n)

/-- A leading row. -/
def metaK (r : Fin 16) (n : Fin 2048) : EReal := m ((c : Thread nD τ).loc main_arg1) (ix2 r n)

theorem row_sample (r : Fin 128) (R : Fin 144) (h : R.val = 16 + r.val) : rowK m c R = sampleK m c r := by
  funext n
  exact host_sample m c R n r h

theorem row_meta (r : Fin 16) (R : Fin 144) (h : R.val = r.val) : rowK m c R = metaK m c r := by
  funext n
  exact host_meta m c R n r h

theorem place_sample (r : Fin 128) (R : Fin 144) (h : R.val = 16 + r.val) : place R.val = 2048#32 := by
  unfold place
  rw [if_neg (by omega)]

theorem place_meta (r : Fin 16) (R : Fin 144) (h : R.val = r.val) : place R.val = BitVec.ofNat 32 r.val := by
  unfold place
  rw [if_pos (by omega), h]

end Rows

/-- Every result of the kernel, row by row. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v116) = kRes (n := 128) (fun _ => 2048#32) (sampleK m c) (gainK m c) (wK m c)
      ∧ r.2.mem ((c.tc : Thread nD τ).loc main_v117) = vRes (n := 128) (sampleK m c) (gainK m c) (wK m c)
      ∧ r.2.mem ((c.tc : Thread nD τ).loc main_v118) = kiRes (n := 128) (fun _ => 2048#32) (sampleK m c) (gainK m c) (wK m c)
      ∧ r.2.mem ((c.tc : Thread nD τ).loc main_v115) = poolRes (m ((c : Thread nD τ).loc main_arg2)) (sampleK m c) (gainK m c) (wK m c)
      ∧ r.2.mem ((c.tc : Thread nD τ).loc main_v120) = qRes (n := 128) (fun _ => 2048#32) (sampleK m c) (gainK m c) (wK m c)
      ∧ r.2.mem ((c.tc : Thread nD τ).loc main_v122) = qiRes (n := 128) (fun _ => 2048#32) (sampleK m c) (gainK m c) (wK m c)
      ∧ r.2.mem ((c.tc : Thread nD τ).loc main_v123) = wiRes (n := 128) (sampleK m c) (gainK m c) (wK m c)
      ∧ r.2.mem ((c.tc : Thread nD τ).loc main_v124) = kRes (n := 16) (fun r => BitVec.ofNat 32 r.val) (metaK m c) (gainK m c) (wK m c)
      ∧ r.2.mem ((c.tc : Thread nD τ).loc main_v125) = vRes (n := 16) (metaK m c) (gainK m c) (wK m c)
      ∧ r.2.mem ((c.tc : Thread nD τ).loc main_v126) = kiRes (n := 16) (fun r => BitVec.ofNat 32 r.val) (metaK m c) (gainK m c) (wK m c)
      ∧ r.2.mem ((c.tc : Thread nD τ).loc main_v127) = uRes (n := 16) (metaK m c) (gainK m c) (wK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h0, h1, h2, h3, h4, h5, h6, h7, h8, h9, h10, hargs⟩ := h c
  refine ⟨h0.trans ?_, h1.trans ?_, h2.trans ?_, h3.trans ?_, h4.trans ?_, h5.trans ?_, h6.trans ?_, h7.trans ?_, h8.trans ?_, h9.trans ?_, h10.trans ?_, hargs⟩ <;>
    clear h0 h1 h2 h3 h4 h5 h6 h7 h8 h9 h10 hargs <;> funext i
  · obtain ⟨R, H, D, rfl⟩ : ∃ (R : Fin 128) (H : Fin 2) (D : Fin 128), i = ix3 R H D := ⟨i 0, i 1, i 2, eq_ix3 i⟩
    change _ = kRow 2048#32 (sampleK m c R) (gainK m c) (wK m c) H D
    rw [← row_sample m c R ⟨16 + R.val, by omega⟩ rfl, ← place_sample R ⟨16 + R.val, by omega⟩ rfl, array_k]
    pointwise
  · obtain ⟨R, H, D, rfl⟩ : ∃ (R : Fin 128) (H : Fin 2) (D : Fin 128), i = ix3 R H D := ⟨i 0, i 1, i 2, eq_ix3 i⟩
    change _ = vRow (sampleK m c R) (gainK m c) (wK m c) H D
    rw [← row_sample m c R ⟨16 + R.val, by omega⟩ rfl, array_v]
    pointwise
  · obtain ⟨R, J, rfl⟩ : ∃ (R : Fin 128) (J : Fin 64), i = ix2 R J := ⟨i 0, i 1, eq_ix2 i⟩
    change _ = kiRow 2048#32 (sampleK m c R) (gainK m c) (wK m c) J
    rw [← row_sample m c R ⟨16 + R.val, by omega⟩ rfl, ← place_sample R ⟨16 + R.val, by omega⟩ rfl, array_kw]
    pointwise
    exact out_ki m c t0_0 ⟨16 + R.val, by omega⟩ J
  · obtain ⟨R, H, D, rfl⟩ : ∃ (R : Fin 128) (H : Fin 15) (D : Fin 1024), i = ix3 R H D := ⟨i 0, i 1, i 2, eq_ix3 i⟩
    change _ = (if h : H.val < 14 then (m ((c : Thread nD τ).loc main_arg2) (ix3 R ⟨H.val + 1, by omega⟩ D) : EReal) else uRow (sampleK m c R) (gainK m c) (wK m c) D)
    rw [← row_sample m c R ⟨16 + R.val, by omega⟩ rfl, array_u]
    pointwise
    split_ifs with h
    · exact congrArg (fun e => (m ((c : Thread nD τ).loc main_arg2) (ix3 R e D) : EReal)) (Fin.ext (Nat.add_comm 1 H.val))
    · rfl
  · obtain ⟨R, J, rfl⟩ : ∃ (R : Fin 128) (J : Fin 1024), i = ix2 R J := ⟨i 0, i 1, eq_ix2 i⟩
    change _ = qRow 2048#32 (sampleK m c R) (gainK m c) (wK m c) ⟨J.val / 128, by omega⟩ ⟨J.val % 128, by omega⟩
    rw [← row_sample m c R ⟨16 + R.val, by omega⟩ rfl, ← place_sample R ⟨16 + R.val, by omega⟩ rfl, array_q]
    pointwise
    rfl
  · obtain ⟨R, J, rfl⟩ : ∃ (R : Fin 128) (J : Fin 1024), i = ix2 R J := ⟨i 0, i 1, eq_ix2 i⟩
    change _ = qiRow 2048#32 (sampleK m c R) (gainK m c) (wK m c) ⟨J.val / 64, by omega⟩ ⟨J.val % 64, by omega⟩
    rw [← row_sample m c R ⟨16 + R.val, by omega⟩ rfl, ← place_sample R ⟨16 + R.val, by omega⟩ rfl, array_qi]
    pointwise
    rfl
  · obtain ⟨R, J, rfl⟩ : ∃ (R : Fin 128) (J : Fin 16), i = ix2 R J := ⟨i 0, i 1, eq_ix2 i⟩
    change _ = wiRow (sampleK m c R) (gainK m c) (wK m c) J
    rw [← row_sample m c R ⟨16 + R.val, by omega⟩ rfl, array_kw]
    pointwise
    exact out_wi m c t0_0 ⟨16 + R.val, by omega⟩ J
  · obtain ⟨R, H, D, rfl⟩ : ∃ (R : Fin 16) (H : Fin 2) (D : Fin 128), i = ix3 R H D := ⟨i 0, i 1, i 2, eq_ix3 i⟩
    change _ = kRow (BitVec.ofNat 32 R.val) (metaK m c R) (gainK m c) (wK m c) H D
    rw [← row_meta m c R ⟨R.val, by omega⟩ rfl, ← place_meta R ⟨R.val, by omega⟩ rfl, array_k]
    pointwise
  · obtain ⟨R, H, D, rfl⟩ : ∃ (R : Fin 16) (H : Fin 2) (D : Fin 128), i = ix3 R H D := ⟨i 0, i 1, i 2, eq_ix3 i⟩
    change _ = vRow (metaK m c R) (gainK m c) (wK m c) H D
    rw [← row_meta m c R ⟨R.val, by omega⟩ rfl, array_v]
    pointwise
  · obtain ⟨R, J, rfl⟩ : ∃ (R : Fin 16) (J : Fin 64), i = ix2 R J := ⟨i 0, i 1, eq_ix2 i⟩
    change _ = kiRow (BitVec.ofNat 32 R.val) (metaK m c R) (gainK m c) (wK m c) J
    rw [← row_meta m c R ⟨R.val, by omega⟩ rfl, ← place_meta R ⟨R.val, by omega⟩ rfl, array_kw]
    pointwise
    exact out_ki m c t0_0 ⟨R.val, by omega⟩ J
  · obtain ⟨R, J, rfl⟩ : ∃ (R : Fin 16) (J : Fin 1024), i = ix2 R J := ⟨i 0, i 1, eq_ix2 i⟩
    change _ = uRow (metaK m c R) (gainK m c) (wK m c) J
    rw [← row_meta m c R ⟨R.val, by omega⟩ rfl, array_u]
    pointwise

end Cert.Proof.Proj

end
-- ==== Proof.Proj.RefRows.lean ====
/-
  What the plain projection computes, row by row, for the sample rows and for the leading rows.
-/
module

public import proofs.«01_k».proof.Proof.Gen.ProjReferenceIdeal.Run
public import proofs.«01_k».proof.Proof.Proj.Spec
public import Idealize.ShloMosaic.Lib.Pointwise

@[expose] public section

set_option maxRecDepth 16384

noncomputable section

namespace Cert.Proof.Proj.Reference

open Cert.ProjReferenceIdeal Cert.ProjReferenceIdeal.Value Idealize.ShloMosaic Idealize.ShloMosaic.TcCoe Idealize.SL.Sem

variable (V0 : Valuation τ sig (Elt Ideal))

/-- A sample row. -/
def rowS (r : Fin 128) (n : Fin 2048) : EReal := V0 (Proc.devRef .tc main_arg0) (ix2 r n)

/-- A leading row. -/
def rowM (r : Fin 16) (n : Fin 2048) : EReal := V0 (Proc.devRef .tc main_arg1) (ix2 r n)

/-- The norm's gain. -/
def gain (n : Fin 2048) : EReal := V0 (Proc.devRef .tc main_arg3) (ix1 n)

/-- The weights. -/
def wt (y : Fin 2048) (j : Fin 3664) : EReal := V0 (Proc.devRef .tc main_arg4) (ix2 y j)

theorem zS (r : Fin 128) (j : Fin 3664) : (res_main_v14 V0 (ix2 r j) : EReal) = col (rowS V0 r) (gain V0) (wt V0) j := by
  pointwise [res_main_v14]
  rfl

theorem zM (r : Fin 16) (j : Fin 3664) : (res_main_v175 V0 (ix2 r j) : EReal) = col (rowM V0 r) (gain V0) (wt V0) j := by
  pointwise [res_main_v175]
  rfl

theorem angle38 (r : Fin 128) (k : Fin 64) : (res_main_v38 V0 (ix2 r k) : EReal) = angle W128 2048#32 k.val := by
  pointwise [res_main_v38, res_main_v0]
  rfl

theorem angle72 (r : Fin 128) (k : Fin 64) : (res_main_v72 V0 (ix2 r k) : EReal) = angle W128 2048#32 k.val := by
  pointwise [res_main_v72, res_main_v0]
  rfl

theorem angle107 (r : Fin 128) (k : Fin 32) : (res_main_v107 V0 (ix2 r k) : EReal) = angle W64 2048#32 k.val := by
  pointwise [res_main_v107, res_main_v0]
  rfl

theorem angle141 (r : Fin 128) (k : Fin 32) : (res_main_v141 V0 (ix2 r k) : EReal) = angle W64 2048#32 k.val := by
  pointwise [res_main_v141, res_main_v0]
  rfl

theorem angle199 (r : Fin 16) (k : Fin 64) : (res_main_v199 V0 (ix2 r k) : EReal) = angle W128 (BitVec.ofNat 32 r.val) k.val := by
  pointwise [res_main_v199, res_main_v161]
  rfl

theorem angle233 (r : Fin 16) (k : Fin 64) : (res_main_v233 V0 (ix2 r k) : EReal) = angle W128 (BitVec.ofNat 32 r.val) k.val := by
  pointwise [res_main_v233, res_main_v161]
  rfl

theorem angle268 (r : Fin 16) (k : Fin 32) : (res_main_v268 V0 (ix2 r k) : EReal) = angle W64 (BitVec.ofNat 32 r.val) k.val := by
  pointwise [res_main_v268, res_main_v161]
  rfl

theorem angle302 (r : Fin 16) (k : Fin 32) : (res_main_v302 V0 (ix2 r k) : EReal) = angle W64 (BitVec.ofNat 32 r.val) k.val := by
  pointwise [res_main_v302, res_main_v161]
  rfl

end Cert.Proof.Proj.Reference

end
-- ==== Proof.Proj.RefOut.lean ====
/-
  The plain projection's results, as functions of the index.
-/
module

public import proofs.«01_k».proof.Proof.Proj.RefRows

@[expose] public section

set_option maxRecDepth 16384
set_option maxHeartbeats 20000000

noncomputable section

namespace Cert.Proof.Proj.Reference

open Cert.ProjReferenceIdeal Cert.ProjReferenceIdeal.Gen Cert.ProjReferenceIdeal.Value Idealize.ShloMosaic Idealize.ShloMosaic.TcCoe Idealize.SL.Sem

/-- Every result of the plain projection, row by row. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = kRes (n := 128) (fun _ => 2048#32) (rowS (StableHlo.launchContents m c)) (gain (StableHlo.launchContents m c)) (wt (StableHlo.launchContents m c))
      ∧ r.2.mem ((c.tc : Thread nD τ).loc main_v90) = vRes (n := 128) (rowS (StableHlo.launchContents m c)) (gain (StableHlo.launchContents m c)) (wt (StableHlo.launchContents m c))
      ∧ r.2.mem ((c.tc : Thread nD τ).loc main_v155) = kiRes (n := 128) (fun _ => 2048#32) (rowS (StableHlo.launchContents m c)) (gain (StableHlo.launchContents m c)) (wt (StableHlo.launchContents m c))
      ∧ r.2.mem ((c.tc : Thread nD τ).loc main_v160) = poolRes ((StableHlo.launchContents m c) (Proc.devRef .tc main_arg2)) (rowS (StableHlo.launchContents m c)) (gain (StableHlo.launchContents m c)) (wt (StableHlo.launchContents m c))
      ∧ r.2.mem ((c.tc : Thread nD τ).loc main_v319) = qRes (n := 128) (fun _ => 2048#32) (rowS (StableHlo.launchContents m c)) (gain (StableHlo.launchContents m c)) (wt (StableHlo.launchContents m c))
      ∧ r.2.mem ((c.tc : Thread nD τ).loc main_v320) = qiRes (n := 128) (fun _ => 2048#32) (rowS (StableHlo.launchContents m c)) (gain (StableHlo.launchContents m c)) (wt (StableHlo.launchContents m c))
      ∧ r.2.mem ((c.tc : Thread nD τ).loc main_v157) = wiRes (n := 128) (rowS (StableHlo.launchContents m c)) (gain (StableHlo.launchContents m c)) (wt (StableHlo.launchContents m c))
      ∧ r.2.mem ((c.tc : Thread nD τ).loc main_v250) = kRes (n := 16) (fun r => BitVec.ofNat 32 r.val) (rowM (StableHlo.launchContents m c)) (gain (StableHlo.launchContents m c)) (wt (StableHlo.launchContents m c))
      ∧ r.2.mem ((c.tc : Thread nD τ).loc main_v251) = vRes (n := 16) (rowM (StableHlo.launchContents m c)) (gain (StableHlo.launchContents m c)) (wt (StableHlo.launchContents m c))
      ∧ r.2.mem ((c.tc : Thread nD τ).loc main_v316) = kiRes (n := 16) (fun r => BitVec.ofNat 32 r.val) (rowM (StableHlo.launchContents m c)) (gain (StableHlo.launchContents m c)) (wt (StableHlo.launchContents m c))
      ∧ r.2.mem ((c.tc : Thread nD τ).loc main_v182) = uRes (n := 16) (rowM (StableHlo.launchContents m c)) (gain (StableHlo.launchContents m c)) (wt (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run (F := Ideal) m ρ)
  obtain ⟨h0, h1, h2, h3, h4, h5, h6, h7, h8, h9, h10, hargs⟩ := h c
  refine ⟨h0.trans ?_, h1.trans ?_, h2.trans ?_, h3.trans ?_, h4.trans ?_, h5.trans ?_, h6.trans ?_, h7.trans ?_, h8.trans ?_, h9.trans ?_, h10.trans ?_, hargs⟩ <;>
    clear h0 h1 h2 h3 h4 h5 h6 h7 h8 h9 h10 hargs <;> generalize StableHlo.launchContents m c = V0 <;> funext i
  · obtain ⟨R, H, D, rfl⟩ : ∃ (R : Fin 128) (H : Fin 2) (D : Fin 128), i = ix3 R H D := ⟨i 0, i 1, i 2, eq_ix3 i⟩
    change _ = kRow 2048#32 (rowS V0 R) (gain V0) (wt V0) H D
    pointwise [res_main_v56, res_main_v74, res_main_v76, res_main_v77, res_main_v78]
    unfold kRow
    exact parts128 _ _ D _ _ _ _ _ _ (fun _ => (zS V0 R _).trans (congrArg (col _ _ _) (Fin.ext (by dsimp only <;> omega)))) (fun _ => (zS V0 R _).trans (congrArg (col _ _ _) (Fin.ext (by dsimp only <;> omega)))) (fun _ => (zS V0 R _).trans (congrArg (col _ _ _) (Fin.ext (by dsimp only <;> omega)))) (fun _ => (zS V0 R _).trans (congrArg (col _ _ _) (Fin.ext (by dsimp only <;> omega)))) (fun _ => (angle72 V0 R _).trans (congrArg (angle W128 _) (by dsimp only <;> omega))) (fun _ => (angle72 V0 R _).trans (congrArg (angle W128 _) (by dsimp only <;> omega)))
  · obtain ⟨R, H, D, rfl⟩ : ∃ (R : Fin 128) (H : Fin 2) (D : Fin 128), i = ix3 R H D := ⟨i 0, i 1, i 2, eq_ix3 i⟩
    change _ = vRow (rowS V0 R) (gain V0) (wt V0) H D
    pointwise
    exact (zS V0 R _).trans (congrArg (col _ _ _) (Fin.ext (by dsimp only; omega)))
  · obtain ⟨R, J, rfl⟩ : ∃ (R : Fin 128) (J : Fin 64), i = ix2 R J := ⟨i 0, i 1, eq_ix2 i⟩
    change _ = kiRow 2048#32 (rowS V0 R) (gain V0) (wt V0) J
    pointwise [res_main_v125, res_main_v143, res_main_v145, res_main_v146, res_main_v147]
    unfold kiRow
    exact parts64 _ _ J _ _ _ _ _ _ (fun _ => (zS V0 R _).trans (congrArg (col _ _ _) (Fin.ext (by dsimp only <;> omega)))) (fun _ => (zS V0 R _).trans (congrArg (col _ _ _) (Fin.ext (by dsimp only <;> omega)))) (fun _ => (zS V0 R _).trans (congrArg (col _ _ _) (Fin.ext (by dsimp only <;> omega)))) (fun _ => (zS V0 R _).trans (congrArg (col _ _ _) (Fin.ext (by dsimp only <;> omega)))) (fun _ => (angle141 V0 R _).trans (congrArg (angle W64 _) (by dsimp only <;> omega))) (fun _ => (angle141 V0 R _).trans (congrArg (angle W64 _) (by dsimp only <;> omega)))
  · obtain ⟨R, H, D, rfl⟩ : ∃ (R : Fin 128) (H : Fin 15) (D : Fin 1024), i = ix3 R H D := ⟨i 0, i 1, i 2, eq_ix3 i⟩
    change _ = (if h : H.val < 14 then V0 (Proc.devRef .tc main_arg2) (ix3 R ⟨H.val + 1, by omega⟩ D) else uRow (rowS V0 R) (gain V0) (wt V0) D)
    pointwise
    split_ifs <;> first
      | omega
      | exact zS V0 R _
      | exact congrArg (fun e => (V0 (Proc.devRef .tc main_arg2) (ix3 R e D) : EReal)) (Fin.ext (Nat.add_comm 1 H.val))
  · obtain ⟨R, J, rfl⟩ : ∃ (R : Fin 128) (J : Fin 1024), i = ix2 R J := ⟨i 0, i 1, eq_ix2 i⟩
    change _ = qRow 2048#32 (rowS V0 R) (gain V0) (wt V0) ⟨J.val / 128, by omega⟩ ⟨J.val % 128, by omega⟩
    pointwise [res_main_v22, res_main_v40, res_main_v42, res_main_v43, res_main_v44]
    unfold qRow
    exact parts128 _ _ ⟨J.val % 128, by omega⟩ _ _ _ _ _ _ (fun h => (zS V0 R _).trans (congrArg (col _ _ _) (Fin.ext (by dsimp only at h ⊢; omega)))) (fun h => (zS V0 R _).trans (congrArg (col _ _ _) (Fin.ext (by dsimp only at h ⊢; omega)))) (fun h => (zS V0 R _).trans (congrArg (col _ _ _) (Fin.ext (by dsimp only at h ⊢; omega)))) (fun h => (zS V0 R _).trans (congrArg (col _ _ _) (Fin.ext (by dsimp only at h ⊢; omega)))) (fun h => (angle38 V0 R _).trans (congrArg (angle W128 _) (by dsimp only at h ⊢; omega))) (fun h => (angle38 V0 R _).trans (congrArg (angle W128 _) (by dsimp only at h ⊢; omega)))
  · obtain ⟨R, J, rfl⟩ : ∃ (R : Fin 128) (J : Fin 1024), i = ix2 R J := ⟨i 0, i 1, eq_ix2 i⟩
    change _ = qiRow 2048#32 (rowS V0 R) (gain V0) (wt V0) ⟨J.val / 64, by omega⟩ ⟨J.val % 64, by omega⟩
    pointwise [res_main_v109, res_main_v111, res_main_v112, res_main_v113, res_main_v91]
    unfold qiRow
    exact parts64 _ _ ⟨J.val % 64, by omega⟩ _ _ _ _ _ _ (fun h => (zS V0 R _).trans (congrArg (col _ _ _) (Fin.ext (by dsimp only at h ⊢; omega)))) (fun h => (zS V0 R _).trans (congrArg (col _ _ _) (Fin.ext (by dsimp only at h ⊢; omega)))) (fun h => (zS V0 R _).trans (congrArg (col _ _ _) (Fin.ext (by dsimp only at h ⊢; omega)))) (fun h => (zS V0 R _).trans (congrArg (col _ _ _) (Fin.ext (by dsimp only at h ⊢; omega)))) (fun h => (angle107 V0 R _).trans (congrArg (angle W64 _) (by dsimp only at h ⊢; omega))) (fun h => (angle107 V0 R _).trans (congrArg (angle W64 _) (by dsimp only at h ⊢; omega)))
  · obtain ⟨R, J, rfl⟩ : ∃ (R : Fin 128) (J : Fin 16), i = ix2 R J := ⟨i 0, i 1, eq_ix2 i⟩
    change _ = wiRow (rowS V0 R) (gain V0) (wt V0) J
    pointwise
    exact congrArg (· * _) (zS V0 R _)
  · obtain ⟨R, H, D, rfl⟩ : ∃ (R : Fin 16) (H : Fin 2) (D : Fin 128), i = ix3 R H D := ⟨i 0, i 1, i 2, eq_ix3 i⟩
    change _ = kRow (BitVec.ofNat 32 R.val) (rowM V0 R) (gain V0) (wt V0) H D
    pointwise [res_main_v217, res_main_v235, res_main_v237, res_main_v238, res_main_v239]
    unfold kRow
    exact parts128 _ _ D _ _ _ _ _ _ (fun _ => (zM V0 R _).trans (congrArg (col _ _ _) (Fin.ext (by dsimp only <;> omega)))) (fun _ => (zM V0 R _).trans (congrArg (col _ _ _) (Fin.ext (by dsimp only <;> omega)))) (fun _ => (zM V0 R _).trans (congrArg (col _ _ _) (Fin.ext (by dsimp only <;> omega)))) (fun _ => (zM V0 R _).trans (congrArg (col _ _ _) (Fin.ext (by dsimp only <;> omega)))) (fun _ => (angle233 V0 R _).trans (congrArg (angle W128 _) (by dsimp only <;> omega))) (fun _ => (angle233 V0 R _).trans (congrArg (angle W128 _) (by dsimp only <;> omega)))
  · obtain ⟨R, H, D, rfl⟩ : ∃ (R : Fin 16) (H : Fin 2) (D : Fin 128), i = ix3 R H D := ⟨i 0, i 1, i 2, eq_ix3 i⟩
    change _ = vRow (rowM V0 R) (gain V0) (wt V0) H D
    pointwise
    exact (zM V0 R _).trans (congrArg (col _ _ _) (Fin.ext (by dsimp only; omega)))
  · obtain ⟨R, J, rfl⟩ : ∃ (R : Fin 16) (J : Fin 64), i = ix2 R J := ⟨i 0, i 1, eq_ix2 i⟩
    change _ = kiRow (BitVec.ofNat 32 R.val) (rowM V0 R) (gain V0) (wt V0) J
    pointwise [res_main_v286, res_main_v304, res_main_v306, res_main_v307, res_main_v308]
    unfold kiRow
    exact parts64 _ _ J _ _ _ _ _ _ (fun _ => (zM V0 R _).trans (congrArg (col _ _ _) (Fin.ext (by dsimp only <;> omega)))) (fun _ => (zM V0 R _).trans (congrArg (col _ _ _) (Fin.ext (by dsimp only <;> omega)))) (fun _ => (zM V0 R _).trans (congrArg (col _ _ _) (Fin.ext (by dsimp only <;> omega)))) (fun _ => (zM V0 R _).trans (congrArg (col _ _ _) (Fin.ext (by dsimp only <;> omega)))) (fun _ => (angle302 V0 R _).trans (congrArg (angle W64 _) (by dsimp only <;> omega))) (fun _ => (angle302 V0 R _).trans (congrArg (angle W64 _) (by dsimp only <;> omega)))
  · obtain ⟨R, J, rfl⟩ : ∃ (R : Fin 16) (J : Fin 1024), i = ix2 R J := ⟨i 0, i 1, eq_ix2 i⟩
    change _ = uRow (rowM V0 R) (gain V0) (wt V0) J
    pointwise
    exact zM V0 R _

end Cert.Proof.Proj.Reference

end
-- ==== Proof.Last.Body.lean ====
/-
  What one grid point of the last call on the sample rows leaves, as its case's payload: over any float values, the output block (the running sum) and
  the scratch block (the normed rows) after the body, in terms of the input blocks and of what the point before left.
-/
module

public import proofs.«01_k».proof.Proof.Gen.LastIdeal.Value

@[expose] public section

set_option maxRecDepth 16384

noncomputable section

namespace Cert.Proof.Last

open Cert.LastIdeal Cert.LastIdeal.Gen Idealize.ShloMosaic Idealize.ShloMosaic.TcCoe Idealize.SL.Sem

variable {F : FTy → Type} [FloatOps F]

theorem zeros : (![0, 0] : Fin 2 → Nat) = fun _ => 0 := funext fun a => by fin_cases a <;> rfl

/-- The pooling group `g`'s weights, as the kernel reads them. -/
def group0 (W : Vec F S4x256x256 .bf16) : Vec F S1x256x256 .bf16 :=
  View.ld (Val := Elt F) (e' := .bf16) W (Rect.unit (s := S4x256x256) ![0, 0, 0] S1x256x256.size inb_S4x256x256_S1x256x256_0_0_0)
def group1 (W : Vec F S4x256x256 .bf16) : Vec F S1x256x256 .bf16 :=
  View.ld (Val := Elt F) (e' := .bf16) W (Rect.unit (s := S4x256x256) ![1, 0, 0] S1x256x256.size inb_S4x256x256_S1x256x256_1_0_0)
def group2 (W : Vec F S4x256x256 .bf16) : Vec F S1x256x256 .bf16 :=
  View.ld (Val := Elt F) (e' := .bf16) W (Rect.unit (s := S4x256x256) ![2, 0, 0] S1x256x256.size inb_S4x256x256_S1x256x256_2_0_0)
def group3 (W : Vec F S4x256x256 .bf16) : Vec F S1x256x256 .bf16 :=
  View.ld (Val := Elt F) (e' := .bf16) W (Rect.unit (s := S4x256x256) ![3, 0, 0] S1x256x256.size inb_S4x256x256_S1x256x256_3_0_0)

/-- The block of rows after the output projection, and the same normed, from the input blocks. -/
def mixed (x0 : Vec F S128x2048 .f32) (x1 : Vec F S128x1024 .bf16) (x2 : Vec F S128x1024 .f32) (x3 x4 : Vec F S1024x2048 .bf16)
    (x5 : Vec F S4x256x256 .bf16) (x6 : Vec F S1x1024 .f32) : FVec F S128x2048 .f32 :=
  k0_pay1 (k0_pay5 x2 (group0 x5) (group1 x5) (group2 x5) (group3 x5) x6) (k0_pay6 x0 x1 x3) x4
def normed (x0 : Vec F S128x2048 .f32) (x1 : Vec F S128x1024 .bf16) (x2 : Vec F S128x1024 .f32) (x3 x4 : Vec F S1024x2048 .bf16)
    (x5 : Vec F S4x256x256 .bf16) (x6 : Vec F S1x1024 .f32) (x7 : Vec F S1x2048 .f32) : FVec F S128x2048 .bf16 :=
  k0_pay2 (k0_pay5 x2 (group0 x5) (group1 x5) (group2 x5) (group3 x5) x6) (k0_pay6 x0 x1 x3) x4 x7

/-- The first point of a block of rows leaves the normed rows in the scratch. -/
theorem sout_A (c : Dev nD) (i : grid0.Coords) (a2 : Memref sig .tc .vmem S128x2048 .f32) (h2 : a2.IsWhole) (a3 : Memref sig .tc .vmem S128x1024 .bf16) (h3 : a3.IsWhole) (a4 : Memref sig .tc .vmem S128x1024 .f32) (h4 : a4.IsWhole) (a5 : Memref sig .tc .vmem S1024x2048 .bf16) (h5 : a5.IsWhole) (a6 : Memref sig .tc .vmem S1024x2048 .bf16) (h6 : a6.IsWhole) (a7 : Memref sig .tc .vmem S4x256x256 .bf16) (h7 : a7.IsWhole) (a8 : Memref sig .tc .vmem S1x1024 .f32) (h8 : a8.IsWhole) (a9 : Memref sig .tc .vmem S1x2048 .f32) (h9 : a9.IsWhole) (a10 : Memref sig .tc .vmem S1x2048 .f32) (h10 : a10.IsWhole) (a11 : Memref sig .tc .vmem S2048x1024 .bf16) (h11 : a11.IsWhole) (a12 : Memref sig .tc .vmem S1024x2048 .bf16) (h12 : a12.IsWhole) (a13 : Memref sig .tc .vmem S128x2048 .f32) (h13 : a13.IsWhole) (a14 : Memref sig .tc .vmem S128x2048 .bf16) (h14 : a14.IsWhole) (hc0 : cond0_0 i) (hc1 : ¬cond0_1 i)
    (x0 : Vec F S128x2048 .f32) (x1 : Vec F S128x1024 .bf16) (x2 : Vec F S128x1024 .f32) (x3 : Vec F S1024x2048 .bf16) (x4 : Vec F S1024x2048 .bf16) (x5 : Vec F S4x256x256 .bf16) (x6 : Vec F S1x1024 .f32) (x7 : Vec F S1x2048 .f32) (x8 : Vec F S1x2048 .f32) (x9 : Vec F S2048x1024 .bf16) (x10 : Vec F S1024x2048 .bf16) :
    sout0_A_0 c i a2 h2 a3 h3 a4 h4 a5 h5 a6 h6 a7 h7 a8 h8 a9 h9 a10 h10 a11 h11 a12 h12 a13 h13 a14 h14 hc0 hc1 x0 x1 x2 x3 x4 x5 x6 x7 x8 x9 x10 = normed x0 x1 x2 x3 x4 x5 x6 x7 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_unit_zero (S := S128x2048) zeros]
  unfold normed
  simp only [View.readAt_eq_ld, View.ld_unit_zero (S := S128x2048) zeros, View.ld_unit_zero (S := S128x1024) zeros,
    View.ld_unit_zero (S := S1024x2048) zeros, View.ld_unit_zero (S := S2048x1024) zeros, View.ld_unit_zero (S := S1x1024) zeros, View.ld_unit_zero (S := S1x2048) zeros,
    h2.read_unread, h3.read_unread, h4.read_unread, h5.read_unread, h6.read_unread, h7.read_unread, h8.read_unread, h9.read_unread,
    h10.read_unread, h11.read_unread, h12.read_unread, h13.read_unread, h14.read_unread]
  rfl

/-- The first point of a block of rows leaves the mixed rows with the first slice of the feed-forward part added. -/
theorem out_A (c : Dev nD) (i : grid0.Coords) (a2 : Memref sig .tc .vmem S128x2048 .f32) (h2 : a2.IsWhole) (a3 : Memref sig .tc .vmem S128x1024 .bf16) (h3 : a3.IsWhole) (a4 : Memref sig .tc .vmem S128x1024 .f32) (h4 : a4.IsWhole) (a5 : Memref sig .tc .vmem S1024x2048 .bf16) (h5 : a5.IsWhole) (a6 : Memref sig .tc .vmem S1024x2048 .bf16) (h6 : a6.IsWhole) (a7 : Memref sig .tc .vmem S4x256x256 .bf16) (h7 : a7.IsWhole) (a8 : Memref sig .tc .vmem S1x1024 .f32) (h8 : a8.IsWhole) (a9 : Memref sig .tc .vmem S1x2048 .f32) (h9 : a9.IsWhole) (a10 : Memref sig .tc .vmem S1x2048 .f32) (h10 : a10.IsWhole) (a11 : Memref sig .tc .vmem S2048x1024 .bf16) (h11 : a11.IsWhole) (a12 : Memref sig .tc .vmem S1024x2048 .bf16) (h12 : a12.IsWhole) (a13 : Memref sig .tc .vmem S128x2048 .f32) (h13 : a13.IsWhole) (a14 : Memref sig .tc .vmem S128x2048 .bf16) (h14 : a14.IsWhole) (hc0 : cond0_0 i) (hc1 : ¬cond0_1 i)
    (x0 : Vec F S128x2048 .f32) (x1 : Vec F S128x1024 .bf16) (x2 : Vec F S128x1024 .f32) (x3 : Vec F S1024x2048 .bf16) (x4 : Vec F S1024x2048 .bf16) (x5 : Vec F S4x256x256 .bf16) (x6 : Vec F S1x1024 .f32) (x7 : Vec F S1x2048 .f32) (x8 : Vec F S1x2048 .f32) (x9 : Vec F S2048x1024 .bf16) (x10 : Vec F S1024x2048 .bf16) :
    out0_A_11 c i a2 h2 a3 h3 a4 h4 a5 h5 a6 h6 a7 h7 a8 h8 a9 h9 a10 h10 a11 h11 a12 h12 a13 h13 a14 h14 hc0 hc1 x0 x1 x2 x3 x4 x5 x6 x7 x8 x9 x10 = k0_pay3 (normed x0 x1 x2 x3 x4 x5 x6 x7) x9 (mixed x0 x1 x2 x3 x4 x5 x6) x10 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_cons_unit_zero (S := S128x2048) zeros]
  simp only [View.readCov_unit_zero (S := S128x2048) _ zeros, View.readAt_eq_ld, View.ld_unit_zero (S := S128x2048) zeros, View.ld_unit_zero (S := S128x1024) zeros,
    View.ld_unit_zero (S := S1024x2048) zeros, View.ld_unit_zero (S := S2048x1024) zeros, View.ld_unit_zero (S := S1x1024) zeros, View.ld_unit_zero (S := S1x2048) zeros,
    h2.read_unread, h3.read_unread, h4.read_unread, h5.read_unread, h6.read_unread, h7.read_unread, h8.read_unread, h9.read_unread,
    h10.read_unread, h11.read_unread, h12.read_unread, h13.read_unread, h14.read_unread]
  rfl

/-- A point in the middle adds its slice of the feed-forward part. -/
theorem out_B (c : Dev nD) (i : grid0.Coords) (a2 : Memref sig .tc .vmem S128x2048 .f32) (h2 : a2.IsWhole) (a3 : Memref sig .tc .vmem S128x1024 .bf16) (h3 : a3.IsWhole) (a4 : Memref sig .tc .vmem S128x1024 .f32) (h4 : a4.IsWhole) (a5 : Memref sig .tc .vmem S1024x2048 .bf16) (h5 : a5.IsWhole) (a6 : Memref sig .tc .vmem S1024x2048 .bf16) (h6 : a6.IsWhole) (a7 : Memref sig .tc .vmem S4x256x256 .bf16) (h7 : a7.IsWhole) (a8 : Memref sig .tc .vmem S1x1024 .f32) (h8 : a8.IsWhole) (a9 : Memref sig .tc .vmem S1x2048 .f32) (h9 : a9.IsWhole) (a10 : Memref sig .tc .vmem S1x2048 .f32) (h10 : a10.IsWhole) (a11 : Memref sig .tc .vmem S2048x1024 .bf16) (h11 : a11.IsWhole) (a12 : Memref sig .tc .vmem S1024x2048 .bf16) (h12 : a12.IsWhole) (a13 : Memref sig .tc .vmem S128x2048 .f32) (h13 : a13.IsWhole) (a14 : Memref sig .tc .vmem S128x2048 .bf16) (h14 : a14.IsWhole) (hc0 : ¬cond0_0 i) (hc1 : ¬cond0_1 i)
    (x0 : Vec F S128x2048 .f32) (x1 : Vec F S128x1024 .bf16) (x2 : Vec F S128x1024 .f32) (x3 : Vec F S1024x2048 .bf16) (x4 : Vec F S1024x2048 .bf16) (x5 : Vec F S4x256x256 .bf16) (x6 : Vec F S1x1024 .f32) (x7 : Vec F S1x2048 .f32) (x8 : Vec F S1x2048 .f32) (x9 : Vec F S2048x1024 .bf16) (x10 : Vec F S1024x2048 .bf16) (xo11 : Vec F S128x2048 .f32) (xs0 : Vec F S128x2048 .bf16) :
    out0_B_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xo11 xs0 = k0_pay3 xs0 x9 xo11 x10 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xo11 xs0)]
  unfold kernelRun0_B
  dsimp only
  rw [View.canon_unit_zero (S := S128x2048) zeros]
  simp only [View.readAt_eq_ld, View.ld_unit_zero (S := S128x2048) zeros, View.ld_unit_zero (S := S128x1024) zeros,
    View.ld_unit_zero (S := S1024x2048) zeros, View.ld_unit_zero (S := S2048x1024) zeros, View.ld_unit_zero (S := S1x1024) zeros, View.ld_unit_zero (S := S1x2048) zeros,
    h2.read_unread, h3.read_unread, h4.read_unread, h5.read_unread, h6.read_unread, h7.read_unread, h8.read_unread, h9.read_unread,
    h10.read_unread, h11.read_unread, h12.read_unread, h13.read_unread, h14.read_unread]

/-- The last point of a block of rows adds its slice and norms the rows. -/
theorem out_C (c : Dev nD) (i : grid0.Coords) (a2 : Memref sig .tc .vmem S128x2048 .f32) (h2 : a2.IsWhole) (a3 : Memref sig .tc .vmem S128x1024 .bf16) (h3 : a3.IsWhole) (a4 : Memref sig .tc .vmem S128x1024 .f32) (h4 : a4.IsWhole) (a5 : Memref sig .tc .vmem S1024x2048 .bf16) (h5 : a5.IsWhole) (a6 : Memref sig .tc .vmem S1024x2048 .bf16) (h6 : a6.IsWhole) (a7 : Memref sig .tc .vmem S4x256x256 .bf16) (h7 : a7.IsWhole) (a8 : Memref sig .tc .vmem S1x1024 .f32) (h8 : a8.IsWhole) (a9 : Memref sig .tc .vmem S1x2048 .f32) (h9 : a9.IsWhole) (a10 : Memref sig .tc .vmem S1x2048 .f32) (h10 : a10.IsWhole) (a11 : Memref sig .tc .vmem S2048x1024 .bf16) (h11 : a11.IsWhole) (a12 : Memref sig .tc .vmem S1024x2048 .bf16) (h12 : a12.IsWhole) (a13 : Memref sig .tc .vmem S128x2048 .f32) (h13 : a13.IsWhole) (a14 : Memref sig .tc .vmem S128x2048 .bf16) (h14 : a14.IsWhole) (hc0 : ¬cond0_0 i) (hc1 : cond0_1 i)
    (x0 : Vec F S128x2048 .f32) (x1 : Vec F S128x1024 .bf16) (x2 : Vec F S128x1024 .f32) (x3 : Vec F S1024x2048 .bf16) (x4 : Vec F S1024x2048 .bf16) (x5 : Vec F S4x256x256 .bf16) (x6 : Vec F S1x1024 .f32) (x7 : Vec F S1x2048 .f32) (x8 : Vec F S1x2048 .f32) (x9 : Vec F S2048x1024 .bf16) (x10 : Vec F S1024x2048 .bf16) (xo11 : Vec F S128x2048 .f32) (xs0 : Vec F S128x2048 .bf16) :
    out0_C_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xo11 xs0 = k0_pay4 (k0_pay3 xs0 x9 xo11 x10) x8 := by
  unfold out0_C_11
  rw [View.read_writes_eq_canon _ _ _ (cover0_C_11 c i a2 h2 a3 h3 a4 h4 a5 h5 a6 h6 a7 h7 a8 h8 a9 h9 a10 h10 a11 h11 a12 h12 a13 h13 a14 h14 hc0 hc1 x0 x1 x2 x3 x4 x5 x6 x7 x8 x9 x10 xo11 xs0)]
  unfold kernelRun0_C
  dsimp only
  sl_unfold_words
  rw [View.canon_cons_unit_zero (S := S128x2048) zeros]
  simp only [View.readCov_unit_zero (S := S128x2048) _ zeros, View.readAt_eq_ld, View.ld_unit_zero (S := S128x2048) zeros, View.ld_unit_zero (S := S128x1024) zeros,
    View.ld_unit_zero (S := S1024x2048) zeros, View.ld_unit_zero (S := S2048x1024) zeros, View.ld_unit_zero (S := S1x1024) zeros, View.ld_unit_zero (S := S1x2048) zeros,
    h2.read_unread, h3.read_unread, h4.read_unread, h5.read_unread, h6.read_unread, h7.read_unread, h8.read_unread, h9.read_unread,
    h10.read_unread, h11.read_unread, h12.read_unread, h13.read_unread, h14.read_unread]

end Cert.Proof.Last

end
-- ==== Proof.Last.Rows.lean ====
/-
  The kernel's payloads of one grid point, read at an element: each is the row function of the blocks' elements.
-/
module

public import proofs.«01_k».proof.Proof.Last.Body
public import proofs.«01_k».proof.Proof.Post.Spec

@[expose] public section

set_option maxRecDepth 16384

noncomputable section

namespace Cert.Proof.Last

open Cert.Proof.Post Cert.LastIdeal Cert.LastIdeal.Gen Idealize.ShloMosaic Idealize.ShloMosaic.TcCoe Idealize.SL.Sem

theorem term_eq (d : Vec Ideal S128x1024 .f32) (W : Vec Ideal S4x256x256 .bf16) (r : Fin 128) (a b : Fin 1024) (g g' : Fin 4) (x e e' : Fin 256)
    (ha : a = b) (hg : g = g') (he : e = e') :
    (d (ix2 r a) : EReal) * (W (ix3 g x e) : EReal) = (d (ix2 r b) : EReal) * (W (ix3 g' x e') : EReal) := by
  subst ha hg he
  rfl

/-- The pooled block at an element. -/
theorem pooled_at (d : Vec Ideal S128x1024 .f32) (W : Vec Ideal S4x256x256 .bf16) (s : Vec Ideal S1x1024 .f32) (r : Fin 128) (k : Fin 1024) :
    (k0_pay5 d (group0 W) (group1 W) (group2 W) (group3 W) s (ix2 r k) : EReal)
      = pool (fun k => d (ix2 r k)) (fun g y e => W (ix3 g y e)) (fun k => s (ix2 0 k)) k := by
  pointwise [k0_pay5, group0, group1, group2, group3]
  unfold Post.pool
  refine congrArg (· * (s (ix2 0 k) : EReal)) ?_
  have hk := k.isLt
  split_ifs <;> refine Finset.sum_congr rfl fun x _ => term_eq d W r _ _ _ _ _ _ _ (Fin.ext ?_) (Fin.ext ?_) (Fin.ext ?_) <;>
    dsimp only [Fin.val_zero, Fin.val_one] <;> (try simp only [Fin.isValue, Fin.coe_ofNat_eq_mod]) <;> omega

theorem mixed_at (x0 : Vec Ideal S128x2048 .f32) (x1 : Vec Ideal S128x1024 .bf16) (x2 : Vec Ideal S128x1024 .f32)
    (x3 x4 : Vec Ideal S1024x2048 .bf16) (x5 : Vec Ideal S4x256x256 .bf16) (x6 : Vec Ideal S1x1024 .f32) (r : Fin 128) (n : Fin 2048) :
    (mixed x0 x1 x2 x3 x4 x5 x6 (ix2 r n) : EReal)
      = mix (fun n => x0 (ix2 r n)) (fun k => x1 (ix2 r k))
          (pool (fun k => x2 (ix2 r k)) (fun g y e => x5 (ix3 g y e)) (fun k => x6 (ix2 0 k)))
          (fun k n => x3 (ix2 k n)) (fun k n => x4 (ix2 k n)) n := by
  unfold mixed mix
  simp only [← pooled_at]
  generalize k0_pay5 x2 (group0 x5) (group1 x5) (group2 x5) (group3 x5) x6 = p
  pointwise [k0_pay1, k0_pay6]

theorem normed_of (p : Vec Ideal S128x1024 .f32) (q : Vec Ideal S128x2048 .f32) (w : Vec Ideal S1024x2048 .bf16) (g : Vec Ideal S1x2048 .f32)
    (r : Fin 128) (n : Fin 2048) :
    (k0_pay2 p q w g (ix2 r n) : EReal) = norm (fun n => k0_pay1 p q w (ix2 r n)) (fun n => g (ix2 0 n)) n := by
  unfold Post.norm
  pointwise [k0_pay2, k0_pay1]

theorem normed_at (x0 : Vec Ideal S128x2048 .f32) (x1 : Vec Ideal S128x1024 .bf16) (x2 : Vec Ideal S128x1024 .f32)
    (x3 x4 : Vec Ideal S1024x2048 .bf16) (x5 : Vec Ideal S4x256x256 .bf16) (x6 : Vec Ideal S1x1024 .f32) (x7 : Vec Ideal S1x2048 .f32)
    (r : Fin 128) (n : Fin 2048) :
    (normed x0 x1 x2 x3 x4 x5 x6 x7 (ix2 r n) : EReal)
      = norm (mix (fun n => x0 (ix2 r n)) (fun k => x1 (ix2 r k))
          (pool (fun k => x2 (ix2 r k)) (fun g y e => x5 (ix3 g y e)) (fun k => x6 (ix2 0 k)))
          (fun k n => x3 (ix2 k n)) (fun k n => x4 (ix2 k n))) (fun n => x7 (ix2 0 n)) n := by
  unfold normed
  refine (normed_of _ _ _ _ r n).trans ?_
  exact congrArg (fun h => norm h (fun n => x7 (ix2 0 n)) n) (funext fun n => mixed_at x0 x1 x2 x3 x4 x5 x6 r n)

/-- A slice of 1024 hidden units added to a block, at an element. -/
theorem added_at (u : Vec Ideal S128x2048 .bf16) (up : Vec Ideal S2048x1024 .bf16) (o : Vec Ideal S128x2048 .f32) (down : Vec Ideal S1024x2048 .bf16)
    (r : Fin 128) (n : Fin 2048) :
    (k0_pay3 u up o down (ix2 r n) : EReal)
      = o (ix2 r n) + ∑ j : Fin 1024, act (fun y => u (ix2 r y)) (fun y => up (ix2 y j)) * act (fun y => u (ix2 r y)) (fun y => up (ix2 y j))
          * down (ix2 j n) := by
  unfold act
  pointwise [k0_pay3]

/-- The last norm of a block, at an element. -/
theorem final_at (o : Vec Ideal S128x2048 .f32) (g : Vec Ideal S1x2048 .f32) (r : Fin 128) (n : Fin 2048) :
    (k0_pay4 o g (ix2 r n) : EReal) = norm (fun n => o (ix2 r n)) (fun n => g (ix2 0 n)) n := by
  unfold Post.norm
  pointwise [k0_pay4]

end Cert.Proof.Last

end
-- ==== Proof.Last.Entry.lean ====
/-
  The blocks the last call on the sample rows reads, as elements of the program's arguments.
-/
module

public import proofs.«01_k».proof.Proof.Gen.LastIdeal.Value
public import Idealize.ShloMosaic.Lib.Pointwise
public import Idealize.ShloMosaic.Lib.Pipeline.ValueKit.Point
public import Idealize.ShloMosaic.Lib.Claim

@[expose] public section

set_option maxRecDepth 16384

noncomputable section

namespace Cert.Proof.Last

open Cert.LastIdeal Cert.LastIdeal.Gen Idealize.ShloMosaic Idealize.ShloMosaic.TcCoe Idealize.SL.Sem

variable (m : (ℓ : Loc nD τ sig) → Buf (Elt Ideal) ℓ) (c : Dev nD)

theorem index0 : ∀ t : Fin cfg0.N, win0_0.index t = ![t.val / 8, 0] := (by decide +kernel : ∀ t : Fin grid0.N, win0_0.index t = ![t.val / 8, 0])
theorem index1 : ∀ t : Fin cfg0.N, win0_1.index t = ![t.val / 8, 0] := (by decide +kernel : ∀ t : Fin grid0.N, win0_1.index t = ![t.val / 8, 0])
theorem index2 : ∀ t : Fin cfg0.N, win0_2.index t = ![t.val / 8, 0] := (by decide +kernel : ∀ t : Fin grid0.N, win0_2.index t = ![t.val / 8, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0, 0] := (by decide +kernel : ∀ t : Fin grid0.N, win0_5.index t = ![0, 0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, t.val % 8] := (by decide +kernel : ∀ t : Fin grid0.N, win0_9.index t = ![0, t.val % 8])
theorem index10 : ∀ t : Fin cfg0.N, win0_10.index t = ![t.val % 8, 0] := (by decide +kernel : ∀ t : Fin grid0.N, win0_10.index t = ![t.val % 8, 0])

theorem x_at (t : Fin cfg0.N) (r : Fin 128) (n : Fin 2048) (R : Fin 128) (hR : R.val = 128 * (t.val / 8) + r.val) :
    (iblk m c 0 t (ix2 r n) : EReal) = m ((c : Thread nD τ).loc main_arg0) (ix2 R n) := by
  blk_point [iblk, V, index0 t]

theorem att_at (t : Fin cfg0.N) (r : Fin 128) (n : Fin 1024) (R : Fin 128) (hR : R.val = 128 * (t.val / 8) + r.val) :
    (iblk m c 1 t (ix2 r n) : EReal) = m ((c : Thread nD τ).loc main_arg1) (ix2 R n) := by
  blk_point [iblk, V, index1 t]

theorem d_at (t : Fin cfg0.N) (r : Fin 128) (n : Fin 1024) (R : Fin 128) (hR : R.val = 128 * (t.val / 8) + r.val) :
    (iblk m c 2 t (ix2 r n) : EReal) = m ((c : Thread nD τ).loc main_arg2) (ix2 R n) := by
  blk_point [iblk, V, index2 t]

theorem wa_at (t : Fin cfg0.N) (k : Fin 1024) (n : Fin 2048) :
    (iblk m c 3 t (ix2 k n) : EReal) = m ((c : Thread nD τ).loc main_arg5) (ix2 ⟨k.val, by omega⟩ n) := by
  blk_point [iblk, V, index3 t]

theorem wp_at (t : Fin cfg0.N) (k : Fin 1024) (n : Fin 2048) :
    (iblk m c 4 t (ix2 k n) : EReal) = m ((c : Thread nD τ).loc main_arg5) (ix2 ⟨1024 + k.val, by omega⟩ n) := by
  blk_point [iblk, V, index4 t]

theorem pool_at (t : Fin cfg0.N) (g : Fin 4) (y e : Fin 256) :
    (iblk m c 5 t (ix3 g y e) : EReal) = m ((c : Thread nD τ).loc main_arg3) (ix3 g y e) := by
  blk_point [iblk, V, index5 t]

theorem scale_at (t : Fin cfg0.N) (k : Fin 1024) :
    (iblk m c 6 t (ix2 0 k) : EReal) = m ((c : Thread nD τ).loc main_arg4) (ix1 k) := by
  blk_point [iblk, V, index6 t]

theorem gmlp_at (t : Fin cfg0.N) (k : Fin 2048) :
    (iblk m c 7 t (ix2 0 k) : EReal) = m ((c : Thread nD τ).loc main_arg6) (ix1 k) := by
  blk_point [iblk, V, index7 t]

theorem gfin_at (t : Fin cfg0.N) (k : Fin 2048) :
    (iblk m c 8 t (ix2 0 k) : EReal) = m ((c : Thread nD τ).loc main_arg9) (ix1 k) := by
  blk_point [iblk, V, index8 t]

theorem up_at (t : Fin cfg0.N) (y : Fin 2048) (j : Fin 1024) (J : Fin 8192) (hJ : J.val = t.val % 8 * 1024 + j.val) :
    (iblk m c 9 t (ix2 y j) : EReal) = m ((c : Thread nD τ).loc main_arg7) (ix2 y J) := by
  blk_point [iblk, V, index9 t]

theorem down_at (t : Fin cfg0.N) (j : Fin 1024) (n : Fin 2048) (J : Fin 8192) (hJ : J.val = t.val % 8 * 1024 + j.val) :
    (iblk m c 10 t (ix2 j n) : EReal) = m ((c : Thread nD τ).loc main_arg8) (ix2 J n) := by
  blk_point [iblk, V, index10 t]

end Cert.Proof.Last

end
-- ==== Proof.Last.Fold.lean ====
/-
  The last call on the sample rows's points, folded: after point `n` of the grid the scratch holds the normed rows of the block of rows `n / 8`, and the
  output block these rows with the first `n % 8 + 1` slices of the feed-forward part added — after the last slice, normed.
-/
module

public import proofs.«01_k».proof.Proof.Last.Rows
public import proofs.«01_k».proof.Proof.Last.Entry

@[expose] public section

set_option maxRecDepth 16384

noncomputable section

namespace Cert.Proof.Last

open Cert.Proof.Post Cert.LastIdeal Cert.LastIdeal.Gen Cert.LastIdeal.Value Idealize.ShloMosaic Idealize.ShloMosaic.TcCoe Idealize.SL.Sem

variable (m : (ℓ : Loc nD τ sig) → Buf (Elt Ideal) ℓ) (c : Dev nD)

/-- The feed-forward weights, the gains and a row of the layer, of this memory's arguments. -/
def upOf : Fin 2048 → Fin 8192 → EReal := fun y k => m ((c : Thread nD τ).loc main_arg7) (ix2 y k)
def downOf : Fin 8192 → Fin 2048 → EReal := fun k n => m ((c : Thread nD τ).loc main_arg8) (ix2 k n)
def gainOf : Fin 2048 → EReal := fun n => m ((c : Thread nD τ).loc main_arg6) (ix1 n)
def lastOf : Fin 2048 → EReal := fun n => m ((c : Thread nD τ).loc main_arg9) (ix1 n)
def mixOf (R : Fin 128) : Fin 2048 → EReal :=
  mixRow (fun (R : Fin 128) n => m ((c : Thread nD τ).loc main_arg0) (ix2 R n)) (fun R k => m ((c : Thread nD τ).loc main_arg1) (ix2 R k))
    (fun R k => m ((c : Thread nD τ).loc main_arg2) (ix2 R k)) (fun g y e => m ((c : Thread nD τ).loc main_arg3) (ix3 g y e))
    (fun k => m ((c : Thread nD τ).loc main_arg4) (ix1 k)) (fun k n => m ((c : Thread nD τ).loc main_arg5) (ix2 k n)) R
def normOf (R : Fin 128) : Fin 2048 → EReal := norm (mixOf m c R) (gainOf m c)

theorem mixed_row (t : Fin cfg0.N) (r : Fin 128) (n : Fin 2048) (R : Fin 128) (hR : R.val = 128 * (t.val / 8) + r.val) :
    (mixed (iblk m c 0 t) (iblk m c 1 t) (iblk m c 2 t) (iblk m c 3 t) (iblk m c 4 t) (iblk m c 5 t) (iblk m c 6 t) (ix2 r n) : EReal) = mixOf m c R n :=
  (mixed_at _ _ _ _ _ _ _ r n).trans (mix_congr (fun n => x_at m c t r n R hR) (fun k => att_at m c t r k R hR)
    (pool_congr (fun k => d_at m c t r k R hR) (fun g y e => pool_at m c t g y e) (fun k => scale_at m c t k))
    (fun k n => wa_at m c t k n) (fun k n => wp_at m c t k n) n)

theorem normed_row (t : Fin cfg0.N) (r : Fin 128) (n : Fin 2048) (R : Fin 128) (hR : R.val = 128 * (t.val / 8) + r.val) :
    (normed (iblk m c 0 t) (iblk m c 1 t) (iblk m c 2 t) (iblk m c 3 t) (iblk m c 4 t) (iblk m c 5 t) (iblk m c 6 t) (iblk m c 7 t) (ix2 r n) : EReal) = normOf m c R n :=
  (normed_at _ _ _ _ _ _ _ _ r n).trans (norm_congr (fun n => mix_congr (fun n => x_at m c t r n R hR) (fun k => att_at m c t r k R hR)
    (pool_congr (fun k => d_at m c t r k R hR) (fun g y e => pool_at m c t g y e) (fun k => scale_at m c t k))
    (fun k n => wa_at m c t k n) (fun k n => wp_at m c t k n) n) (fun k => gmlp_at m c t k) n)

/-- Point `t`'s slice added to a block whose rows hold the first slices. -/
theorem added_row (t : Fin cfg0.N) (u : Vec Ideal S128x2048 .bf16) (o : Vec Ideal S128x2048 .f32) (r : Fin 128) (R : Fin 128)
    (hu : ∀ n, (u (ix2 r n) : EReal) = normOf m c R n)
    (ho : ∀ n, (o (ix2 r n) : EReal) = part (mixOf m c R) (normOf m c R) (upOf m c) (downOf m c) n (t.val % 8)) (n : Fin 2048) :
    (k0_pay3 u (iblk m c 9 t) o (iblk m c 10 t) (ix2 r n) : EReal)
      = part (mixOf m c R) (normOf m c R) (upOf m c) (downOf m c) n (t.val % 8 + 1) := by
  refine (added_at u (iblk m c 9 t) o (iblk m c 10 t) r n).trans ?_
  rw [part_succ, ho n]
  refine congrArg (part (mixOf m c R) (normOf m c R) (upOf m c) (downOf m c) n (t.val % 8) + ·) (Finset.sum_congr rfl fun j _ => ?_)
  have hj := j.isLt
  have ht : t.val % 8 < 8 := Nat.mod_lt _ (by norm_num)
  have hk : t.val % 8 * 1024 + j.val < 8192 := by omega
  rw [share_of _ _ _ _ _ hk]
  have e := act_congr hu (fun y => up_at m c t y j ⟨_, hk⟩ rfl)
  have e' := down_at m c t j n ⟨_, hk⟩ rfl
  exact congrArg₂ (· * ·) (congrArg₂ (· * ·) e e) e'

/-- What the carried blocks hold after point `n`. -/
def Holds (n : ℕ) (acc : Vec Ideal S128x2048 .f32 × Vec Ideal S128x2048 .bf16) : Prop :=
  ∀ (r : Fin 128) (R : Fin 128), R.val = 128 * (n / 8) + r.val →
    (∀ y, (acc.2 (ix2 r y) : EReal) = normOf m c R y) ∧
    (n % 8 ≠ 7 → ∀ y, (acc.1 (ix2 r y) : EReal) = part (mixOf m c R) (normOf m c R) (upOf m c) (downOf m c) y (n % 8 + 1)) ∧
    (n % 8 = 7 → ∀ y, (acc.1 (ix2 r y) : EReal) = norm (grown (mixOf m c R) (normOf m c R) (upOf m c) (downOf m c)) (lastOf m c) y)

theorem step_first (t : Fin cfg0.N) (acc : Vec Ideal S128x2048 .f32 × Vec Ideal S128x2048 .bf16) (h0 : t.val % 8 = 0) :
    Holds m c t.val (stAt0 m c t.val t.isLt acc) := by
  have h1 : ¬t.val % 8 = 7 := by omega
  rw [stAt0_A m c t acc h0 h1, out_A, sout_A]
  intro r R hR
  refine ⟨fun y => normed_row m c t r y R hR, fun _ => added_row m c t _ _ r R (fun y => normed_row m c t r y R hR) fun y => ?_, fun h => absurd h h1⟩
  rw [h0, part_zero]
  exact mixed_row m c t r y R hR

theorem step_middle (t : Fin cfg0.N) (acc : Vec Ideal S128x2048 .f32 × Vec Ideal S128x2048 .bf16) (h0 : ¬t.val % 8 = 0) (h1 : ¬t.val % 8 = 7)
    (before : Holds m c (t.val - 1) acc) : Holds m c t.val (stAt0 m c t.val t.isLt acc) := by
  rw [stAt0_B m c t acc h0 h1, out_B]
  intro r R hR
  have e : (t.val - 1) / 8 = t.val / 8 := by omega
  have e' : (t.val - 1) % 8 + 1 = t.val % 8 := by omega
  obtain ⟨hu, ho, -⟩ := before r R (by rw [e]; exact hR)
  rw [e'] at ho
  refine ⟨hu, fun _ => added_row m c t _ _ r R hu (ho (by omega)), fun h => absurd h h1⟩

theorem step_last (t : Fin cfg0.N) (acc : Vec Ideal S128x2048 .f32 × Vec Ideal S128x2048 .bf16) (h1 : t.val % 8 = 7)
    (before : Holds m c (t.val - 1) acc) : Holds m c t.val (stAt0 m c t.val t.isLt acc) := by
  have h0 : ¬t.val % 8 = 0 := by omega
  rw [stAt0_C m c t acc h0 h1, out_C]
  intro r R hR
  have e : (t.val - 1) / 8 = t.val / 8 := by omega
  have e' : (t.val - 1) % 8 + 1 = t.val % 8 := by omega
  obtain ⟨hu, ho, -⟩ := before r R (by rw [e]; exact hR)
  rw [e'] at ho
  refine ⟨hu, fun h => absurd h1 h, fun _ y => ?_⟩
  refine (final_at _ _ r y).trans (norm_congr (fun n => ?_) (fun k => gfin_at m c t k) y)
  refine (added_row m c t _ _ r R hu (ho (by omega)) n).trans ?_
  rw [h1]
  exact part_all _ _ _ _ _

theorem holds : ∀ (n : ℕ) (hn : n < cfg0.N), Holds m c n (outsAt0 m c n hn)
  | 0, hn => by
    rw [outsAt0_zero]
    exact step_first m c ⟨0, hn⟩ _ rfl
  | n + 1, hn => by
    rw [outsAt0_succ]
    by_cases h0 : (n + 1) % 8 = 0
    · exact step_first m c ⟨n + 1, hn⟩ _ h0
    by_cases h1 : (n + 1) % 8 = 7
    · exact step_last m c ⟨n + 1, hn⟩ _ h1 (holds n _)
    · exact step_middle m c ⟨n + 1, hn⟩ _ h0 h1 (holds n _)

/-- The last call's result at an element. -/
theorem result_at (R : Fin 128) (n : Fin 2048) :
    (G11 m c (ix2 R n) : EReal) = norm (grown (mixOf m c R) (normOf m c R) (upOf m c) (downOf m c)) (lastOf m c) n := by
  have hRl := R.isLt
  have hnl := n.isLt
  have hp : pt11Of (ix2 R n) = 8 * (R.val / 128) + 7 := by
    unfold pt11Of run11Of
    simp only [ix2_0, ix2_1]
    omega
  have hlt : pt11Of (ix2 R n) < cfg0.N := by
    rw [hp]
    exact lt_of_lt_of_eq (by omega) N_0.symm
  unfold G11
  rw [dif_pos hlt, ← outsAt0_sweep m c _ hlt]
  have h := (holds m c _ hlt ⟨R.val % 128, Nat.mod_lt _ (by norm_num)⟩ R (by rw [hp]; dsimp only; omega)).2.2 (by rw [hp]; omega) n
  refine Eq.trans (congrArg _ ?_) h
  funext a
  fin_cases a
  · rfl
  · exact Fin.ext (Nat.mod_eq_of_lt hnl)

end Cert.Proof.Last

end
-- ==== Proof.Last.Reference.lean ====
/-
  The reference program's result at an element: the same row functions.
-/
module

public import proofs.«01_k».proof.Proof.Gen.LastReferenceIdeal.Run
public import proofs.«01_k».proof.Proof.Post.Spec

@[expose] public section

set_option maxRecDepth 16384

noncomputable section

namespace Cert.Proof.Last.Reference

open Cert.Proof.Post Cert.LastReferenceIdeal Cert.LastReferenceIdeal.Gen Cert.LastReferenceIdeal.Value Idealize.ShloMosaic Idealize.ShloMosaic.TcCoe Idealize.SL.Sem

variable (m : (ℓ : Loc nD τ sig) → Buf (Elt Ideal) ℓ) (c : Dev nD)

/-- The reference's pooled features. -/
def pooledV (d : FVec Ideal S128x1024 .f32) (W : FVec Ideal S4x256x256 .f32) (s : FVec Ideal S1024 .f32) : FVec Ideal S128x1024 .f32 :=
  mulf (shapeCast _ (transpose S128x4x256 [2, 0, 1] (Host.dotGeneral dot_S4x256x256_S128x4x256_S4x256x128_1_2_2_0_0_1 none W (shapeCast _ d shapeCasts_S128x1024_S128x4x256)) transposes_S4x256x128_S128x4x256_2_0_1) shapeCasts_S128x4x256_S128x1024) (broadcastInDim S128x1024 ![0, 1] bcast_S1x1024_S128x1024_0_1 (broadcastInDim S1x1024 ![1] bcast_S1024_S1x1024_1 s))

/-- The reference's rows after the output projection. -/
def mixedV (x : FVec Ideal S128x2048 .f32) (a p : FVec Ideal S128x1024 .f32) (wo : FVec Ideal S2048x2048 .f32) : FVec Ideal S128x2048 .f32 :=
  addf x (Host.dotGeneral dot_S128x2048_S2048x2048_S128x2048_1_0_0_1_n_n none (concatenate S128x2048 1 [⟨S128x1024, a⟩, ⟨S128x1024, p⟩] concatenates_S128x1024_S128x1024_S128x2048_d1) wo)

/-- The reference's norm. -/
def normV (h : FVec Ideal S128x2048 .f32) (g : FVec Ideal S2048 .f32) : FVec Ideal S128x2048 .f32 :=
  mulf (mulf h (broadcastInDim S128x2048 ![0, 1] bcast_S128x1_S128x2048_0_1 (Host.rsqrt (addf (Host.divf (broadcastInDim S128x1 ![0] bcast_S128_S128x1_0 (Host.reduceAdd (mulf h h) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 g))

/-- The reference's hidden units. -/
def actV (u : FVec Ideal S128x2048 .f32) (up : FVec Ideal S2048x8192 .f32) : FVec Ideal S128x8192 .f32 :=
  maximumf (Host.dotGeneral dot_S128x2048_S2048x8192_S128x8192_1_0_0_1_n_n none u up) (broadcastInDim S128x8192 ![] bcast_S_S128x8192 (constant S_ .f32 0x00000000#32))

/-- The reference's rows with the feed-forward part added. -/
def grownV (h : FVec Ideal S128x2048 .f32) (a : FVec Ideal S128x8192 .f32) (down : FVec Ideal S8192x2048 .f32) : FVec Ideal S128x2048 .f32 :=
  addf h (Host.dotGeneral dot_S128x8192_S8192x2048_S128x2048_1_0_0_1_n_n none (mulf a a) down)

/-- The printed result, in these names. -/
theorem result_eq : (res_main_v40 m c : FVec Ideal S128x2048 .f32) =
    normV (grownV (mixedV (m ((c : Thread nD τ).loc main_arg0)) (m ((c : Thread nD τ).loc main_arg1))
        (pooledV (m ((c : Thread nD τ).loc main_arg2)) (m ((c : Thread nD τ).loc main_arg3)) (m ((c : Thread nD τ).loc main_arg4))) (m ((c : Thread nD τ).loc main_arg5)))
      (actV (normV (mixedV (m ((c : Thread nD τ).loc main_arg0)) (m ((c : Thread nD τ).loc main_arg1))
        (pooledV (m ((c : Thread nD τ).loc main_arg2)) (m ((c : Thread nD τ).loc main_arg3)) (m ((c : Thread nD τ).loc main_arg4))) (m ((c : Thread nD τ).loc main_arg5)))
        (m ((c : Thread nD τ).loc main_arg6))) (m ((c : Thread nD τ).loc main_arg7))) (m ((c : Thread nD τ).loc main_arg8))) (m ((c : Thread nD τ).loc main_arg9)) := by
  unfold res_main_v40
  rfl

theorem pooledV_at (d : FVec Ideal S128x1024 .f32) (W : FVec Ideal S4x256x256 .f32) (s : FVec Ideal S1024 .f32) (R : Fin 128) (k : Fin 1024) :
    (pooledV d W s (ix2 R k) : EReal) = pool (fun k => d (ix2 R k)) (fun g y e => W (ix3 g y e)) (fun k => s (ix1 k)) k := by
  pointwise [pooledV]
  unfold Post.pool
  refine congrArg (· * (s (ix1 k) : EReal)) (Finset.sum_congr rfl fun y _ => (mul_comm _ _).trans ?_)
  have e : k.val / 256 * 256 + y.val = 256 * (k.val / 256) + y.val := by omega
  exact congrArg (fun j : Fin 1024 => (d (ix2 R j) : EReal) * _) (Fin.ext e)

theorem mixedV_at (x : FVec Ideal S128x2048 .f32) (a p : FVec Ideal S128x1024 .f32) (wo : FVec Ideal S2048x2048 .f32) (R : Fin 128) (n : Fin 2048) :
    (mixedV x a p wo (ix2 R n) : EReal) = mix (fun n => x (ix2 R n)) (fun k => a (ix2 R k)) (fun k => p (ix2 R k))
      (fun k n => wo (ix2 ⟨k.val, by omega⟩ n)) (fun k n => wo (ix2 ⟨1024 + k.val, by omega⟩ n)) n := by
  pointwise [mixedV]
  unfold mix
  exact (add_assoc _ _ _).symm

theorem normV_at (h : FVec Ideal S128x2048 .f32) (g : FVec Ideal S2048 .f32) (R : Fin 128) (n : Fin 2048) :
    (normV h g (ix2 R n) : EReal) = norm (fun n => h (ix2 R n)) (fun n => g (ix1 n)) n := by
  unfold Post.norm
  pointwise [normV]

theorem grownV_at (h u : FVec Ideal S128x2048 .f32) (up : FVec Ideal S2048x8192 .f32) (down : FVec Ideal S8192x2048 .f32) (R : Fin 128) (n : Fin 2048) :
    (grownV h (actV u up) down (ix2 R n) : EReal) = grown (fun n => h (ix2 R n)) (fun n => u (ix2 R n)) (fun y k => up (ix2 y k))
      (fun k n => down (ix2 k n)) n := by
  unfold grown act
  pointwise [grownV, actV]

/-- The reference's result at an element is the layer's row. -/
theorem result_at (R : Fin 128) (n : Fin 2048) :
    (res_main_v40 m c (ix2 R n) : EReal) = layerRow
      (fun R n => m ((c : Thread nD τ).loc main_arg0) (ix2 R n)) (fun R k => m ((c : Thread nD τ).loc main_arg1) (ix2 R k))
      (fun R k => m ((c : Thread nD τ).loc main_arg2) (ix2 R k)) (fun g y e => m ((c : Thread nD τ).loc main_arg3) (ix3 g y e))
      (fun k => m ((c : Thread nD τ).loc main_arg4) (ix1 k)) (fun k n => m ((c : Thread nD τ).loc main_arg5) (ix2 k n))
      (fun n => m ((c : Thread nD τ).loc main_arg6) (ix1 n)) (fun y k => m ((c : Thread nD τ).loc main_arg7) (ix2 y k))
      (fun k n => m ((c : Thread nD τ).loc main_arg8) (ix2 k n)) (fun n => m ((c : Thread nD τ).loc main_arg9) (ix1 n)) R n := by
  refine (congrFun (result_eq m c) (ix2 R n)).trans ?_
  have hmix : ∀ n, _ = _ := fun n => (mixedV_at (m ((c : Thread nD τ).loc main_arg0)) (m ((c : Thread nD τ).loc main_arg1))
    (pooledV (m ((c : Thread nD τ).loc main_arg2)) (m ((c : Thread nD τ).loc main_arg3)) (m ((c : Thread nD τ).loc main_arg4)))
    (m ((c : Thread nD τ).loc main_arg5)) R n).trans (mix_congr (fun _ => rfl) (fun _ => rfl) (fun k => pooledV_at _ _ _ R k)
      (fun _ _ => rfl) (fun _ _ => rfl) n)
  refine (normV_at _ _ R n).trans (norm_congr (fun n => ?_) (fun _ => rfl) n)
  refine (grownV_at _ _ _ _ R n).trans (grown_congr hmix (fun n => ?_) n)
  exact (normV_at _ _ R n).trans (norm_congr hmix (fun _ => rfl) n)

end Cert.Proof.Last.Reference

end
-- ==== Proof.Last.Traced.lean ====
/-
  The program of the last part on the sample's rows as traced has the same text as the one over ideal values: one run, over any float values, gives both frames.
-/
module

public import proofs.«01_k».proof.Defs
public import proofs.«01_k».proof.Proof.Gen.Last
public import proofs.«01_k».proof.Proof.Gen.LastIdeal.Frame

@[expose] public section

set_option maxRecDepth 16384

noncomputable section

namespace Cert.Proof

open Idealize.ShloMosaic Idealize.ShloMosaic.TcCoe Idealize.SL.Sem

namespace Last

theorem body_eq : Cert.Last.cc0_post (F := Bits) = Cert.LastIdeal.cc0_post (F := Bits) := by
  unfold Cert.Last.cc0_post Cert.LastIdeal.cc0_post
  rfl

theorem labels_eq : Cert.Last.defs₀ (F := Bits) = Cert.LastIdeal.defs₀ (F := Bits) := by
  unfold Cert.Last.defs₀ Cert.LastIdeal.defs₀
  rw [body_eq]
  refine congrArg Defs.onTc (funext fun l => funext fun a => ?_)
  match l, a with
  | 0, (t, s) => rfl
  | ⟨_ + 1, h⟩, _ => exact absurd h (Nat.not_lt.2 (Nat.le_add_left _ _))

theorem defs_eq : Cert.Last.defs (F := Bits) = Cert.LastIdeal.defs (F := Bits) :=
  congrArg (Pipeline.defs (Cert.LastIdeal.pcfgs (F := Bits))) labels_eq

end Last

theorem frame_last : Cert.quiescent_Last := fun m ρ _ => by
  rw [Last.defs_eq]
  exact Cert.LastIdeal.Gen.frame (F := Bits) m ρ

end Cert.Proof

end
-- ==== Proof.Pool.Spec.lean ====
/-
  The pooling's differences of a row: for a column the mean of the window that ends in the new row, less the new row.
-/
module

public import Idealize.ShloMosaic.PureOps.Ideal
public import Mathlib.Algebra.BigOperators.Fin
public import Mathlib.Tactic.Abel

@[expose] public section

noncomputable section

namespace Cert.Proof.Pool

open Idealize.ShloMosaic

variable (H : Fin 128 → Fin 15 → Fin 1024 → EReal) (U : Fin 128 → Fin 1024 → EReal)

/-- The history's rows `0` to `14`, then the new row. -/
def row (r : Fin 128) (k : ℕ) (n : Fin 1024) : EReal := if h : k < 15 then H r ⟨k, h⟩ n else U r n

/-- The sum of the last `w` rows. -/
def total (w : ℕ) (r : Fin 128) (n : Fin 1024) : EReal := ∑ k ∈ Finset.range w, row H U r (16 - w + k) n

/-- The window of a column: 2, 4, 8 or 16 rows, by the column's group. -/
def window (n : Fin 1024) : ℕ := 2 ^ (n.val / 256 + 1)

/-- The window's mean less the new row. -/
def diff (r : Fin 128) (n : Fin 1024) : EReal := total H U (window n) r n * ((1 / (window n : ℝ) : ℝ) : EReal) - U r n

/-- In the column's group the window is a number. -/
theorem diff_of (w : ℕ) (r : Fin 128) (n : Fin 1024) (h : window n = w) : diff H U r n = total H U w r n * ((1 / (w : ℝ) : ℝ) : EReal) - U r n := by
  subst h; rfl

theorem window0 (n : Fin 1024) (h : n.val / 256 = 0) : window n = 2 := by unfold window; rw [h]; rfl
theorem window1 (n : Fin 1024) (h : n.val / 256 = 1) : window n = 4 := by unfold window; rw [h]; rfl
theorem window2 (n : Fin 1024) (h : n.val / 256 = 2) : window n = 8 := by unfold window; rw [h]; rfl
theorem window3 (n : Fin 1024) (h : n.val / 256 = 3) : window n = 16 := by unfold window; rw [h]; rfl

/-! ### The constants -/

theorem half : Ideal.ofBits FTy.f32 0x3F000000#32 = ((1 / (2 : ℕ) : ℝ) : EReal) := by
  simp [Ideal.ofBits, Ideal.ieee, -EReal.coe_mul]; norm_num
theorem quarter : Ideal.ofBits FTy.f32 0x3E800000#32 = ((1 / (4 : ℕ) : ℝ) : EReal) := by
  simp [Ideal.ofBits, Ideal.ieee, -EReal.coe_mul]; norm_num
theorem eighth : Ideal.ofBits FTy.f32 0x3E000000#32 = ((1 / (8 : ℕ) : ℝ) : EReal) := by
  simp [Ideal.ofBits, Ideal.ieee, -EReal.coe_mul]; norm_num
theorem sixteenth : Ideal.ofBits FTy.f32 0x3D800000#32 = ((1 / (16 : ℕ) : ℝ) : EReal) := by
  simp [Ideal.ofBits, Ideal.ieee, -EReal.coe_mul]; norm_num
theorem two : Ideal.ofBits FTy.f32 0x40000000#32 = (((2 : ℕ) : ℝ) : EReal) := by
  simp [Ideal.ofBits, Ideal.ieee, -EReal.coe_mul]; norm_num
theorem four : Ideal.ofBits FTy.f32 0x40800000#32 = (((4 : ℕ) : ℝ) : EReal) := by
  simp [Ideal.ofBits, Ideal.ieee, -EReal.coe_mul]; norm_num
theorem eight : Ideal.ofBits FTy.f32 0x41000000#32 = (((8 : ℕ) : ℝ) : EReal) := by
  simp [Ideal.ofBits, Ideal.ieee, -EReal.coe_mul]; norm_num
theorem sixteen : Ideal.ofBits FTy.f32 0x41800000#32 = (((16 : ℕ) : ℝ) : EReal) := by
  simp [Ideal.ofBits, Ideal.ieee, -EReal.coe_mul]; norm_num

/-! ### The totals, added from the new row backwards -/

theorem total2 (r : Fin 128) (n : Fin 1024) : total H U 2 r n = U r n + H r 14 n := by
  simp [total, row, Finset.sum_range_succ]; abel
theorem total4 (r : Fin 128) (n : Fin 1024) : total H U 4 r n = U r n + H r 14 n + H r 13 n + H r 12 n := by
  simp [total, row, Finset.sum_range_succ]; abel
theorem total8 (r : Fin 128) (n : Fin 1024) :
    total H U 8 r n = U r n + H r 14 n + H r 13 n + H r 12 n + H r 11 n + H r 10 n + H r 9 n + H r 8 n := by
  simp [total, row, Finset.sum_range_succ]; abel
theorem total16 (r : Fin 128) (n : Fin 1024) :
    total H U 16 r n = U r n + H r 14 n + H r 13 n + H r 12 n + H r 11 n + H r 10 n + H r 9 n + H r 8 n + H r 7 n + H r 6 n + H r 5 n +
      H r 4 n + H r 3 n + H r 2 n + H r 1 n + H r 0 n := by
  simp [total, row, Finset.sum_range_succ]; abel

end Cert.Proof.Pool

end
-- ==== Proof.Pool.Kernel.lean ====
/-
  What the pooling call leaves: the differences of the rows.
-/
module

public import proofs.«01_k».proof.Proof.Pool.Spec
public import proofs.«01_k».proof.Proof.Gen.PoolIdeal.Value
public import Idealize.ShloMosaic.Lib.Pointwise
public import Idealize.ShloMosaic.Lib.Pipeline.ValueKit.Point
public import Idealize.ShloMosaic.Lib.Pipeline.ValueKit.Tiles
public import Idealize.ShloMosaic.Lib.Claim

@[expose] public section

set_option maxRecDepth 16384
set_option maxHeartbeats 1000000

noncomputable section

namespace Cert.Proof.Pool

open Cert.PoolIdeal Cert.PoolIdeal.Gen Idealize.ShloMosaic Idealize.ShloMosaic.TcCoe Idealize.SL.Sem

variable (m : (ℓ : Loc nD τ sig) → Buf (Elt Ideal) ℓ) (c : Dev nD)

/-- The history. -/
def hist (r : Fin 128) (k : Fin 15) (n : Fin 1024) : EReal := m ((c : Thread nD τ).loc main_arg0) (ix3 r k n)

/-- The new rows. -/
def new (r : Fin 128) (n : Fin 1024) : EReal := m ((c : Thread nD τ).loc main_arg1) (ix2 r n)

theorem index0 : ∀ t : Fin cfg0.N, win0_0.index t = ![0, 0, 0] := (by decide +kernel : ∀ t : Fin grid0.N, win0_0.index t = ![0, 0, 0])
theorem index1 : ∀ t : Fin cfg0.N, win0_1.index t = ![0, 0] := (by decide +kernel : ∀ t : Fin grid0.N, win0_1.index t = ![0, 0])

theorem host_hist : V m c main_v0 = transpose S15x128x1024 [1, 0, 2] (m ((c : Thread nD τ).loc main_arg0)) transposes_S128x15x1024_S15x128x1024_1_0_2 := by
  show StableHlo.after hostOps0 (fun b => m (c, b)) (Proc.devRef .tc main_v0) = _
  simp only [hostOps0, List.flatten_cons, List.flatten_nil, List.append_nil, List.cons_append, List.nil_append]
  after_results

theorem at0 (t : Fin cfg0.N) (k : Fin 15) (r : Fin 128) (n : Fin 1024) : (iblk m c 0 t (ix3 k r n) : EReal) = hist m c r k n := by
  have h : (iblk m c 0 t (ix3 k r n) : EReal) = V m c main_v0 (ix3 k r n) := by blk_point [iblk, index0 t]
  rw [h, host_hist]
  pointwise
  rfl

theorem at1 (t : Fin cfg0.N) (r : Fin 128) (n : Fin 1024) : (iblk m c 1 t (ix2 r n) : EReal) = new m c r n := by
  have h : (iblk m c 1 t (ix2 r n) : EReal) = V m c main_arg1 (ix2 r n) := by blk_point [iblk, index1 t]
  rw [h, V_main_arg1]
  rfl

/-! ### The four groups of columns -/

theorem piece0 (t : Fin cfg0.N) (r : Fin 128) (j : Fin 256) :
    (k0_pay2 (F := Ideal) (View.ld (e' := .f32) (iblk m c 1 t) r0_0) (View.ld (e' := .f32) (iblk m c 0 t) r0_1) (ix2 r j) : EReal) =
      diff (hist m c) (new m c) r ⟨j.val, by omega⟩ := by
  rw [diff_of _ _ 2 r _ (window0 _ (by simp only; omega)), total2, ← half]
  pointwise [k0_pay2]
  simp only [at0, at1]

theorem piece1 (t : Fin cfg0.N) (r : Fin 128) (j : Fin 256) :
    (k0_pay3 (F := Ideal) (View.ld (e' := .f32) (iblk m c 1 t) r0_2) (View.ld (e' := .f32) (iblk m c 0 t) r0_3) (View.ld (e' := .f32) (iblk m c 0 t) r0_4)
      (View.ld (e' := .f32) (iblk m c 0 t) r0_5) (ix2 r j) : EReal) = diff (hist m c) (new m c) r ⟨256 + j.val, by omega⟩ := by
  rw [diff_of _ _ 4 r _ (window1 _ (by simp only; omega)), total4, ← quarter]
  pointwise [k0_pay3]
  simp only [at0, at1]

theorem piece2 (t : Fin cfg0.N) (r : Fin 128) (j : Fin 256) :
    (k0_pay6 (F := Ideal) (View.ld (e' := .f32) (iblk m c 1 t) r0_6) (k0_pay4 (View.ld (e' := .f32) (iblk m c 1 t) r0_6) (View.ld (e' := .f32) (iblk m c 0 t) r0_7)) (k0_pay5 (View.ld (e' := .f32) (iblk m c 0 t) r0_8))
      (View.ld (e' := .f32) (iblk m c 0 t) r0_9) (View.ld (e' := .f32) (iblk m c 0 t) r0_10) (View.ld (e' := .f32) (iblk m c 0 t) r0_11) (View.ld (e' := .f32) (iblk m c 0 t) r0_12) (View.ld (e' := .f32) (iblk m c 0 t) r0_13) (ix2 r j) : EReal) =
      diff (hist m c) (new m c) r ⟨512 + j.val, by omega⟩ := by
  rw [diff_of _ _ 8 r _ (window2 _ (by simp only; omega)), total8, ← eighth]
  pointwise [k0_pay6, k0_pay5, k0_pay4]
  simp only [at0, at1]

theorem piece3 (t : Fin cfg0.N) (r : Fin 128) (j : Fin 256) :
    (k0_pay1 (F := Ideal) (View.ld (e' := .f32) (iblk m c 1 t) r0_14) (k0_pay8 (k0_pay7 (View.ld (e' := .f32) (iblk m c 1 t) r0_14) (View.ld (e' := .f32) (iblk m c 0 t) r0_15) (View.ld (e' := .f32) (iblk m c 0 t) r0_16) (View.ld (e' := .f32) (iblk m c 0 t) r0_17))
      (View.ld (e' := .f32) (iblk m c 0 t) r0_18) (View.ld (e' := .f32) (iblk m c 0 t) r0_19) (View.ld (e' := .f32) (iblk m c 0 t) r0_20) (View.ld (e' := .f32) (iblk m c 0 t) r0_21) (View.ld (e' := .f32) (iblk m c 0 t) r0_22) (View.ld (e' := .f32) (iblk m c 0 t) r0_23) (View.ld (e' := .f32) (iblk m c 0 t) r0_24) (View.ld (e' := .f32) (iblk m c 0 t) r0_25) (View.ld (e' := .f32) (iblk m c 0 t) r0_26) (View.ld (e' := .f32) (iblk m c 0 t) r0_27))
      (View.ld (e' := .f32) (iblk m c 0 t) r0_28) (View.ld (e' := .f32) (iblk m c 0 t) r0_29) (ix2 r j) : EReal) =
      diff (hist m c) (new m c) r ⟨768 + j.val, by omega⟩ := by
  rw [diff_of _ _ 16 r _ (window3 _ (by simp only; omega)), total16, ← sixteenth]
  pointwise [k0_pay1, k0_pay7, k0_pay8]
  simp only [at0, at1]

/-- A column's place in its group determines the column. -/
theorem diff_at (o : ℕ) (r : Fin 128) (j : Fin 256) (h : o + j.val < 1024) (R : Fin 128) (J : Fin 1024) (hR : R = r) (hJ : J.val = o + j.val) :
    diff (hist m c) (new m c) r ⟨o + j.val, h⟩ = diff (hist m c) (new m c) R J := by
  subst hR
  exact congrArg _ (Fin.ext hJ.symm)

theorem out_diff (t : Fin cfg0.N) (i : S128x1024.Idx) : (out0_2 (iblk m c 0 t) (iblk m c 1 t) i : EReal) = diff (hist m c) (new m c) (i 0) (i 1) := by
  unfold out0_2
  refine View.canon_apply_of_pieces (Val := Elt Ideal) (e := .f32) (fun i : S128x1024.Idx => diff (hist m c) (new m c) (i 0) (i 1)) _ ?_ i (cover0_2 (F := Ideal) _ _ _ _ i)
  intro p hp
  simp only [List.mem_cons, List.not_mem_nil, or_false] at hp
  rcases hp with rfl | rfl | rfl | rfl <;> intro x
  · exact (congrArg _ (eq_ix2 x)).trans ((piece3 m c t (x 0) (x 1)).trans (diff_at m c 768 (x 0) (x 1) _ _ _
      (Fin.ext (by simp [Rect.emb_apply])) (by simp [Rect.emb_apply])))
  · exact (congrArg _ (eq_ix2 x)).trans ((piece2 m c t (x 0) (x 1)).trans (diff_at m c 512 (x 0) (x 1) _ _ _
      (Fin.ext (by simp [Rect.emb_apply])) (by simp [Rect.emb_apply])))
  · exact (congrArg _ (eq_ix2 x)).trans ((piece1 m c t (x 0) (x 1)).trans (diff_at m c 256 (x 0) (x 1) _ _ _
      (Fin.ext (by simp [Rect.emb_apply])) (by simp [Rect.emb_apply])))
  · exact (congrArg _ (eq_ix2 x)).trans ((piece0 m c t (x 0) (x 1)).trans (congrArg₂ (diff (hist m c) (new m c))
      (Fin.ext (by simp [Rect.emb_apply])) (Fin.ext (by simp [Rect.emb_apply]))))

/-- The call's array after the run. -/
theorem array_diff : (dats m 0 c).arrAt 2 cfg0.N = fun i : S128x1024.Idx => diff (hist m c) (new m c) (i 0) (i 1) := by
  refine (dats m 0 c).arrAt_eq_of_after_last 2 t0_0 (by decide +kernel) _ fun i => ?_
  blk_simp
  rw [after0_2]
  exact out_diff m c t0_0 i

end Cert.Proof.Pool

end
-- ==== Proof.Pool.Reference.lean ====
/-
  What the pooling's reference computes: the differences of the rows.
-/
module

public import proofs.«01_k».proof.Proof.Pool.Spec
public import proofs.«01_k».proof.Proof.Gen.PoolReferenceIdeal.Run
public import Idealize.ShloMosaic.Lib.Pointwise

@[expose] public section

set_option maxRecDepth 16384

noncomputable section

namespace Cert.Proof.Pool.Reference

open Cert.PoolReferenceIdeal Cert.PoolReferenceIdeal.Gen Cert.PoolReferenceIdeal.Value Idealize.ShloMosaic Idealize.ShloMosaic.TcCoe Idealize.SL.Sem

/-- The rows with the new one at their end. -/
def rows (a : FVec Ideal S128x15x1024 .f32) (u : FVec Ideal S128x1024 .f32) : FVec Ideal S128x16x1024 .f32 :=
  fn_main_v1 (F := Ideal) a (broadcastInDim S128x1x1024 ![0, 2] bcast_S128x1024_S128x1x1024_0_2 u)

theorem rows_at (a : FVec Ideal S128x15x1024 .f32) (u : FVec Ideal S128x1024 .f32) (r : Fin 128) (k : Fin 16) (n : Fin 1024) :
    (rows a u (ix3 r k n) : EReal) = row (fun r k n => a (ix3 r k n)) (fun r n => u (ix2 r n)) r k.val n := by
  pointwise [rows, fn_main_v1]
  unfold row
  rfl

variable (a : FVec Ideal S128x15x1024 .f32) (u : FVec Ideal S128x1024 .f32)

/-- The sum over a window, its rows counted in the window. -/
theorem total_eq (w : ℕ) (o : ℕ) (ho : o + w = 16) (r : Fin 128) (n : Fin 1024) :
    ∑ k : Fin w, (rows a u (ix3 r ⟨o + k.val, by omega⟩ n) : EReal) = total (fun r k n => a (ix3 r k n)) (fun r n => u (ix2 r n)) w r n := by
  unfold total
  rw [Finset.sum_range]
  refine Finset.sum_congr rfl fun k _ => (rows_at a u r _ n).trans ?_
  rw [show 16 - w + k.val = o + k.val by omega]

/-- The differences of group 0. -/
def group0 : FVec Ideal S128x256 .f32 :=
  subf (Host.divf (Host.reduceAdd (extractStridedSlice S128x2x256 ![0, 14, 0] (rows a u) slices_S128x16x1024_S128x2x256_0_14_0)
    (constant S_ .f32 0x00000000#32) reducesTo_S128x2x256_S128x256_d1 h_S_) (broadcastInDim S128x256 ![] bcast_S_S128x256 (constant S_ .f32 0x40000000#32)))
    (extractStridedSlice S128x256 ![0, 0] u slices_S128x1024_S128x256_0_0)

theorem group0_at (r : Fin 128) (j : Fin 256) :
    (group0 a u (ix2 r j) : EReal) = diff (fun r k n => a (ix3 r k n)) (fun r n => u (ix2 r n)) r ⟨j.val, by omega⟩ := by
  rw [diff_of _ _ 2 r _ (window0 _ (by simp only; omega)), ← total_eq a u 2 14 rfl]
  pointwise [group0]
  rw [two, Ideal.div_coe (by norm_num)]

/-- The differences of group 1. -/
def group1 : FVec Ideal S128x256 .f32 :=
  subf (Host.divf (Host.reduceAdd (extractStridedSlice S128x4x256 ![0, 12, 256] (rows a u) slices_S128x16x1024_S128x4x256_0_12_256)
    (constant S_ .f32 0x00000000#32) reducesTo_S128x4x256_S128x256_d1 h_S_) (broadcastInDim S128x256 ![] bcast_S_S128x256 (constant S_ .f32 0x40800000#32)))
    (extractStridedSlice S128x256 ![0, 256] u slices_S128x1024_S128x256_0_256)

theorem group1_at (r : Fin 128) (j : Fin 256) :
    (group1 a u (ix2 r j) : EReal) = diff (fun r k n => a (ix3 r k n)) (fun r n => u (ix2 r n)) r ⟨256 + j.val, by omega⟩ := by
  rw [diff_of _ _ 4 r _ (window1 _ (by simp only; omega)), ← total_eq a u 4 12 rfl]
  pointwise [group1]
  rw [four, Ideal.div_coe (by norm_num)]

/-- The differences of group 2. -/
def group2 : FVec Ideal S128x256 .f32 :=
  subf (Host.divf (Host.reduceAdd (extractStridedSlice S128x8x256 ![0, 8, 512] (rows a u) slices_S128x16x1024_S128x8x256_0_8_512)
    (constant S_ .f32 0x00000000#32) reducesTo_S128x8x256_S128x256_d1 h_S_) (broadcastInDim S128x256 ![] bcast_S_S128x256 (constant S_ .f32 0x41000000#32)))
    (extractStridedSlice S128x256 ![0, 512] u slices_S128x1024_S128x256_0_512)

theorem group2_at (r : Fin 128) (j : Fin 256) :
    (group2 a u (ix2 r j) : EReal) = diff (fun r k n => a (ix3 r k n)) (fun r n => u (ix2 r n)) r ⟨512 + j.val, by omega⟩ := by
  rw [diff_of _ _ 8 r _ (window2 _ (by simp only; omega)), ← total_eq a u 8 8 rfl]
  pointwise [group2]
  rw [eight, Ideal.div_coe (by norm_num)]

/-- The differences of group 3. -/
def group3 : FVec Ideal S128x256 .f32 :=
  subf (Host.divf (Host.reduceAdd (extractStridedSlice S128x16x256 ![0, 0, 768] (rows a u) slices_S128x16x1024_S128x16x256_0_0_768)
    (constant S_ .f32 0x00000000#32) reducesTo_S128x16x256_S128x256_d1 h_S_) (broadcastInDim S128x256 ![] bcast_S_S128x256 (constant S_ .f32 0x41800000#32)))
    (extractStridedSlice S128x256 ![0, 768] u slices_S128x1024_S128x256_0_768)

theorem group3_at (r : Fin 128) (j : Fin 256) :
    (group3 a u (ix2 r j) : EReal) = diff (fun r k n => a (ix3 r k n)) (fun r n => u (ix2 r n)) r ⟨768 + j.val, by omega⟩ := by
  rw [diff_of _ _ 16 r _ (window3 _ (by simp only; omega)), ← total_eq a u 16 0 rfl]
  pointwise [group3]
  rw [sixteen, Ideal.div_coe (by norm_num)]

/-- The reference's result. -/
def result : FVec Ideal S128x1024 .f32 := fn_main_v26 (F := Ideal) (group0 a u) (group1 a u) (group2 a u) (group3 a u)

theorem result_at (r : Fin 128) (n : Fin 1024) :
    (result a u (ix2 r n) : EReal) = diff (fun r k n => a (ix3 r k n)) (fun r n => u (ix2 r n)) r n := by
  have at_col : ∀ J : Fin 1024, J.val = n.val →
      diff (fun r k n => a (ix3 r k n)) (fun r n => u (ix2 r n)) r J = diff (fun r k n => a (ix3 r k n)) (fun r n => u (ix2 r n)) r n :=
    fun J h => by rw [show J = n from Fin.ext h]
  pointwise [result, fn_main_v26]
  by_cases h0 : n.val < 256
  · rw [dif_pos h0]
    exact (group0_at a u r ⟨n.val, h0⟩).trans (at_col ⟨n.val, _⟩ rfl)
  rw [dif_neg h0]
  by_cases h1 : n.val - 256 < 256
  · rw [dif_pos h1]
    exact (group1_at a u r ⟨n.val - 256, h1⟩).trans (at_col ⟨256 + (n.val - 256), by omega⟩ (by simp only; omega))
  rw [dif_neg h1]
  by_cases h2 : n.val - 256 - 256 < 256
  · rw [dif_pos h2]
    exact (group2_at a u r ⟨n.val - 256 - 256, h2⟩).trans (at_col ⟨512 + (n.val - 256 - 256), by omega⟩ (by simp only; omega))
  rw [dif_neg h2]
  exact (group3_at a u r ⟨n.val - 256 - 256 - 256, by omega⟩).trans (at_col ⟨768 + (n.val - 256 - 256 - 256), by omega⟩ (by simp only; omega))

end Cert.Proof.Pool.Reference

end
-- ==== Proof.lean ====
/-
  The proof of `Cert.Claim` (Defs.lean): for the mask call, the projection, the pooling call and the layer's last part, the frames of the programs and the
  equality of the kernel's result with the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_separated
public import proofs.«01_k».proof.Proof.Launch
public import proofs.«01_k».proof.Proof.Traced.Launch
public import proofs.«01_k».proof.Proof.Value
public import proofs.«01_k».proof.Proof.Gen.Post
public import proofs.«01_k».proof.Proof.Gen.PostIdeal
public import proofs.«01_k».proof.Proof.Gen.PostReferenceIdeal
public import proofs.«01_k».proof.Proof.Post.Fold
public import proofs.«01_k».proof.Proof.Post.Reference
public import proofs.«01_k».proof.Proof.Post.Traced
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Run
public import proofs.«01_k».proof.Proof.Gen.ProjReferenceIdeal
public import proofs.«01_k».proof.Proof.Gen.ProjReferenceIdeal.Run
public import proofs.«01_k».proof.Proof.Proj.KerOut
public import proofs.«01_k».proof.Proof.Proj.RefOut
public import proofs.«01_k».proof.Proof.Gen.Last
public import proofs.«01_k».proof.Proof.Gen.LastIdeal
public import proofs.«01_k».proof.Proof.Gen.LastIdeal.Value
public import proofs.«01_k».proof.Proof.Gen.LastReferenceIdeal
public import proofs.«01_k».proof.Proof.Gen.LastReferenceIdeal.Run
public import proofs.«01_k».proof.Proof.Last.Fold
public import proofs.«01_k».proof.Proof.Last.Reference
public import proofs.«01_k».proof.Proof.Last.Traced
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolReferenceIdeal
public import proofs.«01_k».proof.Proof.Gen.PoolReferenceIdeal.Run
public import proofs.«01_k».proof.Proof.Pool.Kernel
public import proofs.«01_k».proof.Proof.Pool.Reference
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  Mask.frame_claim m g

/-- The program as traced has its own run (Proof/Traced), on words. -/
theorem frame_kernel : Cert.quiescent_Kernel := fun m ρ _ =>
  Traced.frame_claim (F := Bits) m ρ

theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The kernel's result over the ideal values is the reference's. -/
theorem algebraic : Cert.algebraic_KernelIdeal_ReferenceIdeal_pre_separated := fun m g m' g' hp hin =>
  ⟨fun c => Mask.picked (m ((c.tc : Thread Cert.KernelIdeal.nD Cert.KernelIdeal.τ).loc Cert.KernelIdeal.main_arg0)),
    (θ_run Cert.KernelIdeal.defs _ _).mono (fun r h c => ⟨Mask.leaves_picked _ (hp c) (Mask.entering_eq m c ▸ (h.1 c).1), (h.1 c).2⟩)
      (Mask.result (F := Ideal) m g),
    (θ_run Cert.ReferenceIdeal.defs _ _).mono (fun r h c => ⟨(h c).1.trans (congrArg Mask.picked (hin c)), (h c).2⟩)
      (Cert.ReferenceIdeal.Value.run (F := Ideal) m' g')⟩

/-! ### The layer's last part -/

theorem frame_postIdeal : Cert.quiescent_PostIdeal := fun m ρ _ => Cert.PostIdeal.Gen.frame (F := Ideal) m ρ

theorem frame_postReference : Cert.quiescent_PostReferenceIdeal := fun m ρ _ =>
  (θ_run Cert.PostReferenceIdeal.defs _ _).mono (fun r h => ⟨fun c => (h c).2, sem_eq_zero_of_no_sems (by decide) r.2⟩)
    (Cert.PostReferenceIdeal.Value.run (F := Ideal) m ρ)

/-- Both results are the layer's rows, element by element. -/
theorem post_eq (m : (ℓ : Loc Cert.PostIdeal.nD Cert.PostIdeal.τ Cert.PostIdeal.sig) → Buf (Elt Ideal) ℓ)
    (m' : (ℓ : Loc Cert.PostReferenceIdeal.nD Cert.PostReferenceIdeal.τ Cert.PostReferenceIdeal.sig) → Buf (Elt Ideal) ℓ) (c : Dev Cert.PostIdeal.nD)
    (h0 : m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0))
    (h1 : m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1))
    (h2 : m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2))
    (h3 : m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3))
    (h4 : m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4))
    (h5 : m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5))
    (h6 : m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6))
    (h7 : m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7))
    (h8 : m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8))
    (h9 : m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9))
    : Cert.PostReferenceIdeal.Value.res_main_v40 m' c = Cert.PostIdeal.Value.G11 m c := by
  funext i
  obtain ⟨R, n, rfl⟩ : ∃ (R : Fin 8192) (n : Fin 2048), i = ix2 R n := ⟨i 0, i 1, eq_ix2 i⟩
  refine (Post.Reference.result_at m' c R n).trans ?_
  rw [h0, h1, h2, h3, h4, h5, h6, h7, h8, h9]
  exact (Post.result_at m c R n).symm

/-- The last part's result over the ideal values is the reference's. -/
theorem algebraic_post : Cert.algebraic_PostIdeal_PostReferenceIdeal := fun m g m' g' _ hin =>
  ⟨fun c => Cert.PostIdeal.Value.G11 m c, Cert.PostIdeal.Value.run (F := Ideal) m g,
    (θ_run Cert.PostReferenceIdeal.defs _ _).mono (fun r h c => ⟨(h c).1.trans (by
      obtain ⟨h0, h1, h2, h3, h4, h5, h6, h7, h8, h9⟩ := hin c
      exact post_eq m m' c h0 h1 h2 h3 h4 h5 h6 h7 h8 h9), (h c).2⟩)
      (Cert.PostReferenceIdeal.Value.run (F := Ideal) m' g')⟩

/-! ### The projection -/

theorem frame_projReference : Cert.quiescent_ProjReferenceIdeal := fun m ρ _ =>
  (θ_run Cert.ProjReferenceIdeal.defs _ _).mono (fun r h => ⟨fun c => (h c).2.2.2.2.2.2.2.2.2.2.2, sem_eq_zero_of_no_sems (by decide) r.2⟩)
    (Cert.ProjReferenceIdeal.Value.run (F := Ideal) m ρ)

/-- Each of the projection's results is the reference's. -/
theorem algebraic_proj : Cert.algebraic_ProjIdeal_ProjReferenceIdeal := fun m g m' g' _ hin => by
  have hS : ∀ c, Proj.Reference.rowS (StableHlo.launchContents m' c) = Proj.sampleK m c := fun c =>
    funext fun r => funext fun n => congrFun (hin c).1 (ix2 r n)
  have hM : ∀ c, Proj.Reference.rowM (StableHlo.launchContents m' c) = Proj.metaK m c := fun c =>
    funext fun r => funext fun n => congrFun (hin c).2.1 (ix2 r n)
  have hG : ∀ c, Proj.Reference.gain (StableHlo.launchContents m' c) = Proj.gainK m c := fun c =>
    funext fun n => congrFun (hin c).2.2.2.1 (ix1 n)
  have hW : ∀ c, Proj.Reference.wt (StableHlo.launchContents m' c) = Proj.wK m c := fun c =>
    funext fun y => funext fun j => congrFun (hin c).2.2.2.2 (ix2 y j)
  have hA : ∀ c, StableHlo.launchContents m' c (Proc.devRef .tc Cert.ProjReferenceIdeal.main_arg2) = m ((c.tc : Thread Cert.ProjIdeal.nD Cert.ProjIdeal.τ).loc Cert.ProjIdeal.main_arg2) := fun c =>
    (hin c).2.2.1
  refine ⟨fun c => Proj.kRes (n := 128) (fun _ => 2048#32) (Proj.sampleK m c) (Proj.gainK m c) (Proj.wK m c),
    fun c => Proj.vRes (n := 128) (Proj.sampleK m c) (Proj.gainK m c) (Proj.wK m c),
    fun c => Proj.kiRes (n := 128) (fun _ => 2048#32) (Proj.sampleK m c) (Proj.gainK m c) (Proj.wK m c),
    fun c => Proj.poolRes (m ((c.tc : Thread Cert.ProjIdeal.nD Cert.ProjIdeal.τ).loc Cert.ProjIdeal.main_arg2)) (Proj.sampleK m c) (Proj.gainK m c) (Proj.wK m c),
    fun c => Proj.qRes (n := 128) (fun _ => 2048#32) (Proj.sampleK m c) (Proj.gainK m c) (Proj.wK m c),
    fun c => Proj.qiRes (n := 128) (fun _ => 2048#32) (Proj.sampleK m c) (Proj.gainK m c) (Proj.wK m c),
    fun c => Proj.wiRes (n := 128) (Proj.sampleK m c) (Proj.gainK m c) (Proj.wK m c),
    fun c => Proj.kRes (n := 16) (fun r => BitVec.ofNat 32 r.val) (Proj.metaK m c) (Proj.gainK m c) (Proj.wK m c),
    fun c => Proj.vRes (n := 16) (Proj.metaK m c) (Proj.gainK m c) (Proj.wK m c),
    fun c => Proj.kiRes (n := 16) (fun r => BitVec.ofNat 32 r.val) (Proj.metaK m c) (Proj.gainK m c) (Proj.wK m c),
    fun c => Proj.uRes (n := 16) (Proj.metaK m c) (Proj.gainK m c) (Proj.wK m c),
    Proj.results m g,
    (θ_run Cert.ProjReferenceIdeal.defs _ _).mono (fun r h c => ?_) (Proj.Reference.results m' g')⟩
  have q := h c
  rw [hS c, hM c, hG c, hW c, hA c] at q
  exact q

/-! ### The layer's last part on the sample's rows -/

theorem frame_lastIdeal : Cert.quiescent_LastIdeal := fun m ρ _ => Cert.LastIdeal.Gen.frame (F := Ideal) m ρ

theorem frame_lastReference : Cert.quiescent_LastReferenceIdeal := fun m ρ _ =>
  (θ_run Cert.LastReferenceIdeal.defs _ _).mono (fun r h => ⟨fun c => (h c).2, sem_eq_zero_of_no_sems (by decide) r.2⟩)
    (Cert.LastReferenceIdeal.Value.run (F := Ideal) m ρ)

/-- On the sample's rows too both results are the layer's rows, element by element. -/
theorem last_eq (m : (ℓ : Loc Cert.LastIdeal.nD Cert.LastIdeal.τ Cert.LastIdeal.sig) → Buf (Elt Ideal) ℓ)
    (m' : (ℓ : Loc Cert.LastReferenceIdeal.nD Cert.LastReferenceIdeal.τ Cert.LastReferenceIdeal.sig) → Buf (Elt Ideal) ℓ) (c : Dev Cert.LastIdeal.nD)
    (h0 : m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0))
    (h1 : m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1))
    (h2 : m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2))
    (h3 : m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3))
    (h4 : m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4))
    (h5 : m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5))
    (h6 : m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6))
    (h7 : m' ((c.tc : Thread Cert.LastReferenceIdeal.nD Cert.LastReferenceIdeal.τ).loc Cert.LastReferenceIdeal.main_arg7) = m ((c.tc : Thread Cert.LastIdeal.nD Cert.LastIdeal.τ).loc Cert.LastIdeal.main_arg7))
    (h8 : m' ((c.tc : Thread Cert.LastReferenceIdeal.nD Cert.LastReferenceIdeal.τ).loc Cert.LastReferenceIdeal.main_arg8) = m ((c.tc : Thread Cert.LastIdeal.nD Cert.LastIdeal.τ).loc Cert.LastIdeal.main_arg8))
    (h9 : m' ((c.tc : Thread Cert.LastReferenceIdeal.nD Cert.LastReferenceIdeal.τ).loc Cert.LastReferenceIdeal.main_arg9) = m ((c.tc : Thread Cert.LastIdeal.nD Cert.LastIdeal.τ).loc Cert.LastIdeal.main_arg9))
    : Cert.LastReferenceIdeal.Value.res_main_v40 m' c = Cert.LastIdeal.Value.G11 m c := by
  funext i
  obtain ⟨R, n, rfl⟩ : ∃ (R : Fin 128) (n : Fin 2048), i = ix2 R n := ⟨i 0, i 1, eq_ix2 i⟩
  refine (Last.Reference.result_at m' c R n).trans ?_
  rw [h0, h1, h2, h3, h4, h5, h6, h7, h8, h9]
  exact (Last.result_at m c R n).symm

/-- The last part's result on the sample's rows over the ideal values is the reference's. -/
theorem algebraic_last : Cert.algebraic_LastIdeal_LastReferenceIdeal := fun m g m' g' _ hin =>
  ⟨fun c => Cert.LastIdeal.Value.G11 m c, Cert.LastIdeal.Value.run (F := Ideal) m g,
    (θ_run Cert.LastReferenceIdeal.defs _ _).mono (fun r h c => ⟨(h c).1.trans (by
      obtain ⟨h0, h1, h2, h3, h4, h5, h6, h7, h8, h9⟩ := hin c
      exact last_eq m m' c h0 h1 h2 h3 h4 h5 h6 h7 h8 h9), (h c).2⟩)
      (Cert.LastReferenceIdeal.Value.run (F := Ideal) m' g')⟩

/-! ### The pooling's differences of the sample's rows -/

theorem frame_poolReference : Cert.quiescent_PoolReferenceIdeal := fun m ρ _ =>
  (θ_run Cert.PoolReferenceIdeal.defs _ _).mono (fun r h => ⟨fun c => (h c).2, sem_eq_zero_of_no_sems (by decide) r.2⟩)
    (Cert.PoolReferenceIdeal.Value.run (F := Ideal) m ρ)

/-- The call's array over the ideal values is the reference's, element by element. -/
theorem algebraic_pool : Cert.algebraic_PoolIdeal_PoolReferenceIdeal := fun m g m' g' _ hin =>
  ⟨fun c => fun i => Pool.diff (Pool.hist m c) (Pool.new m c) (i 0) (i 1),
    (θ_run Cert.PoolIdeal.defs _ _).mono (fun r h c => ⟨(h c).1.trans (Pool.array_diff m c), (h c).2⟩) (Cert.PoolIdeal.Value.run_blocks (F := Ideal) m g),
    (θ_run Cert.PoolReferenceIdeal.defs _ _).mono (fun r h c => ⟨(h c).1.trans (by
      obtain ⟨h0, h1⟩ := hin c
      rw [h0, h1]
      funext i
      obtain ⟨R, n, rfl⟩ : ∃ (R : Fin 128) (n : Fin 1024), i = ix2 R n := ⟨i 0, i 1, eq_ix2 i⟩
      exact Pool.Reference.result_at _ _ R n), (h c).2⟩)
      (Cert.PoolReferenceIdeal.Value.run (F := Ideal) m' g')⟩

theorem claim : Cert.Claim :=
  ⟨Cert.Kernel.Gen.facts, Cert.KernelIdeal.Gen.facts, Cert.ReferenceIdeal.Gen.facts, Cert.Post.Gen.facts, Cert.PostIdeal.Gen.facts,
    Cert.PostReferenceIdeal.Gen.facts, Cert.Proj.Gen.facts, Cert.ProjIdeal.Gen.facts, Cert.ProjReferenceIdeal.Gen.facts, Cert.Last.Gen.facts,
      Cert.LastIdeal.Gen.facts, Cert.LastReferenceIdeal.Gen.facts,
      Cert.Pool.Gen.facts, Cert.PoolIdeal.Gen.facts, Cert.PoolReferenceIdeal.Gen.facts,
      Cert.Pre_separated.Gen.facts,
    frame_kernel, fun m g _ => frame_ideal m g, fun m g _ => frame_ideal m g, fun m g _ => frame_reference m g,
    fun m g _ => frame_reference m g, frame_post, frame_postIdeal, frame_postReference,
      fun m g _ => Cert.Proj.Gen.frame (F := Bits) m g, fun m g _ => Cert.ProjIdeal.Gen.frame (F := Ideal) m g, frame_projReference,
      frame_last, frame_lastIdeal, frame_lastReference, fun m g _ => Cert.Pool.Gen.frame (F := Bits) m g,
      fun m g _ => Cert.PoolIdeal.Gen.frame (F := Ideal) m g, frame_poolReference, trivial, algebraic, trivial, algebraic_post, trivial, algebraic_proj, trivial, algebraic_last, trivial, algebraic_pool⟩

end Cert.Proof

end
